-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_in_vocab_finite [hPre_in_vocab_finite : Cert.Pre_in_vocab_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab_finite [hPre_in_vocab_finite : Cert.Pre_in_vocab_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_vocab_finite [hKernelIdeal : Cert.KernelIdeal.Facts] [hPre_in_vocab_finite : Cert.Pre_in_vocab_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocab_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_vocab_finite [hReferenceIdeal : Cert.ReferenceIdeal.Facts] [hPre_in_vocab_finite : Cert.Pre_in_vocab_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_vocab_finite [hKernelIdeal : Cert.KernelIdeal.Facts] [hReferenceIdeal : Cert.ReferenceIdeal.Facts] [hPre_in_vocab_finite : Cert.Pre_in_vocab_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocab_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_in_vocab_finite : Cert.Pre_in_vocab_finite.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_in_vocab_finite (hKernelIdeal := hKernelIdeal) (hPre_in_vocab_finite := hPre_in_vocab_finite)
    ∧ quiescent_ReferenceIdeal (hReferenceIdeal := hReferenceIdeal)
    ∧ quiescent_ReferenceIdeal_pre_in_vocab_finite (hReferenceIdeal := hReferenceIdeal) (hPre_in_vocab_finite := hPre_in_vocab_finite)
    ∧ preserves_Kernel_KernelIdeal
    ∧ algebraic_KernelIdeal_ReferenceIdeal_pre_in_vocab_finite (hKernelIdeal := hKernelIdeal) (hReferenceIdeal := hReferenceIdeal) (hPre_in_vocab_finite := hPre_in_vocab_finite)
-- ==== Pre_in_vocab.lean ====
abbrev S16384x13 : Shape := ⟨2, ![16384, 13]⟩
abbrev S16384x26 : Shape := ⟨2, ![16384, 26]⟩
abbrev S26x100000x16 : Shape := ⟨3, ![26, 100000, 16]⟩
abbrev S429x16 : Shape := ⟨2, ![429, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : FVec F S16384x13 .f32) (main_arg1 : IVec S16384x26 32) (main_arg2 : FVec F S26x100000x16 .f32) (main_arg3 : FVec F S429x16 .f32) (main_arg4 : FVec F S16 .f32) (main_arg5 : FVec F S16x1 .f32) (main_arg6 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg1 main_v0
  let main_c_0 : IVec S_ 32 := constantI S_ 32 100000#32
  let main_v2 : IVec S16384x26 32 := broadcastInDim S16384x26 ![] bcast_S_S16384x26 main_c_0
  let main_v3 : IVec S16384x26 1 := cmpi .slt main_arg1 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Pre_in_vocab_finite.lean ====
abbrev S16384x13 : Shape := ⟨2, ![16384, 13]⟩
abbrev S16384x26 : Shape := ⟨2, ![16384, 26]⟩
abbrev S26x100000x16 : Shape := ⟨3, ![26, 100000, 16]⟩
abbrev S429x16 : Shape := ⟨2, ![429, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel
  bcast_S_S16384x13 : S_.BroadcastsInDim S16384x13 (![] : Fin 0 → Fin S16384x13.rank)
  reducesTo_S16384x13_S_d0_1 : S16384x13.ReducesTo [0, 1] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S429x16 : S_.BroadcastsInDim S429x16 (![] : Fin 0 → Fin S429x16.rank)
  reducesTo_S429x16_S_d0_1 : S429x16.ReducesTo [0, 1] S_
  bcast_S_S16x1 : S_.BroadcastsInDim S16x1 (![] : Fin 0 → Fin S16x1.rank)
  reducesTo_S16x1_S_d0_1 : S16x1.ReducesTo [0, 1] S_

variable [Facts]

def fn_part1 {F : FTy → Type} [FloatOps F] (main_arg5 : FVec F S16x1 .f32) (main_v15 : IVec S_ 1) (main_v16 : FVec F S429x16 .f32) : IVec S_ 1 :=
  let main_cst_5 : FVec F S_ .f32 := constant S_ .f32 0x7F800000#32
  let main_v17 : FVec F S429x16 .f32 := broadcastInDim S429x16 ![] bcast_S_S429x16 main_cst_5
  let main_v18 : IVec S429x16 1 := cmpf .olt main_v16 main_v17
  let main_c_6 : IVec S_ 1 := constantI S_ 1 1#1
  let main_v19 : IVec S_ 1 := (fun x v => Host.reduce IntOp.andi x v reducesTo_S429x16_S_d0_1 h_S_) main_v18 main_c_6
  let main_v20 : IVec S_ 1 := andi main_v15 main_v19
  let main_v21 : FVec F S16x1 .f32 := Host.absf main_arg5
  let main_cst_7 : FVec F S_ .f32 := constant S_ .f32 0x7F800000#32
  let main_v22 : FVec F S16x1 .f32 := broadcastInDim S16x1 ![] bcast_S_S16x1 main_cst_7
  let main_v23 : IVec S16x1 1 := cmpf .olt main_v21 main_v22
  let main_c_8 : IVec S_ 1 := constantI S_ 1 1#1
  let main_v24 : IVec S_ 1 := (fun x v => Host.reduce IntOp.andi x v reducesTo_S16x1_S_d0_1 h_S_) main_v23 main_c_8
  let main_v25 : IVec S_ 1 := andi main_v20 main_v24
  main_v25

def fn {F : FTy → Type} [FloatOps F] (main_arg0 : FVec F S16384x13 .f32) (main_arg1 : IVec S16384x26 32) (main_arg2 : FVec F S26x100000x16 .f32) (main_arg3 : FVec F S429x16 .f32) (main_arg4 : FVec F S16 .f32) (main_arg5 : FVec F S16x1 .f32) (main_arg6 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg1 main_v0
  let main_c_0 : IVec S_ 32 := constantI S_ 32 100000#32
  let main_v2 : IVec S16384x26 32 := broadcastInDim S16384x26 ![] bcast_S_S16384x26 main_c_0
  let main_v3 : IVec S16384x26 1 := cmpi .slt main_arg1 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  let main_v6 : FVec F S16384x13 .f32 := Host.absf main_arg0
  let main_cst : FVec F S_ .f32 := constant S_ .f32 0x7F800000#32
  let main_v7 : FVec F S16384x13 .f32 := broadcastInDim S16384x13 ![] bcast_S_S16384x13 main_cst
  let main_v8 : IVec S16384x13 1 := cmpf .olt main_v6 main_v7
  let main_c_2 : IVec S_ 1 := constantI S_ 1 1#1
  let main_v9 : IVec S_ 1 := (fun x v => Host.reduce IntOp.andi x v reducesTo_S16384x13_S_d0_1 h_S_) main_v8 main_c_2
  let main_v10 : IVec S_ 1 := andi main_v5 main_v9
  let main_v11 : FVec F S26x100000x16 .f32 := Host.absf main_arg2
  let main_cst_3 : FVec F S_ .f32 := constant S_ .f32 0x7F800000#32
  let main_v12 : FVec F S26x100000x16 .f32 := broadcastInDim S26x100000x16 ![] bcast_S_S26x100000x16 main_cst_3
  let main_v13 : IVec S26x100000x16 1 := cmpf .olt main_v11 main_v12
  let main_c_4 : IVec S_ 1 := constantI S_ 1 1#1
  let main_v14 : IVec S_ 1 := (fun x v => Host.reduce IntOp.andi x v reducesTo_S26x100000x16_S_d0_1_2 h_S_) main_v13 main_c_4
  let main_v15 : IVec S_ 1 := andi main_v10 main_v14
  let main_v16 : FVec F S429x16 .f32 := Host.absf main_arg3
  fn_part1 (F := F) main_arg5 main_v15 main_v16
-- ==== Kernel.lean ====
abbrev S16384x13 : Shape := ⟨2, ![16384, 13]⟩
abbrev S16384x26 : Shape := ⟨2, ![16384, 26]⟩
abbrev S26x100000x16 : Shape := ⟨3, ![26, 100000, 16]⟩
abbrev S429x16 : Shape := ⟨2, ![429, 16]⟩
abbrev S16 : Shape := ⟨1, ![16]⟩
abbrev S16x1 : Shape := ⟨2, ![16, 1]⟩
abbrev S1 : Shape := ⟨1, ![1]⟩
abbrev S13x16384 : Shape := ⟨2, ![13, 16384]⟩
abbrev S1x16 : Shape := ⟨2, ![1, 16]⟩
abbrev S1x1 : Shape := ⟨2, ![1, 1]⟩
abbrev S16384 : Shape := ⟨1, ![16384]⟩
abbrev S26x16 : Shape := ⟨2, ![26, 16]⟩
abbrev S429x1 : Shape := ⟨2, ![429, 1]⟩
abbrev S13x1 : Shape := ⟨2, ![13, 1]⟩
abbrev S13 : Shape := ⟨1, ![13]⟩
abbrev S1x13 : Shape := ⟨2, ![1, 13]⟩
abbrev S1x16384 : Shape := ⟨2, ![1, 16384]⟩
abbrev S416x1 : Shape := ⟨2, ![416, 1]⟩
abbrev S416 : Shape := ⟨1, ![416]⟩
abbrev S26x16x100000 : Shape := ⟨3, ![26, 16, 100000]⟩
abbrev S26x16384 : Shape := ⟨2, ![26, 16384]⟩
abbrev S1304576 : Shape := ⟨1, ![1304576]⟩
abbrev S1x16x100000 : Shape := ⟨3, ![1, 16, 100000]⟩
abbrev S100352 : Shape := ⟨1, ![100352]⟩
abbrev S16x100000 : Shape := ⟨2, ![16, 100000]⟩
abbrev S1x100000 : Shape := ⟨2, ![1, 100000]⟩
abbrev S1x352 : Shape := ⟨2, ![1, 352]⟩
abbrev S1x100352 : Shape := ⟨2, ![1, 100352]⟩
abbrev S26x512 : Shape := ⟨2, ![26, 512]⟩
abbrev S13x512 : Shape := ⟨2, ![13, 512]⟩
abbrev S512 : Shape := ⟨1, ![512]⟩
abbrev S_ : Shape := ⟨0, ![]⟩
abbrev S1x128 : Shape := ⟨2, ![1, 128]⟩
abbrev S128 : Shape := ⟨1, ![128]⟩
abbrev S16384x1 : Shape := ⟨2, ![16384, 1]⟩

abbrev nBuf : Table → Nat
  | .hbm => 19
  | .local .tc .vmem => 17
  | .local .scVector .vmem => 10
  | _ => 0

abbrev bufTy : (tb : Table) → Fin (nBuf tb) → BufTy
  | .hbm, ⟨0, _⟩ => ⟨S16384x13, .f32⟩
  | .hbm, ⟨1, _⟩ => ⟨S16384x26, .i32⟩
  | .hbm, ⟨2, _⟩ => ⟨S26x100000x16, .f32⟩
  | .hbm, ⟨3, _⟩ => ⟨S429x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S13x16384, .f32⟩
  | .hbm, ⟨8, _⟩ => ⟨S1x16, .f32⟩
  | .hbm, ⟨9, _⟩ => ⟨S1x1, .f32⟩
  | .hbm, ⟨10, _⟩ => ⟨S16384, .f32⟩
  | .hbm, ⟨11, _⟩ => ⟨S26x16, .f32⟩
  | .hbm, ⟨12, _⟩ => ⟨S26x16x100000, .f32⟩
  | .hbm, ⟨13, _⟩ => ⟨S26x16384, .i32⟩
  | .hbm, ⟨14, _⟩ => ⟨S1304576, .f32⟩
  | .hbm, ⟨15, _⟩ => ⟨S1304576, .f32⟩
  | .hbm, ⟨16, _⟩ => ⟨S16384, .f32⟩
  | .hbm, ⟨17, _⟩ => ⟨S16384, .f32⟩
  | .hbm, ⟨18, _⟩ => ⟨S16384x1, .f32⟩
  | .local .tc .vmem, ⟨0, _⟩ => ⟨S13x16384, .f32⟩
  | .local .tc .vmem, ⟨1, _⟩ => ⟨S429x16, .f32⟩
  | .local .tc .vmem, ⟨2, _⟩ => ⟨S1x16, .f32⟩
  | .local .tc .vmem, ⟨3, _⟩ => ⟨S16x1, .f32⟩
  | .local .tc .vmem, ⟨4, _⟩ => ⟨S1x1, .f32⟩
  | .local .tc .vmem, ⟨5, _⟩ => ⟨S16384, .f32⟩
  | .local .tc .vmem, ⟨6, _⟩ => ⟨S26x16, .f32⟩
  | .local .tc .vmem, ⟨7, _⟩ => ⟨S1x16x100000, .f32⟩
  | .local .tc .vmem, ⟨8, _⟩ => ⟨S1x16x100000, .f32⟩
  | .local .tc .vmem, ⟨9, _⟩ => ⟨S26x16, .f32⟩
  | .local .tc .vmem, ⟨10, _⟩ => ⟨S100352, .f32⟩
  | .local .tc .vmem, ⟨11, _⟩ => ⟨S100352, .f32⟩
  | .local .tc .vmem, ⟨12, _⟩ => ⟨S1x16x100000, .f32⟩
  | .local .tc .vmem, ⟨13, _⟩ => ⟨S1x16x100000, .f32⟩
  | .local .tc .vmem, ⟨14, _⟩ => ⟨S26x16, .f32⟩
  | .local .tc .vmem, ⟨15, _⟩ => ⟨S100352, .f32⟩
  | .local .tc .vmem, ⟨16, _⟩ => ⟨S100352, .f32⟩
  | .local .scVector .vmem, ⟨0, _⟩ => ⟨S26x512, .i32⟩
  | .local .scVector .vmem, ⟨1, _⟩ => ⟨S13x512, .i32⟩
  | .local .scVector .vmem, ⟨2, _⟩ => ⟨S13x512, .f32⟩
  | .local .scVector .vmem, ⟨3, _⟩ => ⟨S512, .f32⟩
  | .local .scVector .vmem, ⟨4, _⟩ => ⟨S512, .f32⟩
  | .local .scVector .vmem, ⟨5, _⟩ => ⟨S26x512, .i32⟩
  | .local .scVector .vmem, ⟨6, _⟩ => ⟨S13x512, .i32⟩
  | .local .scVector .vmem, ⟨7, _⟩ => ⟨S13x512, .f32⟩
  | .local .scVector .vmem, ⟨8, _⟩ => ⟨S512, .f32⟩
  | .local .scVector .vmem, ⟨9, _⟩ => ⟨S512, .f32⟩
  | _, _ => ⟨S16384x13, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v6_scv : Ref sig .scVector := ⟨.hbm, 14, rfl⟩
abbrev main_v5_scv : Ref sig .scVector := ⟨.hbm, 13, rfl⟩
abbrev main_v3_0_scv : Ref sig .scVector := ⟨.hbm, 10, rfl⟩
abbrev main_v8_scv : Ref sig .scVector := ⟨.hbm, 16, rfl⟩
abbrev main_v7_scv : Ref sig .scVector := ⟨.hbm, 15, rfl⟩
abbrev main_v9_scv : Ref sig .scVector := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_scratch0 : Ref sig .scVector := ⟨.vmem, 0, rfl⟩
abbrev cc3_scratch1 : Ref sig .scVector := ⟨.vmem, 1, rfl⟩
abbrev cc3_scratch2 : Ref sig .scVector := ⟨.vmem, 2, rfl⟩
abbrev cc3_scratch3 : Ref sig .scVector := ⟨.vmem, 3, rfl⟩
abbrev cc3_scratch4 : Ref sig .scVector := ⟨.vmem, 4, rfl⟩
abbrev cc4_scratch0 : Ref sig .scVector := ⟨.vmem, 5, rfl⟩
abbrev cc4_scratch1 : Ref sig .scVector := ⟨.vmem, 6, rfl⟩
abbrev cc4_scratch2 : Ref sig .scVector := ⟨.vmem, 7, rfl⟩
abbrev cc4_scratch3 : Ref sig .scVector := ⟨.vmem, 8, rfl⟩
abbrev cc4_scratch4 : Ref sig .scVector := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S13x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S429x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S26x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![13], ![false]⟩

def k1_off1 (i : grid1.Coords) : Fin 2 → Nat :=
  let arg0 : BitVec 32 := BitVec.ofNat 32 (i 0).val
  let c0_i32 : BitVec 32 := 0#32
  let v0 : BitVec 32 := Scalar.addi arg0 c0_i32
  let v4 : Index := Scalar.indexCast v0
  let c0_2 : Index := 0#32
  ![v4.toNat, 0]
def cc1_transform_0 (i : grid1.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S1x16x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S26x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S100352 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![13], ![false]⟩

def k2_off1 (i : grid2.Coords) : Fin 2 → Nat :=
  let arg0 : BitVec 32 := BitVec.ofNat 32 (i 0).val
  let c13_i32 : BitVec 32 := 13#32
  let v0 : BitVec 32 := Scalar.addi arg0 c13_i32
  let v4 : Index := Scalar.indexCast v0
  let c0_2 : Index := 0#32
  ![v4.toNat, 0]
def cc2_transform_0 (i : grid2.Coords) : Fin 3 → Nat :=
  let arg0 : BitVec 32 := BitVec.ofNat 32 (i 0).val
  let c13_i32 : BitVec 32 := 13#32
  let v0 : BitVec 32 := Scalar.addi arg0 c13_i32
  let c0_i32 : BitVec 32 := 0#32
  let c0_i32_0 : BitVec 32 := 0#32
  let c0_i32_1 : BitVec 32 := 0#32
  ![v0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S1x16x100000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S26x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S100352 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 16], ![false, false]⟩

def k3_off1 (i : grid3.Coords) : Fin 2 → Nat :=
  let c0_i32_514_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k3_off2 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k3_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k3_off3 (k3_t1 : Fin k3_t1_loop.trips) : Fin 2 → Nat :=
  let c0_i32_514 : BitVec 32 := 0#32
  let v528 : Index := Scalar.indexCast c0_i32_514
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v529 : Index := Scalar.indexCast v527
  ![0, v529.toNat]
def k3_off4 (k3_t1 : Fin k3_t1_loop.trips) : Fin 2 → Nat :=
  let c0_i32_516 : BitVec 32 := 0#32
  let v534 : Index := Scalar.indexCast c0_i32_516
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v535 : Index := Scalar.indexCast v527
  ![0, v535.toNat]
def k3_off5 (k3_t1 : Fin k3_t1_loop.trips) : Fin 2 → Nat :=
  let c1_i32_517 : BitVec 32 := 1#32
  let v539 : Index := Scalar.indexCast c1_i32_517
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v540 : Index := Scalar.indexCast v527
  ![1, v540.toNat]
def k3_off6 (k3_t1 : Fin k3_t1_loop.trips) : Fin 2 → Nat :=
  let c1_i32_518 : BitVec 32 := 1#32
  let v545 : Index := Scalar.indexCast c1_i32_518
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v546 : Index := Scalar.indexCast v527
  ![1, v546.toNat]
def k3_off7 (k3_t1 : Fin k3_t1_loop.trips) : Fin 2 → Nat :=
  let c2_i32_519 : BitVec 32 := 2#32
  let v550 : Index := Scalar.indexCast c2_i32_519
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v551 : Index := Scalar.indexCast v527
  ![2, v551.toNat]
def k3_off8 (k3_t1 : Fin k3_t1_loop.trips) : Fin 2 → Nat :=
  let c2_i32_520 : BitVec 32 := 2#32
  let v556 : Index := Scalar.indexCast c2_i32_520
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v557 : Index := Scalar.indexCast v527
  ![2, v557.toNat]
def k3_off9 (k3_t1 : Fin k3_t1_loop.trips) : Fin 2 → Nat :=
  let c3_i32_521 : BitVec 32 := 3#32
  let v561 : Index := Scalar.indexCast c3_i32_521
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v562 : Index := Scalar.indexCast v527
  ![3, v562.toNat]
def k3_off10 (k3_t1 : Fin k3_t1_loop.trips) : Fin 2 → Nat :=
  let c3_i32_522 : BitVec 32 := 3#32
  let v567 : Index := Scalar.indexCast c3_i32_522
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v568 : Index := Scalar.indexCast v527
  ![3, v568.toNat]
def k3_off11 (k3_t1 : Fin k3_t1_loop.trips) : Fin 2 → Nat :=
  let c4_i32_523 : BitVec 32 := 4#32
  let v572 : Index := Scalar.indexCast c4_i32_523
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v573 : Index := Scalar.indexCast v527
  ![4, v573.toNat]
def k3_off12 (k3_t1 : Fin k3_t1_loop.trips) : Fin 2 → Nat :=
  let c4_i32_524 : BitVec 32 := 4#32
  let v578 : Index := Scalar.indexCast c4_i32_524
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v579 : Index := Scalar.indexCast v527
  ![4, v579.toNat]
def k3_off13 (k3_t1 : Fin k3_t1_loop.trips) : Fin 2 → Nat :=
  let c5_i32_525 : BitVec 32 := 5#32
  let v583 : Index := Scalar.indexCast c5_i32_525
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v584 : Index := Scalar.indexCast v527
  ![5, v584.toNat]
def k3_off14 (k3_t1 : Fin k3_t1_loop.trips) : Fin 2 → Nat :=
  let c5_i32_526 : BitVec 32 := 5#32
  let v589 : Index := Scalar.indexCast c5_i32_526
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v590 : Index := Scalar.indexCast v527
  ![5, v590.toNat]
def k3_off15 (k3_t1 : Fin k3_t1_loop.trips) : Fin 2 → Nat :=
  let c6_i32_527 : BitVec 32 := 6#32
  let v594 : Index := Scalar.indexCast c6_i32_527
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v595 : Index := Scalar.indexCast v527
  ![6, v595.toNat]
def k3_off16 (k3_t1 : Fin k3_t1_loop.trips) : Fin 2 → Nat :=
  let c6_i32_528 : BitVec 32 := 6#32
  let v600 : Index := Scalar.indexCast c6_i32_528
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v601 : Index := Scalar.indexCast v527
  ![6, v601.toNat]
def k3_off17 (k3_t1 : Fin k3_t1_loop.trips) : Fin 2 → Nat :=
  let c7_i32_529 : BitVec 32 := 7#32
  let v605 : Index := Scalar.indexCast c7_i32_529
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v606 : Index := Scalar.indexCast v527
  ![7, v606.toNat]
def k3_off18 (k3_t1 : Fin k3_t1_loop.trips) : Fin 2 → Nat :=
  let c7_i32_530 : BitVec 32 := 7#32
  let v611 : Index := Scalar.indexCast c7_i32_530
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v612 : Index := Scalar.indexCast v527
  ![7, v612.toNat]
def k3_off19 (k3_t1 : Fin k3_t1_loop.trips) : Fin 2 → Nat :=
  let c8_i32_531 : BitVec 32 := 8#32
  let v616 : Index := Scalar.indexCast c8_i32_531
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v617 : Index := Scalar.indexCast v527
  ![8, v617.toNat]
def k3_off20 (k3_t1 : Fin k3_t1_loop.trips) : Fin 2 → Nat :=
  let c8_i32_532 : BitVec 32 := 8#32
  let v622 : Index := Scalar.indexCast c8_i32_532
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v623 : Index := Scalar.indexCast v527
  ![8, v623.toNat]
def k3_off21 (k3_t1 : Fin k3_t1_loop.trips) : Fin 2 → Nat :=
  let c9_i32_533 : BitVec 32 := 9#32
  let v627 : Index := Scalar.indexCast c9_i32_533
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v628 : Index := Scalar.indexCast v527
  ![9, v628.toNat]
def k3_off22 (k3_t1 : Fin k3_t1_loop.trips) : Fin 2 → Nat :=
  let c9_i32_534 : BitVec 32 := 9#32
  let v633 : Index := Scalar.indexCast c9_i32_534
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v634 : Index := Scalar.indexCast v527
  ![9, v634.toNat]
def k3_off23 (k3_t1 : Fin k3_t1_loop.trips) : Fin 2 → Nat :=
  let c10_i32_535 : BitVec 32 := 10#32
  let v638 : Index := Scalar.indexCast c10_i32_535
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v639 : Index := Scalar.indexCast v527
  ![10, v639.toNat]
def k3_off24 (k3_t1 : Fin k3_t1_loop.trips) : Fin 2 → Nat :=
  let c10_i32_536 : BitVec 32 := 10#32
  let v644 : Index := Scalar.indexCast c10_i32_536
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v645 : Index := Scalar.indexCast v527
  ![10, v645.toNat]
def k3_off25 (k3_t1 : Fin k3_t1_loop.trips) : Fin 2 → Nat :=
  let c11_i32_537 : BitVec 32 := 11#32
  let v649 : Index := Scalar.indexCast c11_i32_537
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v650 : Index := Scalar.indexCast v527
  ![11, v650.toNat]
def k3_off26 (k3_t1 : Fin k3_t1_loop.trips) : Fin 2 → Nat :=
  let c11_i32_538 : BitVec 32 := 11#32
  let v655 : Index := Scalar.indexCast c11_i32_538
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v656 : Index := Scalar.indexCast v527
  ![11, v656.toNat]
def k3_off27 (k3_t1 : Fin k3_t1_loop.trips) : Fin 2 → Nat :=
  let c12_i32_539 : BitVec 32 := 12#32
  let v660 : Index := Scalar.indexCast c12_i32_539
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v661 : Index := Scalar.indexCast v527
  ![12, v661.toNat]
def k3_off28 (k3_t1 : Fin k3_t1_loop.trips) : Fin 2 → Nat :=
  let c12_i32_540 : BitVec 32 := 12#32
  let v666 : Index := Scalar.indexCast c12_i32_540
  let c0_i32_0 : BitVec 32 := 0#32
  let c1_i32 : BitVec 32 := 1#32
  let arg12 : BitVec 32 := Scf.iv c0_i32_0 c1_i32 k3_t1
  let c16_i32 : BitVec 32 := 16#32
  let v527 : BitVec 32 := Scalar.muli arg12 c16_i32
  let v667 : Index := Scalar.indexCast v527
  ![12, v667.toNat]
@[reducible] def k3_t2_loop : Scf.Loop 32 :=
  let c0_i32_510 : BitVec 32 := 0#32
  let c32_i32_511 : BitVec 32 := 32#32
  let v525 : BitVec 32 := Scalar.addi c0_i32_510 c32_i32_511
  let c1_i32_512 : BitVec 32 := 1#32
  ⟨c0_i32_510, v525, c1_i32_512⟩
def k3_off29 (k3_t2 : Fin k3_t2_loop.trips) : Fin 2 → Nat :=
  let c0_i32_514 : BitVec 32 := 0#32
  let v528 : Index := Scalar.indexCast c0_i32_514
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v529 : Index := Scalar.indexCast v527
  ![0, v529.toNat]
def k3_off30 (k3_t2 : Fin k3_t2_loop.trips) : Fin 2 → Nat :=
  let c1_i32_515 : BitVec 32 := 1#32
  let v532 : Index := Scalar.indexCast c1_i32_515
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v533 : Index := Scalar.indexCast v527
  ![1, v533.toNat]
def k3_off31 (k3_t2 : Fin k3_t2_loop.trips) : Fin 2 → Nat :=
  let c2_i32_516 : BitVec 32 := 2#32
  let v536 : Index := Scalar.indexCast c2_i32_516
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v537 : Index := Scalar.indexCast v527
  ![2, v537.toNat]
def k3_off32 (k3_t2 : Fin k3_t2_loop.trips) : Fin 2 → Nat :=
  let c3_i32_517 : BitVec 32 := 3#32
  let v540 : Index := Scalar.indexCast c3_i32_517
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v541 : Index := Scalar.indexCast v527
  ![3, v541.toNat]
def k3_off33 (k3_t2 : Fin k3_t2_loop.trips) : Fin 2 → Nat :=
  let c4_i32_518 : BitVec 32 := 4#32
  let v544 : Index := Scalar.indexCast c4_i32_518
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v545 : Index := Scalar.indexCast v527
  ![4, v545.toNat]
def k3_off34 (k3_t2 : Fin k3_t2_loop.trips) : Fin 2 → Nat :=
  let c5_i32_519 : BitVec 32 := 5#32
  let v548 : Index := Scalar.indexCast c5_i32_519
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v549 : Index := Scalar.indexCast v527
  ![5, v549.toNat]
def k3_off35 (k3_t2 : Fin k3_t2_loop.trips) : Fin 2 → Nat :=
  let c6_i32_520 : BitVec 32 := 6#32
  let v552 : Index := Scalar.indexCast c6_i32_520
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v553 : Index := Scalar.indexCast v527
  ![6, v553.toNat]
def k3_off36 (k3_t2 : Fin k3_t2_loop.trips) : Fin 2 → Nat :=
  let c7_i32_521 : BitVec 32 := 7#32
  let v556 : Index := Scalar.indexCast c7_i32_521
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v557 : Index := Scalar.indexCast v527
  ![7, v557.toNat]
def k3_off37 (k3_t2 : Fin k3_t2_loop.trips) : Fin 2 → Nat :=
  let c8_i32_522 : BitVec 32 := 8#32
  let v560 : Index := Scalar.indexCast c8_i32_522
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v561 : Index := Scalar.indexCast v527
  ![8, v561.toNat]
def k3_off38 (k3_t2 : Fin k3_t2_loop.trips) : Fin 2 → Nat :=
  let c9_i32_523 : BitVec 32 := 9#32
  let v564 : Index := Scalar.indexCast c9_i32_523
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v565 : Index := Scalar.indexCast v527
  ![9, v565.toNat]
def k3_off39 (k3_t2 : Fin k3_t2_loop.trips) : Fin 2 → Nat :=
  let c10_i32_524 : BitVec 32 := 10#32
  let v568 : Index := Scalar.indexCast c10_i32_524
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v569 : Index := Scalar.indexCast v527
  ![10, v569.toNat]
def k3_off40 (k3_t2 : Fin k3_t2_loop.trips) : Fin 2 → Nat :=
  let c11_i32_525 : BitVec 32 := 11#32
  let v572 : Index := Scalar.indexCast c11_i32_525
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v573 : Index := Scalar.indexCast v527
  ![11, v573.toNat]
def k3_off41 (k3_t2 : Fin k3_t2_loop.trips) : Fin 2 → Nat :=
  let c12_i32_526 : BitVec 32 := 12#32
  let v576 : Index := Scalar.indexCast c12_i32_526
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v577 : Index := Scalar.indexCast v527
  ![12, v577.toNat]
def k3_off42 (k3_t2 : Fin k3_t2_loop.trips) : Fin 1 → Nat :=
  let c0_i32_510 : BitVec 32 := 0#32
  let c1_i32_512 : BitVec 32 := 1#32
  let arg12 : BitVec 32 := Scf.iv c0_i32_510 c1_i32_512 k3_t2
  let c16_i32 : BitVec 32 := 16#32
  let v527 : BitVec 32 := Scalar.muli arg12 c16_i32
  let v592 : Index := Scalar.indexCast v527
  ![v592.toNat]
abbrev grid4 : Pipeline.Grid := ⟨2, ![2, 16], ![false, false]⟩

def k4_off1 (i : grid4.Coords) : Fin 2 → Nat :=
  let c0_i32_514_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k4_off2 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k4_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k4_off3 (k4_t1 : Fin k4_t1_loop.trips) : Fin 2 → Nat :=
  let c13_i32 : BitVec 32 := 13#32
  let v528 : Index := Scalar.indexCast c13_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v529 : Index := Scalar.indexCast v527
  ![13, v529.toNat]
def k4_off4 (k4_t1 : Fin k4_t1_loop.trips) : Fin 2 → Nat :=
  let c0_i32_515 : BitVec 32 := 0#32
  let v534 : Index := Scalar.indexCast c0_i32_515
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v535 : Index := Scalar.indexCast v527
  ![0, v535.toNat]
def k4_off5 (k4_t1 : Fin k4_t1_loop.trips) : Fin 2 → Nat :=
  let c14_i32 : BitVec 32 := 14#32
  let v539 : Index := Scalar.indexCast c14_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v540 : Index := Scalar.indexCast v527
  ![14, v540.toNat]
def k4_off6 (k4_t1 : Fin k4_t1_loop.trips) : Fin 2 → Nat :=
  let c1_i32_516 : BitVec 32 := 1#32
  let v545 : Index := Scalar.indexCast c1_i32_516
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v546 : Index := Scalar.indexCast v527
  ![1, v546.toNat]
def k4_off7 (k4_t1 : Fin k4_t1_loop.trips) : Fin 2 → Nat :=
  let c15_i32 : BitVec 32 := 15#32
  let v550 : Index := Scalar.indexCast c15_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v551 : Index := Scalar.indexCast v527
  ![15, v551.toNat]
def k4_off8 (k4_t1 : Fin k4_t1_loop.trips) : Fin 2 → Nat :=
  let c2_i32_517 : BitVec 32 := 2#32
  let v556 : Index := Scalar.indexCast c2_i32_517
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v557 : Index := Scalar.indexCast v527
  ![2, v557.toNat]
def k4_off9 (k4_t1 : Fin k4_t1_loop.trips) : Fin 2 → Nat :=
  let c16_i32_518 : BitVec 32 := 16#32
  let v561 : Index := Scalar.indexCast c16_i32_518
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v562 : Index := Scalar.indexCast v527
  ![16, v562.toNat]
def k4_off10 (k4_t1 : Fin k4_t1_loop.trips) : Fin 2 → Nat :=
  let c3_i32_519 : BitVec 32 := 3#32
  let v567 : Index := Scalar.indexCast c3_i32_519
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v568 : Index := Scalar.indexCast v527
  ![3, v568.toNat]
def k4_off11 (k4_t1 : Fin k4_t1_loop.trips) : Fin 2 → Nat :=
  let c17_i32 : BitVec 32 := 17#32
  let v572 : Index := Scalar.indexCast c17_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v573 : Index := Scalar.indexCast v527
  ![17, v573.toNat]
def k4_off12 (k4_t1 : Fin k4_t1_loop.trips) : Fin 2 → Nat :=
  let c4_i32_520 : BitVec 32 := 4#32
  let v578 : Index := Scalar.indexCast c4_i32_520
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v579 : Index := Scalar.indexCast v527
  ![4, v579.toNat]
def k4_off13 (k4_t1 : Fin k4_t1_loop.trips) : Fin 2 → Nat :=
  let c18_i32 : BitVec 32 := 18#32
  let v583 : Index := Scalar.indexCast c18_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v584 : Index := Scalar.indexCast v527
  ![18, v584.toNat]
def k4_off14 (k4_t1 : Fin k4_t1_loop.trips) : Fin 2 → Nat :=
  let c5_i32_521 : BitVec 32 := 5#32
  let v589 : Index := Scalar.indexCast c5_i32_521
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v590 : Index := Scalar.indexCast v527
  ![5, v590.toNat]
def k4_off15 (k4_t1 : Fin k4_t1_loop.trips) : Fin 2 → Nat :=
  let c19_i32 : BitVec 32 := 19#32
  let v594 : Index := Scalar.indexCast c19_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v595 : Index := Scalar.indexCast v527
  ![19, v595.toNat]
def k4_off16 (k4_t1 : Fin k4_t1_loop.trips) : Fin 2 → Nat :=
  let c6_i32_522 : BitVec 32 := 6#32
  let v600 : Index := Scalar.indexCast c6_i32_522
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v601 : Index := Scalar.indexCast v527
  ![6, v601.toNat]
def k4_off17 (k4_t1 : Fin k4_t1_loop.trips) : Fin 2 → Nat :=
  let c20_i32 : BitVec 32 := 20#32
  let v605 : Index := Scalar.indexCast c20_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v606 : Index := Scalar.indexCast v527
  ![20, v606.toNat]
def k4_off18 (k4_t1 : Fin k4_t1_loop.trips) : Fin 2 → Nat :=
  let c7_i32_523 : BitVec 32 := 7#32
  let v611 : Index := Scalar.indexCast c7_i32_523
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v612 : Index := Scalar.indexCast v527
  ![7, v612.toNat]
def k4_off19 (k4_t1 : Fin k4_t1_loop.trips) : Fin 2 → Nat :=
  let c21_i32 : BitVec 32 := 21#32
  let v616 : Index := Scalar.indexCast c21_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v617 : Index := Scalar.indexCast v527
  ![21, v617.toNat]
def k4_off20 (k4_t1 : Fin k4_t1_loop.trips) : Fin 2 → Nat :=
  let c8_i32_524 : BitVec 32 := 8#32
  let v622 : Index := Scalar.indexCast c8_i32_524
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v623 : Index := Scalar.indexCast v527
  ![8, v623.toNat]
def k4_off21 (k4_t1 : Fin k4_t1_loop.trips) : Fin 2 → Nat :=
  let c22_i32 : BitVec 32 := 22#32
  let v627 : Index := Scalar.indexCast c22_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v628 : Index := Scalar.indexCast v527
  ![22, v628.toNat]
def k4_off22 (k4_t1 : Fin k4_t1_loop.trips) : Fin 2 → Nat :=
  let c9_i32_525 : BitVec 32 := 9#32
  let v633 : Index := Scalar.indexCast c9_i32_525
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v634 : Index := Scalar.indexCast v527
  ![9, v634.toNat]
def k4_off23 (k4_t1 : Fin k4_t1_loop.trips) : Fin 2 → Nat :=
  let c23_i32 : BitVec 32 := 23#32
  let v638 : Index := Scalar.indexCast c23_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v639 : Index := Scalar.indexCast v527
  ![23, v639.toNat]
def k4_off24 (k4_t1 : Fin k4_t1_loop.trips) : Fin 2 → Nat :=
  let c10_i32_526 : BitVec 32 := 10#32
  let v644 : Index := Scalar.indexCast c10_i32_526
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v645 : Index := Scalar.indexCast v527
  ![10, v645.toNat]
def k4_off25 (k4_t1 : Fin k4_t1_loop.trips) : Fin 2 → Nat :=
  let c24_i32 : BitVec 32 := 24#32
  let v649 : Index := Scalar.indexCast c24_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v650 : Index := Scalar.indexCast v527
  ![24, v650.toNat]
def k4_off26 (k4_t1 : Fin k4_t1_loop.trips) : Fin 2 → Nat :=
  let c11_i32_527 : BitVec 32 := 11#32
  let v655 : Index := Scalar.indexCast c11_i32_527
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v656 : Index := Scalar.indexCast v527
  ![11, v656.toNat]
def k4_off27 (k4_t1 : Fin k4_t1_loop.trips) : Fin 2 → Nat :=
  let c25_i32 : BitVec 32 := 25#32
  let v660 : Index := Scalar.indexCast c25_i32
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v661 : Index := Scalar.indexCast v527
  ![25, v661.toNat]
def k4_off28 (k4_t1 : Fin k4_t1_loop.trips) : Fin 2 → Nat :=
  let c12_i32_528 : BitVec 32 := 12#32
  let v666 : Index := Scalar.indexCast c12_i32_528
  let c0_i32_0 : BitVec 32 := 0#32
  let c1_i32 : BitVec 32 := 1#32
  let arg12 : BitVec 32 := Scf.iv c0_i32_0 c1_i32 k4_t1
  let c16_i32 : BitVec 32 := 16#32
  let v527 : BitVec 32 := Scalar.muli arg12 c16_i32
  let v667 : Index := Scalar.indexCast v527
  ![12, v667.toNat]
@[reducible] def k4_t2_loop : Scf.Loop 32 :=
  let c0_i32_510 : BitVec 32 := 0#32
  let c32_i32_511 : BitVec 32 := 32#32
  let v525 : BitVec 32 := Scalar.addi c0_i32_510 c32_i32_511
  let c1_i32_512 : BitVec 32 := 1#32
  ⟨c0_i32_510, v525, c1_i32_512⟩
def k4_off29 (k4_t2 : Fin k4_t2_loop.trips) : Fin 2 → Nat :=
  let c0_i32_514 : BitVec 32 := 0#32
  let v528 : Index := Scalar.indexCast c0_i32_514
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v529 : Index := Scalar.indexCast v527
  ![0, v529.toNat]
def k4_off30 (k4_t2 : Fin k4_t2_loop.trips) : Fin 2 → Nat :=
  let c1_i32_515 : BitVec 32 := 1#32
  let v532 : Index := Scalar.indexCast c1_i32_515
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v533 : Index := Scalar.indexCast v527
  ![1, v533.toNat]
def k4_off31 (k4_t2 : Fin k4_t2_loop.trips) : Fin 2 → Nat :=
  let c2_i32_516 : BitVec 32 := 2#32
  let v536 : Index := Scalar.indexCast c2_i32_516
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v537 : Index := Scalar.indexCast v527
  ![2, v537.toNat]
def k4_off32 (k4_t2 : Fin k4_t2_loop.trips) : Fin 2 → Nat :=
  let c3_i32_517 : BitVec 32 := 3#32
  let v540 : Index := Scalar.indexCast c3_i32_517
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v541 : Index := Scalar.indexCast v527
  ![3, v541.toNat]
def k4_off33 (k4_t2 : Fin k4_t2_loop.trips) : Fin 2 → Nat :=
  let c4_i32_518 : BitVec 32 := 4#32
  let v544 : Index := Scalar.indexCast c4_i32_518
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v545 : Index := Scalar.indexCast v527
  ![4, v545.toNat]
def k4_off34 (k4_t2 : Fin k4_t2_loop.trips) : Fin 2 → Nat :=
  let c5_i32_519 : BitVec 32 := 5#32
  let v548 : Index := Scalar.indexCast c5_i32_519
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v549 : Index := Scalar.indexCast v527
  ![5, v549.toNat]
def k4_off35 (k4_t2 : Fin k4_t2_loop.trips) : Fin 2 → Nat :=
  let c6_i32_520 : BitVec 32 := 6#32
  let v552 : Index := Scalar.indexCast c6_i32_520
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v553 : Index := Scalar.indexCast v527
  ![6, v553.toNat]
def k4_off36 (k4_t2 : Fin k4_t2_loop.trips) : Fin 2 → Nat :=
  let c7_i32_521 : BitVec 32 := 7#32
  let v556 : Index := Scalar.indexCast c7_i32_521
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v557 : Index := Scalar.indexCast v527
  ![7, v557.toNat]
def k4_off37 (k4_t2 : Fin k4_t2_loop.trips) : Fin 2 → Nat :=
  let c8_i32_522 : BitVec 32 := 8#32
  let v560 : Index := Scalar.indexCast c8_i32_522
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v561 : Index := Scalar.indexCast v527
  ![8, v561.toNat]
def k4_off38 (k4_t2 : Fin k4_t2_loop.trips) : Fin 2 → Nat :=
  let c9_i32_523 : BitVec 32 := 9#32
  let v564 : Index := Scalar.indexCast c9_i32_523
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v565 : Index := Scalar.indexCast v527
  ![9, v565.toNat]
def k4_off39 (k4_t2 : Fin k4_t2_loop.trips) : Fin 2 → Nat :=
  let c10_i32_524 : BitVec 32 := 10#32
  let v568 : Index := Scalar.indexCast c10_i32_524
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v569 : Index := Scalar.indexCast v527
  ![10, v569.toNat]
def k4_off40 (k4_t2 : Fin k4_t2_loop.trips) : Fin 2 → Nat :=
  let c11_i32_525 : BitVec 32 := 11#32
  let v572 : Index := Scalar.indexCast c11_i32_525
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v573 : Index := Scalar.indexCast v527
  ![11, v573.toNat]
def k4_off41 (k4_t2 : Fin k4_t2_loop.trips) : Fin 2 → Nat :=
  let c12_i32_526 : BitVec 32 := 12#32
  let v576 : Index := Scalar.indexCast c12_i32_526
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v577 : Index := Scalar.indexCast v527
  ![12, v577.toNat]
def k4_off42 (k4_t2 : Fin k4_t2_loop.trips) : Fin 1 → Nat :=
  let c0_i32_510 : BitVec 32 := 0#32
  let c1_i32_512 : BitVec 32 := 1#32
  let arg12 : BitVec 32 := Scf.iv c0_i32_510 c1_i32_512 k4_t2
  let c16_i32 : BitVec 32 := 16#32
  let v527 : BitVec 32 := Scalar.muli arg12 c16_i32
  let v592 : Index := Scalar.indexCast v527
  ![v592.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x13 : Shape := ⟨2, ![16384, 13]⟩
abbrev S16384x26 : Shape := ⟨2, ![16384, 26]⟩
abbrev S26x100000x16 : Shape := ⟨3, ![26, 100000, 16]⟩
abbrev S429x16 : Shape := ⟨2, ![429, 16]⟩
abbrev S16 : Shape := ⟨1, ![16]⟩
abbrev S16x1 : Shape := ⟨2, ![16, 1]⟩
abbrev S1 : Shape := ⟨1, ![1]⟩
abbrev S_ : Shape := ⟨0, ![]⟩
abbrev S26x16384 : Shape := ⟨2, ![26, 16384]⟩
abbrev S26x16384x1 : Shape := ⟨3, ![26, 16384, 1]⟩
abbrev S1x1x1 : Shape := ⟨3, ![1, 1, 1]⟩
abbrev S26x16384x16 : Shape := ⟨3, ![26, 16384, 16]⟩
abbrev S16384x26x16 : Shape := ⟨3, ![16384, 26, 16]⟩
abbrev S16384x416 : Shape := ⟨2, ![16384, 416]⟩
abbrev S16384x429 : Shape := ⟨2, ![16384, 429]⟩
abbrev S16384x16 : Shape := ⟨2, ![16384, 16]⟩
abbrev S1x16 : Shape := ⟨2, ![1, 16]⟩
abbrev S16384x1 : Shape := ⟨2, ![16384, 1]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x100000x16, .f32⟩
  | .hbm, ⟨3, _⟩ => ⟨S429x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S_, .i32⟩
  | .hbm, ⟨8, _⟩ => ⟨S16384x26, .i32⟩
  | .hbm, ⟨9, _⟩ => ⟨S16384x26, .i1⟩
  | .hbm, ⟨10, _⟩ => ⟨S_, .i32⟩
  | .hbm, ⟨11, _⟩ => ⟨S16384x26, .i32⟩
  | .hbm, ⟨12, _⟩ => ⟨S16384x26, .i32⟩
  | .hbm, ⟨13, _⟩ => ⟨S16384x26, .i32⟩
  | .hbm, ⟨14, _⟩ => ⟨S26x16384, .i32⟩
  | .hbm, ⟨15, _⟩ => ⟨S26x16384x1, .i32⟩
  | .hbm, ⟨16, _⟩ => ⟨S1, .i32⟩
  | .hbm, ⟨17, _⟩ => ⟨S_, .i32⟩
  | .hbm, ⟨18, _⟩ => ⟨S26x16384x1, .i32⟩
  | .hbm, ⟨19, _⟩ => ⟨S26x16384x1, .i1⟩
  | .hbm, ⟨20, _⟩ => ⟨S1x1x1, .i32⟩
  | .hbm, ⟨21, _⟩ => ⟨S26x16384x1, .i32⟩
  | .hbm, ⟨22, _⟩ => ⟨S26x16384x1, .i1⟩
  | .hbm, ⟨23, _⟩ => ⟨S26x16384x1, .i1⟩
  | .hbm, ⟨24, _⟩ => ⟨S_, .i1⟩
  | .hbm, ⟨25, _⟩ => ⟨S26x16384, .i1⟩
  | .hbm, ⟨26, _⟩ => ⟨S26x16384x16, .f32⟩
  | .hbm, ⟨27, _⟩ => ⟨S26x16384x16, .i1⟩
  | .hbm, ⟨28, _⟩ => ⟨S_, .f32⟩
  | .hbm, ⟨29, _⟩ => ⟨S26x16384x16, .f32⟩
  | .hbm, ⟨30, _⟩ => ⟨S26x16384x16, .f32⟩
  | .hbm, ⟨31, _⟩ => ⟨S16384x26x16, .f32⟩
  | .hbm, ⟨32, _⟩ => ⟨S16384x416, .f32⟩
  | .hbm, ⟨33, _⟩ => ⟨S16384x429, .f32⟩
  | .hbm, ⟨34, _⟩ => ⟨S16384x16, .f32⟩
  | .hbm, ⟨35, _⟩ => ⟨S1x16, .f32⟩
  | .hbm, ⟨36, _⟩ => ⟨S16384x16, .f32⟩
  | .hbm, ⟨37, _⟩ => ⟨S16384x16, .f32⟩
  | .hbm, ⟨38, _⟩ => ⟨S16384x1, .f32⟩
  | .hbm, ⟨39, _⟩ => ⟨S1x1, .f32⟩
  | .hbm, ⟨40, _⟩ => ⟨S16384x1, .f32⟩
  | .hbm, ⟨41, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_c_1 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_3 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_cst : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩

abbrev nD : Nat := 1
abbrev τ : Topo := Topo.v7x

variable {F : FTy → Type} [FloatOps F]
-- ==== Proof.GatherBatch.lean ====
/-
  A counted batch of indirect gathers on ONE semaphore. Each gather moves as many rows as its list has entries, and
  every row credits the semaphore by the same amount, so the rows of all the gathers are the transfers of one
  `Transfers.Batch`: a gather of `o` rows takes the batch from `j` rows issued to `j + o`. The waits consume any
  multiple of a row's credit, and the last one hands every row back.
-/
module

public import Idealize.ShloMosaic.Lib.SparseCore.Ops
public import Idealize.ShloMosaic.Lib.SparseCore.Stream
public import Idealize.ShloMosaic.Lib.Batch

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- What is pending from `j` on is the next `o` and what is pending from `j + o` on. -/
theorem bigSep_pending_add {n : ℕ} (Φ : Fin n → sProp 𝕄) (o : ℕ) : ∀ (j : ℕ) (h : j + o ≤ n),
    bigSep (pending j) Φ = iprop((bigSep Finset.univ fun i : Fin o => Φ ⟨j + i.val, by omega⟩) ∗ bigSep (pending (j + o)) Φ) := by
  induction o with
  | zero =>
    intro j h
    rw [Finset.univ_eq_empty, BI.bigSep_empty, Nat.add_zero]
    exact BI.Entails.antisymm BI.emp_sep.2 BI.emp_sep.1
  | succ o ih =>
    intro j h
    have e : (fun i : Fin o => Φ ⟨j + i.succ.val, by omega⟩) = fun i : Fin o => Φ ⟨j + 1 + i.val, by omega⟩ :=
      funext fun i => congrArg Φ (Fin.ext (by simp only [Fin.val_succ]; omega))
    have e' : pending (n := n) (j + 1 + o) = pending (j + (o + 1)) := congrArg pending (by omega)
    rw [pending_succ (by omega : j < n), BI.bigSep_insert (not_mem_pending_succ _), ih (j + 1) (by omega),
      bigSep_univ_succ (m := o), e, e', show ∀ A B C : sProp 𝕄, iprop((A ∗ B) ∗ C) = iprop(A ∗ B ∗ C) from
        fun A B C => BI.Entails.antisymm BI.sep_assoc BI.sep_assoc']
    rfl

section Rule

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The list's entries by position. -/
def entryOf {o : ℕ} (si : Shape) (hn : si.numel = o) (k : Fin o) : si.Idx := si.rowMajor.symm (k.cast hn.symm)

theorem entryOf_bijective {o : ℕ} (si : Shape) (hn : si.numel = o) : Function.Bijective (entryOf si hn) :=
  si.rowMajor.symm.bijective.comp (finCongr hn.symm).bijective

/-- Row `i`'s payload: the source's row that the list names for it. -/
def rowPay (hg : s₀.Gathers a s) (g : s₀.Idx → Elt F e) (r : Fin (s.size hg.axis') → Fin (s₀.size hg.axis)) (i : Fin (s.size hg.axis')) :
    (s.rowShape hg.axis').Idx → Elt F e := fun x => g (hg.rowIdx (r i) x)

/-- What row `i` of a gather delivers: the destination's row written with the source's row that the list names, the
    list's entry and a piece of the source's share. -/
def rowDelivery (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (i : Fin (s.size hg.axis')) : sProp 𝕄 :=
  iprop(((dst.view.loc c ↦[(dst.view.slice (s.rowRect hg.axis' i)).set]{fullShare}
        ((dst.view.slice (s.rowRect hg.axis' i)).write (Elt F) fd
          (rowPay hg (src.view.read (Elt F) fs) (rows (offs.view.read (Elt F) fo) hn hin) i) Finset.univ))
      ∗ (offs.view.loc c ↦[{offs.view.emb (entryOf si hn i)}]{qo} fo))
    ∗ (src.view.loc c ↦[src.view.set]{pieceOf q _ ho i} fs))

/-- All the rows of a gather delivered: the destination written with the gather's payload, the list's and the source's
    shares whole again. -/
theorem rowDeliveries_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowDelivery (Ix := Ix) (Name := Name) (U := U) (Lvl := Lvl) c src dst hg offs hn ho q qo fs fd fo hin)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  unfold rowDelivery
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd
      (rowPay hg (src.view.read (Elt F) fs) (rows (offs.view.read (Elt F) fo) hn hin))
      (gatherPayload hg (src.view.read (Elt F) fs) (rows (offs.view.read (Elt F) fo) hn hin)) fun k j => by
      unfold gatherPayload rowPay; rw [Shape.Gathers.idx_rowRect_emb]) $$ Hrows
  isplitl [Hsrc]; · iapply (Entails.of_eq (pointsTo_piecesOf (src.view.set) fs ho q).symm) $$ Hsrc
  iapply (Entails.of_eq (pointsTo_entries c offs.view (entryOf si hn) (entryOf_bijective si hn) qo fo).symm) $$ Hoffs

/-- An indirect gather issued INTO a batch of row transfers, `j` of them issued before it. -/
theorem wp_gatherInto [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ}
    (ι : Ix) (N : ℕ) (hN : ∀ i, (dst.slice (s.rowRect hg.axis' i) (s.stride_rowRect hg.axis' i)).view.dmaCredit = N)
    (ho : 0 < s.size hg.axis') (hin : ∀ x, (offs.view.read (Elt F) fo x).toNat < s₀.size hg.axis)
    (hj : j + s.size hg.axis' ≤ n) (hu : u ≤ j * N)
    (hD : ∀ i : Fin (s.size hg.axis'), rowDelivery c src dst hg offs hn ho q qo fs fd fo hin i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (i : Fin (s.size hg.axis')) → (s.rowShape hg.axis').Idx → Elt F e := rowPay hg (src.view.read (Elt F) fs) r
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hsum : ∑ i, (rd i).dst.view.dmaCredit = s.size hg.axis' * N :=
    sum_rowCredit_eq (K := N) _ hN rfl
  unfold Batch
  iintro ⟨Hs, Hd, Ho, ⟨%γ, %γ₀, %κ, #Hinv, HI, H0, Hcred⟩⟩ Hk
  ihave HI' := (Entails.of_eq (bigSep_pending_add (F := F) (fun t => count EC (γ t) 0) _ j hj)) $$ HI
  icases HI' with ⟨Hγ, HI⟩
  ihave Hd' := (Entails.of_eq (pointsTo_rows c dst.view hg.axis' fullShare fd)) $$ Hd
  ihave Ho' := (Entails.of_eq (pointsTo_entries c offs.view (entryOf si hn) (entryOf_bijective si hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i : Fin (s.size hg.axis'), iprop(inv κ (batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare} ((dst.view.slice (s.rowRect hg.axis' i)).write (Elt F) fd (w i) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show ((rd i).dst.view.amount (SemLoc.dma sem) : ℕ) = N from hN i]
        iapply (batch_creditUpdate EC ⟨j + i.val, by omega⟩ (hD i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Rule

end Cert.Proof.GatherBatch
-- ==== Proof.Base.lean ====
/-
  The program as the SparseCore's launch theorem sees it, the resource algebra of its proof, and names for the
  buffers and index sets the later modules speak of.
-/
module

public import proofs.«01_k».proof.Defs
public import proofs.«01_k».proof.Proof.GatherBatch
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the program without its SparseCore calls: the kernels' and the three pipelines'. -/
abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are apart and outlive the calls; a SparseCore's buffers are its own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

/-- The algebra of the whole proof. -/
abbrev MM (F : FTy → Type) : Type := MT nD τ sig (HIx 2) (Elt F) ℕ UU ℕ

abbrev EH : Emb UH (MM F) := embL
abbrev EP : Emb UP (MM F) :=
  ((Emb.inl : Emb UP (UP × Counters)).trans (Emb.inr : Emb (UP × Counters) UU)).trans
    (uEmb (nD := nD) (τ := τ) (sig := sig) (Ix := HIx 2) (Val := Elt F) (Name := ℕ) (U := UU) (Lvl := ℕ)).toEmb

instance EP_landsIn : (EP : Emb UP (MM F)).LandsIn (upEmb : UEmb _ (MM F)) := by
  unfold EP; infer_instance

abbrev EC : UEmb Counters (MM F) := countersEmb

/-- A unit-stride rectangle's index, by coordinates. -/
theorem emb_unit {s : Shape} (off size : Fin s.rank → ℕ) (inb : ∀ a, off a + size a ≤ s.size a) (y : (Rect.unit (s := s) off size inb).shape.Idx) (a : Fin s.rank) :
    ((Rect.unit (s := s) off size inb).emb y a).val = off a + (y a).val := by
  rw [Rect.emb_apply]
  show off a + 1 * (y a).val = _
  rw [Nat.one_mul]

end Cert.Proof.Run
-- ==== Proof.Body.lean ====
/-
  The bodies of the three calls of the TensorCore: what each leaves in its windows, as an expression of what its
  windows hold.
-/
module

public import proofs.«01_k».proof.Proof.Base
public import Idealize.ShloMosaic.Lib.VecWindow
public import Idealize.ShloMosaic.Lib.Pipeline.FrameBody

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 2) (Elt F) ℕ UU ℕ

/-! ## A load and a store through a memref that is held by what it reads -/

section Rules

variable {Λ : Labels} (defs : Defs nD τ sig (Elt F) Λ) (𝒲 : Variants) (c : Thread nD τ) (bd : Option 𝒲.V) {α : Type}
variable {cs : CoreSpace} {s : Shape} {e : EltTy} {m : Memref sig c.2.kind cs s e}

theorem wp_ld {r : Rect s} {hl : m.view.LoadsAt r.toLoadRect} {k : (r.shape.Idx → Elt F e) → Prog (TpuEff nD τ sig (Elt F) Λ c.2) α}
    {q : PosShare TreeShare} {X : s.Idx → Elt F e} (Q : α → sProp 𝕄) :
    (owns c m q X : sProp 𝕄) ⊢ iprop(((owns c m q X : sProp 𝕄) -∗ wp frame (wpE defs 𝒲 c bd) Set.univ (k (View.ld X r)) Q)
      -∗ wp frame (wpE defs 𝒲 c bd) Set.univ (.op (.load m r.toLoadRect hl) k) Q) := by
  unfold owns
  iintro ⟨%f, %hf, H⟩ Hk
  iapply (wp_load 𝒲 c bd Set.univ (S := m.view.set) (View.setOn_subset_set _ _)) $$ H
  iintro H
  subst hf
  iapply Hk
  iexists f
  isplitr
  · ipureintro; rfl
  · iexact H

theorem wp_ld_full {off : Fin s.rank → ℕ} {inb : ∀ a, off a + s.size a ≤ s.size a} {hl : m.view.LoadsAt (Rect.unit off s.size inb).toLoadRect}
    {k : (s.Idx → Elt F e) → Prog (TpuEff nD τ sig (Elt F) Λ c.2) α} {q : PosShare TreeShare} {X : s.Idx → Elt F e} (Q : α → sProp 𝕄) :
    (owns c m q X : sProp 𝕄) ⊢ iprop(((owns c m q X : sProp 𝕄) -∗ wp frame (wpE defs 𝒲 c bd) Set.univ (k X) Q)
      -∗ wp frame (wpE defs 𝒲 c bd) Set.univ (.op (.load m (Rect.unit off s.size inb).toLoadRect hl) k) Q) := by
  have e : (View.ld X (Rect.unit off s.size inb) : s.Idx → Elt F e) = X := by
    funext y
    exact congrArg X (Rect.emb_unit_full inb y)
  have h := wp_ld (F := F) defs 𝒲 c bd (Q := Q) (m := m) (r := Rect.unit off s.size inb) (hl := hl) (k := k) (q := q) (X := X)
  rw [e] at h
  exact h

theorem wp_st_full {off : Fin s.rank → ℕ} {inb : ∀ a, off a + s.size a ≤ s.size a} {w : s.Idx → Elt F e}
    {hx : (m.access (Rect.unit off s.size inb)).Stores Finset.univ} {hm : (Finset.univ : Finset s.Idx) = Finset.univ ∨ ∀ a, (Rect.unit off s.size inb).stride a = 1}
    {k : PUnit → Prog (TpuEff nD τ sig (Elt F) Λ c.2) α} {X : s.Idx → Elt F e} (Q : α → sProp 𝕄) :
    (owns c m fullShare X : sProp 𝕄) ⊢ iprop(((owns c m fullShare w : sProp 𝕄) -∗ wp frame (wpE defs 𝒲 c bd) Set.univ (k ⟨⟩) Q)
      -∗ wp frame (wpE defs 𝒲 c bd) Set.univ (.op (.store m (Rect.unit off s.size inb) w Finset.univ hx hm) k) Q) := by
  unfold owns
  iintro ⟨%f, -, H⟩ Hk
  iapply (wp_store 𝒲 c bd Set.univ (m := m) (r := Rect.unit off s.size inb) (Mk := Finset.univ) (S := m.view.set) (f := f)
      (View.set_slice_subset m.view (Rect.unit off s.size inb))) $$ H
  iintro H
  iapply Hk
  iexists _
  isplitr
  swap
  · iexact H
  · ipureintro
    exact View.read_writes_full m.view f inb w []

end Rules

/-! ## What the bodies leave -/

section Values

variable [FloatOps F]

/-- A weight row against a table: the products' sums, one a table row, then 352 zeros. -/
def rowTimes (w : S1x16.Idx → F .f32) (X : S1x16x100000.Idx → F .f32) : S100352.Idx → F .f32 :=
  shapeCast S100352 (concatenate S1x100352 1
    [⟨S1x100000, matmul dot_S1x16_S16x100000_S1x100000_1_0_0_1_n_n none (shapeCast S1x16 w shapeCasts_S1x16_S1x16 : FVec F S1x16 .f32)
        (shapeCast S16x100000 (shapeCast S1x16x100000 X shapeCasts_S1x16x100000_S1x16x100000) shapeCasts_S1x16x100000_S16x100000 : FVec F S16x100000 .f32)
        (constant S1x100000 .f32 0x00000000#32)⟩,
      ⟨S1x352, broadcast S1x352 (Scalar.ofBits .f32 0x00000000#32 : F .f32)⟩]
    concatenates_S1x100000_S1x352_S1x100352_d1 : FVec F S1x100352 .f32) shapeCasts_S1x100352_S100352

/-- The two layers' weights as one column. -/
def wAll (W1 : S429x16.Idx → F .f32) (W2 : S16x1.Idx → F .f32) : FVec F S429x1 .f32 :=
  matmul dot_S429x16_S16x1_S429x1_1_0_0_1_n_n none (W1 : FVec F S429x16 .f32) (W2 : FVec F S16x1 .f32) (constant S429x1 .f32 0x00000000#32)

/-- The numerical part of the result, with both biases. -/
def baseOf (num : S13x16384.Idx → F .f32) (W1 : S429x16.Idx → F .f32) (b1 : S1x16.Idx → F .f32) (W2 : S16x1.Idx → F .f32) (b2 : S1x1.Idx → F .f32) :
    S16384.Idx → F .f32 :=
  shapeCast S16384 (addf
    (matmul dot_S1x13_S13x16384_S1x16384_1_0_0_1_n_n none
      (shapeCast S1x13 (shapeCast S13 (extractStridedSlice S13x1 ![0, 0] (wAll W1 W2) slices_S429x1_o0_0_S13x1) shapeCasts_S13x1_S13 : FVec F S13 .f32) shapeCasts_S13_S1x13 : FVec F S1x13 .f32)
      (shapeCast S13x16384 num shapeCasts_S13x16384_S13x16384 : FVec F S13x16384 .f32) (constant S1x16384 .f32 0x00000000#32))
    (broadcastTo S1x16384
      (addf (matmul dot_S1x16_S16x1_S1x1_1_0_0_1_n_n none (shapeCast S1x16 b1 shapeCasts_S1x16_S1x16 : FVec F S1x16 .f32) (W2 : FVec F S16x1 .f32) (constant S1x1 .f32 0x00000000#32))
        (shapeCast S1x1 b2 shapeCasts_S1x1_S1x1 : FVec F S1x1 .f32)) broadcasts_S1x1_S1x16384) : FVec F S1x16384 .f32) shapeCasts_S1x16384_S16384

/-- The embeddings' weights, one row a column of indices. -/
def tabOf (W1 : S429x16.Idx → F .f32) (W2 : S16x1.Idx → F .f32) : S26x16.Idx → F .f32 :=
  shapeCast S26x16 (shapeCast S416 (extractStridedSlice S416x1 ![13, 0] (wAll W1 W2) slices_S429x1_o13_0_S416x1) shapeCasts_S416x1_S416 : FVec F S416 .f32) shapeCasts_S416_S26x16

/-- The weight row that point `i` of the first table call reads, and the second's. -/
def row1 (i : grid1.Coords) (X : S26x16.Idx → F .f32) : S1x16.Idx → F .f32 := View.ld (e' := .f32) (Val := Elt F) X (Rect.unit (s := S26x16) (k1_off1 i) S1x16.size (k1_off1_inb i))
def row2 (i : grid2.Coords) (X : S26x16.Idx → F .f32) : S1x16.Idx → F .f32 := View.ld (e' := .f32) (Val := Elt F) X (Rect.unit (s := S26x16) (k2_off1 i) S1x16.size (k2_off1_inb i))

end Values

/-! ## The bodies -/

section Bodies

variable [FloatOps F] (c : Dev nD)

theorem wp_cc1 (i : grid1.Coords) (m0 : Memref sig .tc .vmem S1x16x100000 .f32) (h0 : m0.IsWhole) (m1 : Memref sig .tc .vmem S26x16 .f32) (h1 : m1.IsWhole)
    (m2 : Memref sig .tc .vmem S100352 .f32) (h2 : m2.IsWhole) (X0 : S1x16x100000.Idx → F .f32) (X1 : S26x16.Idx → F .f32) (X2 : S100352.Idx → F .f32) (Q : PUnit.{1} → sProp 𝕄) :
    iprop(owns (T c) m0 fullShare (X0 : _ → Elt F .f32) ∗ owns (T c) m1 fullShare (X1 : _ → Elt F .f32) ∗ owns (T c) m2 fullShare (X2 : _ → Elt F .f32)
        ∗ ((owns (T c) m0 fullShare (X0 : _ → Elt F .f32) ∗ owns (T c) m1 fullShare (X1 : _ → Elt F .f32)
            ∗ owns (T c) m2 fullShare (rowTimes (row1 i X1) X0 : _ → Elt F .f32)) -∗ Q ⟨⟩))
      ⊢ wp frame (wpE (defs₀ (F := F)) 𝒱₀ (T c) none) Set.univ (cc1_body (F := F) i m0 h0 m1 h1 m2 h2) Q := by
  iintro ⟨H0, H1, H2, Hk⟩
  unfold cc1_body
  dsimp only [bind, Prog.bind, Prog.lift]
  iapply (wp_ld_full defs₀ 𝒱₀ (T c) none) $$ H0
  iintro H0
  iapply (wp_ld defs₀ 𝒱₀ (T c) none) $$ H1
  iintro H1
  iapply (wp_ld_full defs₀ 𝒱₀ (T c) none) $$ H2
  iintro H2
  iapply (wp_st_full defs₀ 𝒱₀ (T c) none) $$ H2
  iintro H2
  sl_step
  iapply Hk
  isplitl [H0]; · iexact H0
  isplitl [H1]; · iexact H1
  iexact H2

theorem wp_cc2 (i : grid2.Coords) (m0 : Memref sig .tc .vmem S1x16x100000 .f32) (h0 : m0.IsWhole) (m1 : Memref sig .tc .vmem S26x16 .f32) (h1 : m1.IsWhole)
    (m2 : Memref sig .tc .vmem S100352 .f32) (h2 : m2.IsWhole) (X0 : S1x16x100000.Idx → F .f32) (X1 : S26x16.Idx → F .f32) (X2 : S100352.Idx → F .f32) (Q : PUnit.{1} → sProp 𝕄) :
    iprop(owns (T c) m0 fullShare (X0 : _ → Elt F .f32) ∗ owns (T c) m1 fullShare (X1 : _ → Elt F .f32) ∗ owns (T c) m2 fullShare (X2 : _ → Elt F .f32)
        ∗ ((owns (T c) m0 fullShare (X0 : _ → Elt F .f32) ∗ owns (T c) m1 fullShare (X1 : _ → Elt F .f32)
            ∗ owns (T c) m2 fullShare (rowTimes (row2 i X1) X0 : _ → Elt F .f32)) -∗ Q ⟨⟩))
      ⊢ wp frame (wpE (defs₀ (F := F)) 𝒱₀ (T c) none) Set.univ (cc2_body (F := F) i m0 h0 m1 h1 m2 h2) Q := by
  iintro ⟨H0, H1, H2, Hk⟩
  unfold cc2_body
  dsimp only [bind, Prog.bind, Prog.lift]
  iapply (wp_ld_full defs₀ 𝒱₀ (T c) none) $$ H0
  iintro H0
  iapply (wp_ld defs₀ 𝒱₀ (T c) none) $$ H1
  iintro H1
  iapply (wp_ld_full defs₀ 𝒱₀ (T c) none) $$ H2
  iintro H2
  iapply (wp_st_full defs₀ 𝒱₀ (T c) none) $$ H2
  iintro H2
  sl_step
  iapply Hk
  isplitl [H0]; · iexact H0
  isplitl [H1]; · iexact H1
  iexact H2

theorem wp_cc0 (m0 : Memref sig .tc .vmem S13x16384 .f32) (h0 : m0.IsWhole) (m1 : Memref sig .tc .vmem S429x16 .f32) (h1 : m1.IsWhole)
    (m2 : Memref sig .tc .vmem S1x16 .f32) (h2 : m2.IsWhole) (m3 : Memref sig .tc .vmem S16x1 .f32) (h3 : m3.IsWhole)
    (m4 : Memref sig .tc .vmem S1x1 .f32) (h4 : m4.IsWhole) (m5 : Memref sig .tc .vmem S16384 .f32) (h5 : m5.IsWhole)
    (m6 : Memref sig .tc .vmem S26x16 .f32) (h6 : m6.IsWhole)
    (X0 : S13x16384.Idx → F .f32) (X1 : S429x16.Idx → F .f32) (X2 : S1x16.Idx → F .f32) (X3 : S16x1.Idx → F .f32) (X4 : S1x1.Idx → F .f32)
    (X5 : S16384.Idx → F .f32) (X6 : S26x16.Idx → F .f32) (Q : PUnit.{1} → sProp 𝕄) :
    iprop(owns (T c) m0 fullShare (X0 : _ → Elt F .f32) ∗ owns (T c) m1 fullShare (X1 : _ → Elt F .f32) ∗ owns (T c) m2 fullShare (X2 : _ → Elt F .f32)
        ∗ owns (T c) m3 fullShare (X3 : _ → Elt F .f32) ∗ owns (T c) m4 fullShare (X4 : _ → Elt F .f32)
        ∗ owns (T c) m5 fullShare (X5 : _ → Elt F .f32) ∗ owns (T c) m6 fullShare (X6 : _ → Elt F .f32)
        ∗ ((owns (T c) m0 fullShare (X0 : _ → Elt F .f32) ∗ owns (T c) m1 fullShare (X1 : _ → Elt F .f32) ∗ owns (T c) m2 fullShare (X2 : _ → Elt F .f32)
            ∗ owns (T c) m3 fullShare (X3 : _ → Elt F .f32) ∗ owns (T c) m4 fullShare (X4 : _ → Elt F .f32)
            ∗ owns (T c) m5 fullShare (baseOf X0 X1 X2 X3 X4 : _ → Elt F .f32) ∗ owns (T c) m6 fullShare (tabOf X1 X3 : _ → Elt F .f32)) -∗ Q ⟨⟩))
      ⊢ wp frame (wpE (defs₀ (F := F)) 𝒱₀ (T c) none) Set.univ (cc0__tc_prep_body (F := F) m0 h0 m1 h1 m2 h2 m3 h3 m4 h4 m5 h5 m6 h6) Q := by
  iintro ⟨H0, H1, H2, H3, H4, H5, H6, Hk⟩
  unfold cc0__tc_prep_body
  dsimp only [bind, Prog.bind, Prog.lift]
  iapply (wp_ld_full defs₀ 𝒱₀ (T c) none) $$ H1
  iintro H1
  iapply (wp_ld_full defs₀ 𝒱₀ (T c) none) $$ H3
  iintro H3
  iapply (wp_ld_full defs₀ 𝒱₀ (T c) none) $$ H2
  iintro H2
  iapply (wp_ld_full defs₀ 𝒱₀ (T c) none) $$ H3
  iintro H3
  iapply (wp_ld_full defs₀ 𝒱₀ (T c) none) $$ H4
  iintro H4
  iapply (wp_ld_full defs₀ 𝒱₀ (T c) none) $$ H0
  iintro H0
  iapply (wp_ld_full defs₀ 𝒱₀ (T c) none) $$ H5
  iintro H5
  iapply (wp_st_full defs₀ 𝒱₀ (T c) none) $$ H5
  iintro H5
  iapply (wp_ld_full defs₀ 𝒱₀ (T c) none) $$ H6
  iintro H6
  iapply (wp_st_full defs₀ 𝒱₀ (T c) none) $$ H6
  iintro H6
  sl_step
  iapply Hk
  isplitl [H0]; · iexact H0
  isplitl [H1]; · iexact H1
  isplitl [H2]; · iexact H2
  isplitl [H3]; · iexact H3
  isplitl [H4]; · iexact H4
  isplitl [H5]; · iexact H5
  iexact H6

end Bodies

end Cert.Proof.Run
-- ==== Proof.Phase.lean ====
/-
  The middle of a task: fifty-two indirect gathers issued on one semaphore, then fifty-two waits. Both are written as
  recursions on the number left (`issues`, `waits`), which the printed text is by `rfl`, and run by induction.
-/
module

public import proofs.«01_k».proof.Proof.Base

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

/-- Where chunk `t` starts: four chunks of 128 to a row of 512. -/
def cOff (t : ℕ) : Fin 2 → ℕ := ![t / 4 % 13, 128 * (t % 4)]

theorem cOff_inb (t : ℕ) : ∀ a, cOff t a + S1x128.size a ≤ S13x512.size a := by
  intro a
  match a with
  | 0 => show t / 4 % 13 + 1 ≤ 13; omega
  | 1 => show 128 * (t % 4) + 128 ≤ 512; omega

/-- Chunk `t` of a buffer of thirteen rows of 512, as a list of 128. -/
abbrev chunk {e : EltTy} (m : Memref sig .scVector .vmem S13x512 e) (t : ℕ) : Memref sig .scVector .vmem S128 e :=
  (m.slice (Rect.unit (s := S13x512) (cOff t) S1x128.size (cOff_inb t)) (fun _ => rfl)).squeeze S128 squeezes_S1x128_S128

/-- The table, whole, as a gather's source names it. -/
abbrev allOf (m : Memref sig .scVector .hbm S1304576 .f32) : Memref sig .scVector .hbm S1304576 .f32 :=
  m.slice (Rect.unit (s := S1304576) ![0] S1304576.size inb_S1304576_S1304576_0) (fun _ => rfl)

/-- The next `n` gathers, from chunk `t` on, then `k`. -/
def issues {c : Fin τ.nSC} {i : Fin τ.nSub} (a2 : Memref sig .scVector .hbm S1304576 .f32) (a7 : Memref sig .scVector .vmem S13x512 .i32)
    (a8 : Memref sig .scVector .vmem S13x512 .f32) (sm : DmaSem sig) {α : Type} :
    ℕ → ℕ → Prog (TpuEff nD τ sig (Elt F) Λ₀ (.scVector c i)) α → Prog (TpuEff nD τ sig (Elt F) Λ₀ (.scVector c i)) α
  | 0, _, k => k
  | n + 1, t, k => (SparseCore.enqueueIndirectGather rfl (allOf a2) (chunk a8 t) gathers_S1304576_S128 (chunk a7 t) rfl sm
      (View.wordExact_bits rfl) rfl (Or.inl rfl)) >>= fun _ => issues a2 a7 a8 sm n (t + 1) k

/-- The next `n` waits, from chunk `t` on, then `k`. -/
def waits {c : Fin τ.nSC} {i : Fin τ.nSub} (a2 : Memref sig .scVector .hbm S1304576 .f32)
    (a8 : Memref sig .scVector .vmem S13x512 .f32) (sm : DmaSem sig) {α : Type} :
    ℕ → ℕ → Prog (TpuEff nD τ sig (Elt F) Λ₀ (.scVector c i)) α → Prog (TpuEff nD τ sig (Elt F) Λ₀ (.scVector c i)) α
  | 0, _, k => k
  | n + 1, t, k => .op (.waitDma2 sm (allOf a2) (chunk a8 t)
      (View.wordExact_bits rfl) ((View.wordExact_bits rfl).reshape _ _)) fun _ => waits a2 a8 sm n (t + 1) k

/-! ## Chunks of a buffer -/

/-- Where place `y` of chunk `t` is in the whole buffer. -/
def zIx (t : ℕ) (y : S128.Idx) : S13x512.Idx
  | 0 => ⟨t / 4 % 13, Nat.mod_lt _ (by decide)⟩
  | 1 => ⟨128 * (t % 4) + (y 0).val, by have := (y 0).isLt; change (y 0).val < 128 at this; show _ < 512; omega⟩

theorem chunk_emb {e : EltTy} (m : Memref sig .scVector .vmem S13x512 e) (t : ℕ) (y : S128.Idx) :
    (chunk m t).view.emb y = m.view.emb (zIx t y) := by
  have h : Shape.reshapeEquiv (s := S1x128) (s' := S128) squeezes_S1x128_S128.numel_eq y = Fin.cons ⟨0, Nat.one_pos⟩ y :=
    Shape.reshapeEquiv_cons_one _ y
  show m.view.emb ((Rect.unit (s := S13x512) (cOff t) S1x128.size (cOff_inb t)).emb (Shape.reshapeEquiv squeezes_S1x128_S128.numel_eq y)) = _
  rw [h]
  congr 1
  funext a
  apply Fin.ext
  rw [Rect.emb_apply]
  match a with
  | 0 => show t / 4 % 13 + 1 * 0 = t / 4 % 13; omega
  | 1 => show 128 * (t % 4) + 1 * (y 0).val = 128 * (t % 4) + (y 0).val; omega

theorem zIx_injective : Function.Injective fun p : Fin 52 × S128.Idx => zIx p.1.val p.2 := by
  rintro ⟨t, y⟩ ⟨t', y'⟩ h
  have h0 : t.val / 4 % 13 = t'.val / 4 % 13 := congrArg (fun x : S13x512.Idx => (x 0).val) h
  have h1 : 128 * (t.val % 4) + (y 0).val = 128 * (t'.val % 4) + (y' 0).val := congrArg (fun x : S13x512.Idx => (x 1).val) h
  have b := t.isLt; have b' := t'.isLt
  have l : (y 0).val < 128 := (y 0).isLt
  have l' : (y' 0).val < 128 := (y' 0).isLt
  have ht : t = t' := Fin.ext (by omega)
  have hy : y = y' := by
    funext a
    match a with
    | 0 => exact Fin.ext (by omega)
  rw [ht, hy]

theorem zIx_surjective : Function.Surjective fun p : Fin 52 × S128.Idx => zIx p.1.val p.2 := by
  intro x
  have l0 : (x 0).val < 13 := (x 0).isLt
  have l1 : (x 1).val < 512 := (x 1).isLt
  refine ⟨⟨⟨4 * (x 0).val + (x 1).val / 128, by omega⟩, fun | 0 => ⟨(x 1).val % 128, by show _ < 128; omega⟩⟩, ?_⟩
  funext a
  match a with
  | 0 => exact Fin.ext (by show (4 * (x 0).val + (x 1).val / 128) / 4 % 13 = (x 0).val; omega)
  | 1 => exact Fin.ext (by show 128 * ((4 * (x 0).val + (x 1).val / 128) % 4) + (x 1).val % 128 = (x 1).val; omega)

theorem mem_chunk_set {e : EltTy} (m : Memref sig .scVector .vmem S13x512 e) (t : ℕ) (i : m.view.ty.Idx) :
    i ∈ (chunk m t).view.set ↔ ∃ y : S128.Idx, m.view.emb (zIx t y) = i := by
  constructor
  · intro h
    obtain ⟨y, -, rfl⟩ := Finset.mem_map.1 h
    exact ⟨y, (chunk_emb m t y).symm⟩
  · rintro ⟨y, rfl⟩
    exact Finset.mem_map.2 ⟨y, Finset.mem_univ _, chunk_emb m t y⟩

theorem chunk_disjoint {e : EltTy} (m : Memref sig .scVector .vmem S13x512 e) (t t' : Fin 52) (h : t ≠ t') :
    Disjoint ((chunk m t.val).view.set : Finset m.view.ty.Idx) (chunk m t'.val).view.set := by
  refine Finset.disjoint_left.2 fun i hi hi' => h ?_
  obtain ⟨y, hy⟩ := (mem_chunk_set m _ i).1 hi
  obtain ⟨y', hy'⟩ := (mem_chunk_set m _ i).1 hi'
  exact congrArg Prod.fst (zIx_injective (a₁ := (t, y)) (a₂ := (t', y')) (m.view.emb.injective (hy.trans hy'.symm)))

theorem chunk_union {e : EltTy} (m : Memref sig .scVector .vmem S13x512 e) :
    (m.view.set : Finset m.view.ty.Idx) = (Finset.univ : Finset (Fin 52)).biUnion fun t => (chunk m t.val).view.set := by
  ext i
  rw [Finset.mem_biUnion]
  constructor
  · intro h
    obtain ⟨x, -, rfl⟩ := Finset.mem_map.1 h
    obtain ⟨⟨t, y⟩, rfl⟩ := zIx_surjective x
    exact ⟨t, Finset.mem_univ _, (mem_chunk_set m _ _).2 ⟨y, rfl⟩⟩
  · rintro ⟨t, -, h⟩
    obtain ⟨y, rfl⟩ := (mem_chunk_set m _ _).1 h
    exact Finset.mem_map.2 ⟨_, Finset.mem_univ _, rfl⟩

local notation "𝕄" => MT nD τ sig (HIx 2) (Elt F) ℕ UU ℕ

variable (d : Dev nD) (c : Fin τ.nSC) (i : Fin τ.nSub)

/-- A buffer's thirteen rows held are its fifty-two chunks held. -/
theorem pointsTo_chunks {e : EltTy} (m : Memref sig .scVector .vmem S13x512 e) (q : PosShare TreeShare) (f : Buf (Elt F) (m.view.loc (V d c i))) :
    (m.view.loc (V d c i) ↦[m.view.set]{q} f : sProp 𝕄)
      = bigSep Finset.univ fun t : Fin 52 => (chunk m t.val).view.loc (V d c i) ↦[(chunk m t.val).view.set]{q} f := by
  rw [← pointsTo_biUnion (ℓ := m.view.loc (V d c i)) Finset.univ (fun t : Fin 52 => (chunk m t.val).view.set)
    (fun t _ t' _ h => chunk_disjoint m t t' h)]
  exact congrArg (fun S : Finset m.view.ty.Idx => (m.view.loc (V d c i) ↦[S]{q} f : sProp 𝕄)) (chunk_union m)

/-! ## What the gathers deliver -/

section Deliver

variable (a2 : Memref sig .scVector .hbm S1304576 .f32) (a7 : Memref sig .scVector .vmem S13x512 .i32) (a8 : Memref sig .scVector .vmem S13x512 .f32)
variable (q : PosShare TreeShare) (ft : Buf (Elt F) (a2.view.loc (V d c i))) (f7 : Buf (Elt F) (a7.view.loc (V d c i))) (f8 : Buf (Elt F) (a8.view.loc (V d c i)))

/-- The table's place a list's word names. -/
def tblIx (w : BitVec 32) : S1304576.Idx := fun | 0 => ⟨w.toNat % 1304576, Nat.mod_lt _ (by decide)⟩

/-- What the fifty-two gathers bring: at every place of the thirteen rows, the table at the word of the list there. -/
def gotten : S13x512.Idx → Elt F .f32 := fun x => a2.view.read (Elt F) ft (tblIx (a7.view.read (Elt F) f7 x))

theorem allOf_read : (allOf a2).view.read (Elt F) ft = a2.view.read (Elt F) ft := by
  funext x
  have e : (Rect.unit (s := S1304576) ![0] S1304576.size inb_S1304576_S1304576_0).emb x = x := by
    funext a
    apply Fin.ext
    rw [Rect.emb_apply]
    match a with
    | 0 => show 0 + 1 * (x 0).val = (x 0).val; omega
  show _root_.cast _ (ft (a2.view.emb ((Rect.unit (s := S1304576) ![0] S1304576.size inb_S1304576_S1304576_0).emb x))) = _root_.cast _ (ft (a2.view.emb x))
  rw [e]

theorem allOf_set : (allOf a2).view.set = a2.view.set := by
  show (a2.view.slice (Rect.unit (s := S1304576) ![0] S1304576.size inb_S1304576_S1304576_0)).set = _
  have e : (Rect.unit (s := S1304576) ![0] S1304576.size inb_S1304576_S1304576_0).emb = Function.Embedding.refl _ := by
    ext x a
    rw [Rect.emb_apply]
    match a with
    | 0 => show 0 + 1 * (x 0).val = (x 0).val; omega
  show Finset.univ.map ((Rect.unit (s := S1304576) ![0] S1304576.size inb_S1304576_S1304576_0).emb.trans a2.view.emb) = Finset.univ.map a2.view.emb
  rw [e]
  rfl

variable (hlt : ∀ x, (a7.view.read (Elt F) f7 x).toNat < 1304576)

include hlt in
theorem chunk_hin (t : ℕ) : ∀ x, ((chunk a7 t).view.read (Elt F) f7 x).toNat < S1304576.size gathers_S1304576_S128.axis := by
  intro x
  have : (chunk a7 t).view.read (Elt F) f7 x = a7.view.read (Elt F) f7 (zIx t x) := by
    show _root_.cast _ (f7 ((chunk a7 t).view.emb x)) = _root_.cast _ (f7 (a7.view.emb (zIx t x)))
    rw [chunk_emb]
  rw [this]
  exact hlt _

theorem pos52 : 0 < 52 := by decide
theorem pos128 : 0 < S128.size gathers_S1304576_S128.axis' := by decide

/-- Row `r` of chunk `t`, delivered. -/
def deliver (t : Fin 52) (r : Fin 128) : sProp 𝕄 :=
  GatherBatch.rowDelivery (V d c i) (allOf a2) (chunk a8 t.val) gathers_S1304576_S128 (chunk a7 t.val) rfl pos128 (pieceOf q 52 pos52 t) fullShare
    ft f8 f7 (chunk_hin d c i a7 f7 hlt t.val) r

/-- All the rows in the order they are issued. -/
def delivers (r : Fin (52 * 128)) : sProp 𝕄 :=
  deliver d c i a2 a7 a8 q ft f7 f8 hlt (finProdFinEquiv.symm r).1 (finProdFinEquiv.symm r).2

theorem delivers_at (t : Fin 52) (r : Fin 128) (h : 128 * t.val + r.val < 52 * 128) :
    delivers d c i a2 a7 a8 q ft f7 f8 hlt ⟨128 * t.val + r.val, h⟩ = deliver d c i a2 a7 a8 q ft f7 f8 hlt t r := by
  have e : (⟨128 * t.val + r.val, h⟩ : Fin (52 * 128)) = finProdFinEquiv (t, r) :=
    Fin.ext (by show 128 * t.val + r.val = r.val + 128 * t.val; omega)
  unfold delivers
  rw [e, Equiv.symm_apply_apply]

/-- Before gather `t`: its piece of the table's share, its chunks of the destination and the list. -/
def ready (t : Fin 52) : sProp 𝕄 :=
  iprop(((allOf a2).view.loc (V d c i) ↦[(allOf a2).view.set]{pieceOf q 52 pos52 t} ft)
    ∗ ((chunk a8 t.val).view.loc (V d c i) ↦[(chunk a8 t.val).view.set]{fullShare} f8)
    ∗ ((chunk a7 t.val).view.loc (V d c i) ↦[(chunk a7 t.val).view.set]{fullShare} f7))

/-- What is pending from `t` on is the next and the rest. -/
theorem pending_cons {n : ℕ} (Φ : Fin n → sProp 𝕄) (t : ℕ) (h : t < n) :
    bigSep (pending t) Φ = iprop(Φ ⟨t, h⟩ ∗ bigSep (pending (t + 1)) Φ) := by
  rw [pending_succ h, BI.bigSep_insert (not_mem_pending_succ _)]
  rfl

/-- The next `n` gathers of a batch that has issued `t`. -/
theorem wp_issues [FloatOps F] (sm : DmaSem sig) (N : ℕ)
    (hN : ∀ (t : ℕ) (r), ((chunk a8 t).slice (S128.rowRect gathers_S1304576_S128.axis' r) (S128.stride_rowRect gathers_S1304576_S128.axis' r)).view.dmaCredit = N)
    (k : Prog (TpuEff nD τ sig (Elt F) Λ₀ (V d c i).2) PUnit) (Q : PUnit.{1} → sProp 𝕄) :
    ∀ n t, t + n ≤ 52 →
    iprop(Batch EC (V d c i) (.dma sm) (default : HIx 2) N (delivers d c i a2 a7 a8 q ft f7 f8 hlt) (128 * t) 0
        ∗ bigSep (pending t) (ready d c i a2 a7 a8 q ft f7 f8)
        ∗ (Batch EC (V d c i) (.dma sm) (default : HIx 2) N (delivers d c i a2 a7 a8 q ft f7 f8 hlt) (128 * (t + n)) 0
            -∗ bigSep (pending (t + n)) (ready d c i a2 a7 a8 q ft f7 f8)
            -∗ wp frame (wpE (defs₀ (F := F)) 𝒱₀ (V d c i) none) Set.univ k Q))
      ⊢ wp frame (wpE (defs₀ (F := F)) 𝒱₀ (V d c i) none) Set.univ (issues (c := c) (i := i) a2 a7 a8 sm n t k) Q := by
  intro n
  induction n with
  | zero =>
    intro t _
    iintro ⟨HB, HP, Hk⟩
    iapply Hk $$ HB HP
  | succ n ih =>
    intro t ht
    have htt : t < 52 := by omega
    rw [pending_cons _ t htt]
    unfold issues
    have hr : ready d c i a2 a7 a8 q ft f7 f8 ⟨t, htt⟩ ⊢ iprop(((allOf a2).view.loc (V d c i) ↦[(allOf a2).view.set]{pieceOf q 52 pos52 ⟨t, htt⟩} ft)
      ∗ ((chunk a8 t).view.loc (V d c i) ↦[(chunk a8 t).view.set]{fullShare} f8)
      ∗ ((chunk a7 t).view.loc (V d c i) ↦[(chunk a7 t).view.set]{fullShare} f7)) := .rfl
    iintro ⟨HB, ⟨HR, HP⟩, Hk⟩
    ihave HR := hr $$ HR
    icases HR with ⟨Ht, Hd, Ho⟩
    iapply (GatherBatch.wp_gatherInto EC 𝒱₀ (V d c i) none (default : HIx 2) N (hN t) pos128 (chunk_hin d c i a7 f7 hlt t)
      (show 128 * t + S128.size gathers_S1304576_S128.axis' ≤ 52 * 128 by show 128 * t + 128 ≤ _; omega) (Nat.zero_le _)
      (fun r => Entails.of_eq (delivers_at d c i a2 a7 a8 q ft f7 f8 hlt ⟨t, htt⟩ r _).symm)) $$ [Ht Hd Ho HB]
    · isplitl [Ht]; · iexact Ht
      isplitl [Hd]; · iexact Hd
      isplitl [Ho]; · iexact Ho
      iexact HB
    iintro HB
    iapply (ih (t + 1) (by omega))
    isplitl [HB]; · iexact HB
    isplitl [HP]; · iexact HP
    rw [show t + 1 + n = t + (n + 1) by omega]
    iexact Hk

/-- The next `n` waits of the whole batch, `t` waits before them. -/
theorem wp_waits [FloatOps F] (sm : DmaSem sig) (N : ℕ)
    (hJ : ∀ t : ℕ, (chunk a8 t).view.dmaCredit = 128 * N) (O : CellTallies nD τ sig (HIx 2)) (W : Waits sig (HIx 2))
    (DD : Fin (52 * 128) → sProp 𝕄)
    (k : Prog (TpuEff nD τ sig (Elt F) Λ₀ (V d c i).2) PUnit) (Q : PUnit.{1} → sProp 𝕄) :
    ∀ n t, t + n ≤ 52 →
    iprop(MayWaits (V d c i) (default : HIx 2) O ∗ Batch EC (V d c i) (.dma sm) (default : HIx 2) N DD (52 * 128) (128 * N * t)
        ∗ (∃ W', ⌜∀ p ∈ W', p ∈ W ∨ p.2 = (default : HIx 2)⌝ ∗ owes (V d c i) O W')
        ∗ (Batch EC (V d c i) (.dma sm) (default : HIx 2) N DD (52 * 128) (128 * N * (t + n))
            -∗ (∃ W', ⌜∀ p ∈ W', p ∈ W ∨ p.2 = (default : HIx 2)⌝ ∗ owes (V d c i) O W')
            -∗ wp frame (wpE (defs₀ (F := F)) 𝒱₀ (V d c i) none) Set.univ k Q))
      ⊢ wp frame (wpE (defs₀ (F := F)) 𝒱₀ (V d c i) none) Set.univ (waits (c := c) (i := i) a2 a8 sm n t k) Q := by
  intro n
  induction n with
  | zero =>
    intro t _
    iintro ⟨-, HB, HO, Hk⟩
    iapply Hk $$ HB HO
  | succ n ih =>
    intro t ht
    unfold waits
    iintro ⟨#Hmw, HB, ⟨%W', %hW', HO⟩, Hk⟩
    ihave Hm := (MayWaits.elim (SemLoc.dma sm)) $$ Hmw
    iapply (wp_waitBatchMulO EC 𝒱₀ (V d c i) none (default : HIx 2) 128 (hJ t)
      (show 128 * N * t + 128 * N ≤ N * (52 * 128) by
        calc 128 * N * t + 128 * N = 128 * N * (t + 1) := by ring
          _ ≤ 128 * N * 52 := Nat.mul_le_mul_left _ (by omega)
          _ = N * (52 * 128) := by ring)) $$ [HB HO Hm]
    · isplitl [HB]; · iexact HB
      isplitl [HO]; · iexact HO
      iexact Hm
    iintro ⟨HB, HO⟩
    iapply (ih (t + 1) (by omega))
    isplitr; · iexact Hmw
    isplitl [HB]; · rw [show 128 * N * t + 128 * N = 128 * N * (t + 1) by ring]; iexact HB
    isplitl [HO]
    · iexists insert (SemLoc.dma sm, default) W'
      isplitr
      · ipureintro
        intro p hp
        rcases Finset.mem_insert.1 hp with rfl | hp
        · exact .inr rfl
        · exact hW' p hp
      · iexact HO
    rw [show t + 1 + n = t + (n + 1) by omega]
    iexact Hk

/-- What all the rows delivered are: the destination at what was gotten, the list and the table's share whole again. -/
theorem delivers_join :
    bigSep Finset.univ (delivers d c i a2 a7 a8 q ft f7 f8 hlt)
      ⊢ iprop(((allOf a2).view.loc (V d c i) ↦[(allOf a2).view.set]{q} ft)
        ∗ (a8.view.loc (V d c i) ↦[a8.view.set]{fullShare} (a8.view.write (Elt F) f8 (gotten d c i a2 a7 ft f7) Finset.univ))
        ∗ (a7.view.loc (V d c i) ↦[a7.view.set]{fullShare} f7)) := by
  have e : bigSep Finset.univ (delivers d c i a2 a7 a8 q ft f7 f8 hlt)
      = bigSep Finset.univ fun t : Fin 52 => bigSep Finset.univ fun r : Fin 128 => deliver d c i a2 a7 a8 q ft f7 f8 hlt t r := by
    rw [bigSep_univ_equiv finProdFinEquiv (delivers d c i a2 a7 a8 q ft f7 f8 hlt), bigSep_univ_prod]
    refine congrArg _ (funext fun t => congrArg _ (funext fun r => ?_))
    unfold delivers
    rw [Equiv.symm_apply_apply]
  have hw : ∀ t : Fin 52, bigSep Finset.univ (fun r : Fin 128 => deliver d c i a2 a7 a8 q ft f7 f8 hlt t r)
      ⊢ iprop(((chunk a8 t.val).view.loc (V d c i) ↦[(chunk a8 t.val).view.set]{fullShare} (a8.view.write (Elt F) f8 (gotten d c i a2 a7 ft f7) Finset.univ))
        ∗ ((allOf a2).view.loc (V d c i) ↦[(allOf a2).view.set]{pieceOf q 52 pos52 t} ft)
        ∗ ((chunk a7 t.val).view.loc (V d c i) ↦[(chunk a7 t.val).view.set]{fullShare} f7)) := by
    intro t
    refine (GatherBatch.rowDeliveries_join (V d c i) (allOf a2) (chunk a8 t.val) gathers_S1304576_S128 (chunk a7 t.val) rfl pos128 (pieceOf q 52 pos52 t) fullShare
      ft f8 f7 (chunk_hin d c i a7 f7 hlt t.val)).trans (sep_mono (Entails.of_eq (pointsTo_congr ?_)) .rfl)
    intro j hj
    obtain ⟨y, -, rfl⟩ := Finset.mem_map.1 hj
    rw [View.write_emb_of_mem _ _ (Finset.mem_univ y), chunk_emb a8, View.write_emb_of_mem _ _ (Finset.mem_univ _)]
    refine congrArg _ ?_
    unfold SparseCore.gatherPayload gotten
    rw [allOf_read]
    refine congrArg _ (funext fun a => ?_)
    match a with
    | 0 =>
      apply Fin.ext
      have hr : (chunk a7 t.val).view.read (Elt F) f7 y = a7.view.read (Elt F) f7 (zIx t.val y) := by
        show _root_.cast _ (f7 ((chunk a7 t.val).view.emb y)) = _root_.cast _ (f7 (a7.view.emb (zIx t.val y)))
        rw [chunk_emb]
      have hy : S128.rowMajor.symm (((y 0).cast rfl : Fin (S128.numel))) = y := by
        apply (Equiv.symm_apply_eq _).2
        apply Fin.ext
        show (y 0).val = _
        exact (Shape.rowMajor_val_one y).symm
      show ((chunk a7 t.val).view.read (Elt F) f7 (S128.rowMajor.symm ((y 0).cast rfl))).toNat = (a7.view.read (Elt F) f7 (zIx t.val y)).toNat % 1304576
      rw [hy, hr, Nat.mod_eq_of_lt (hlt _)]
  rw [e]
  refine (fun (hj : iprop(bigSep Finset.univ fun t : Fin 52 => iprop(((chunk a8 t.val).view.loc (V d c i) ↦[(chunk a8 t.val).view.set]{fullShare} (a8.view.write (Elt F) f8 (gotten d c i a2 a7 ft f7) Finset.univ))
        ∗ ((allOf a2).view.loc (V d c i) ↦[(allOf a2).view.set]{pieceOf q 52 pos52 t} ft)
        ∗ ((chunk a7 t.val).view.loc (V d c i) ↦[(chunk a7 t.val).view.set]{fullShare} f7)))
      ⊢ iprop(((allOf a2).view.loc (V d c i) ↦[(allOf a2).view.set]{q} ft)
        ∗ (a8.view.loc (V d c i) ↦[a8.view.set]{fullShare} (a8.view.write (Elt F) f8 (gotten d c i a2 a7 ft f7) Finset.univ))
        ∗ (a7.view.loc (V d c i) ↦[a7.view.set]{fullShare} f7))) => BI.Entails.trans (BI.bigSep_mono fun t _ => hw t) hj) ?_
  iintro H
  ihave H := Transfers.bigSep_sep_out _ _ _ $$ H
  icases H with ⟨H8, H⟩
  ihave H := Transfers.bigSep_sep_out _ _ _ $$ H
  icases H with ⟨H2, H7⟩
  isplitl [H2]; · iapply (Entails.of_eq (pointsTo_piecesOf _ ft pos52 q).symm) $$ H2
  isplitl [H8]; · iapply (Entails.of_eq (pointsTo_chunks d c i a8 fullShare _).symm) $$ H8
  iapply (Entails.of_eq (pointsTo_chunks d c i a7 fullShare _).symm) $$ H7

end Deliver

end Cert.Proof.Run
-- ==== Proof.Fill.lean ====
/-
  The first loop of a task: the words of thirteen rows of the indices, each moved to its row's part of the table.
-/
module

public import proofs.«01_k».proof.Proof.Phase

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

/-! ## The list: thirteen rows of sixteen a trip -/

section Fill

variable [FloatOps F] {c : Fin τ.nSC} {i : Fin τ.nSub}
variable (a6 : Memref sig .scVector .vmem S26x512 .i32) (a7 : Memref sig .scVector .vmem S13x512 .i32)
variable (o6 : ℕ → Fin 2 → ℕ) (h6 : ∀ j a, o6 j a + S1x16.size a ≤ S26x512.size a)
variable (o7 : ℕ → Fin 2 → ℕ) (h7 : ∀ j a, o7 j a + S1x16.size a ≤ S13x512.size a)

/-- Row `j`'s sixteen words, moved to the row's part of the table. -/
def fillPay (j : ℕ) (v : Vec F S1x16 .i32) : IVec S1x16 32 :=
  shapeCast S1x16 (addi (shapeCast S16 v shapeCasts_S1x16_S16) (broadcast S16 (BitVec.ofNat 32 (100352 * j)))) shapeCasts_S16_S1x16

theorem fillPay_apply (j : ℕ) (v : Vec F S1x16 .i32) (y : S1x16.Idx) : fillPay (F := F) j v y = v y + BitVec.ofNat 32 (100352 * j) := by
  show v (Shape.reshapeEquiv _ (Shape.reshapeEquiv _ y)) + _ = _
  rw [Shape.reshapeEquiv_reshapeEquiv, Shape.reshapeEquiv_self]
  rfl

/-- The next `n` rows of a trip, from row `j` on, then `k`. -/
def fills {α : Type} (k : Prog (TpuEff nD τ sig (Elt F) Λ₀ (.scVector c i)) α) : ℕ → ℕ → Prog (TpuEff nD τ sig (Elt F) Λ₀ (.scVector c i)) α
  | 0, _ => k
  | n + 1, j =>
    .op (.load a6 (Rect.unit (s := S26x512) (o6 j) S1x16.size (h6 j)).toLoadRect (View.loadsAt_vmem h_S1x16)) fun v =>
    .op (.load a7 (Rect.unit (s := S13x512) (o7 j) S1x16.size (h7 j)).toLoadRect (View.loadsAt_vmem h_S1x16)) fun _ =>
    .op (.store a7 (Rect.unit (s := S13x512) (o7 j) S1x16.size (h7 j)) (fillPay (F := F) j v) Finset.univ (View.stores_vmem_bits_univ h_S1x16 rfl) (.inl rfl)) fun _ =>
    fills k n (j + 1)

/-- A trip's row `j` of the index buffer, place `y`. -/
def rowIx (r₀ : ℕ) (hr : r₀ ≤ 13) (x : S13x512.Idx) : S26x512.Idx
  | 0 => ⟨r₀ + (x 0).val, by have := (x 0).isLt; change (x 0).val < 13 at this; show _ < 26; omega⟩
  | 1 => ⟨(x 1).val, (x 1).isLt⟩

variable (d : Dev nD)

local notation "𝕄" => MT nD τ sig (HIx 2) (Elt F) ℕ UU ℕ

/-- The list: at each place the index there, moved to its row's part of the table. -/
def lst (r₀ : ℕ) (hr : r₀ ≤ 13) (f6 : Buf (Elt F) (a6.view.loc (V d c i))) (x : S13x512.Idx) : BitVec 32 :=
  a6.view.read (Elt F) f6 (rowIx r₀ hr x) + BitVec.ofNat 32 (100352 * (x 0).val)

/-- The list's first `16 t` columns, and the next sixteen of its first `j` rows, are in place. -/
def Filled (r₀ : ℕ) (hr : r₀ ≤ 13) (f6 : Buf (Elt F) (a6.view.loc (V d c i))) (t j : ℕ) (f7 : Buf (Elt F) (a7.view.loc (V d c i))) : Prop :=
  ∀ x : S13x512.Idx, ((x 1).val < 16 * t ∨ ((x 1).val < 16 * t + 16 ∧ (x 0).val < j)) →
    a7.view.read (Elt F) f7 x = lst a6 d r₀ hr f6 x

theorem filled_step (r₀ : ℕ) (hr : r₀ ≤ 13) (f6 : Buf (Elt F) (a6.view.loc (V d c i))) (t j : ℕ) (hj : j < 13) (ht : t < 32)
    (e6 : o6 j = ![r₀ + j, 16 * t]) (e7 : o7 j = ![j, 16 * t]) (f7 : Buf (Elt F) (a7.view.loc (V d c i))) (hf : Filled a6 a7 d r₀ hr f6 t j f7) :
    Filled a6 a7 d r₀ hr f6 t (j + 1)
      ((a7.access (Rect.unit (s := S13x512) (o7 j) S1x16.size (h7 j))).write (Elt F) f7
        (fillPay (F := F) j (a6.view.readAt (Elt F) (Rect.unit (s := S26x512) (o6 j) S1x16.size (h6 j)).toLoadRect f6)) Finset.univ) := by
  have p0 : o6 j 0 = r₀ + j := congrFun e6 0
  have p1 : o6 j 1 = 16 * t := congrFun e6 1
  have q0 : o7 j 0 = j := congrFun e7 0
  have q1 : o7 j 1 = 16 * t := congrFun e7 1
  intro x hx
  by_cases hmem : (x 0).val = j ∧ 16 * t ≤ (x 1).val ∧ (x 1).val < 16 * t + 16
  · obtain ⟨h0, h1, h2⟩ := hmem
    let y : S1x16.Idx := fun | 0 => ⟨0, Nat.one_pos⟩ | 1 => ⟨(x 1).val - 16 * t, by show _ < 16; omega⟩
    have ey : (Rect.unit (s := S13x512) (o7 j) S1x16.size (h7 j)).emb y = x := by
      funext a
      apply Fin.ext
      rw [emb_unit]
      match a with
      | 0 => show o7 j 0 + 0 = (x 0).val; omega
      | 1 => show o7 j 1 + ((x 1).val - 16 * t) = (x 1).val; omega
    have e := View.read_write_of_mem (v := a7.access (Rect.unit (s := S13x512) (o7 j) S1x16.size (h7 j))) (Val := Elt F) f7
      (fillPay (F := F) j (a6.view.readAt (Elt F) (Rect.unit (s := S26x512) (o6 j) S1x16.size (h6 j)).toLoadRect f6)) (Finset.mem_univ y)
    have e' : a7.view.read (Elt F) ((a7.access (Rect.unit (s := S13x512) (o7 j) S1x16.size (h7 j))).write (Elt F) f7
        (fillPay (F := F) j (a6.view.readAt (Elt F) (Rect.unit (s := S26x512) (o6 j) S1x16.size (h6 j)).toLoadRect f6)) Finset.univ)
        ((Rect.unit (s := S13x512) (o7 j) S1x16.size (h7 j)).emb y) = _ := e
    rw [ey] at e'
    rw [e', fillPay_apply]
    unfold lst
    rw [h0]
    congr 1
    show a6.view.read (Elt F) f6 ((Rect.unit (s := S26x512) (o6 j) S1x16.size (h6 j)).emb y) = _
    congr 1
    funext a
    apply Fin.ext
    rw [emb_unit]
    match a with
    | 0 => show o6 j 0 + 0 = r₀ + (x 0).val; omega
    | 1 => show o6 j 1 + ((x 1).val - 16 * t) = (x 1).val; omega
  · have hn : a7.view.emb x ∉ (a7.access (Rect.unit (s := S13x512) (o7 j) S1x16.size (h7 j))).setOn Finset.univ := by
      intro h
      obtain ⟨y, -, hy⟩ := Finset.mem_map.1 h
      have hy' : (Rect.unit (s := S13x512) (o7 j) S1x16.size (h7 j)).emb y = x := a7.view.emb.injective hy
      refine hmem ?_
      have l0 : (y 0).val < 1 := (y 0).isLt
      have l1 : (y 1).val < 16 := (y 1).isLt
      have k0 := congrArg (fun x : S13x512.Idx => (x 0).val) hy'
      have k1 := congrArg (fun x : S13x512.Idx => (x 1).val) hy'
      rw [emb_unit] at k0 k1
      change o7 j 0 + (y 0).val = (x 0).val at k0
      change o7 j 1 + (y 1).val = (x 1).val at k1
      omega
    have e : a7.view.read (Elt F) ((a7.access (Rect.unit (s := S13x512) (o7 j) S1x16.size (h7 j))).write (Elt F) f7
        (fillPay (F := F) j (a6.view.readAt (Elt F) (Rect.unit (s := S26x512) (o6 j) S1x16.size (h6 j)).toLoadRect f6)) Finset.univ) x
        = a7.view.read (Elt F) f7 x := by
      rw [View.read_apply, View.read_apply]
      exact congrArg _ (View.write_of_not_mem _ _ _ hn)
    rw [e]
    exact hf x (by omega)

/-- A trip of the loop, from row `j` on. -/
theorem wp_fills (r₀ : ℕ) (hr : r₀ ≤ 13) (f6 : Buf (Elt F) (a6.view.loc (V d c i))) (t : ℕ) (ht : t < 32)
    (e6 : ∀ j < 13, o6 j = ![r₀ + j, 16 * t]) (e7 : ∀ j < 13, o7 j = ![j, 16 * t]) {α : Type}
    (k : Prog (TpuEff nD τ sig (Elt F) Λ₀ (V d c i).2) α) (Q : α → sProp 𝕄) :
    ∀ n j, j + n = 13 →
    iprop((a6.view.loc (V d c i) ↦[a6.view.set]{fullShare} f6)
        ∗ (∃ f7 : Buf (Elt F) (a7.view.loc (V d c i)), ⌜Filled a6 a7 d r₀ hr f6 t j f7⌝ ∗ a7.view.loc (V d c i) ↦[a7.view.set]{fullShare} f7)
        ∗ ((a6.view.loc (V d c i) ↦[a6.view.set]{fullShare} f6)
            -∗ (∃ f7 : Buf (Elt F) (a7.view.loc (V d c i)), ⌜Filled a6 a7 d r₀ hr f6 (t + 1) 0 f7⌝ ∗ a7.view.loc (V d c i) ↦[a7.view.set]{fullShare} f7)
            -∗ wp frame (wpE (defs₀ (F := F)) 𝒱₀ (V d c i) none) Set.univ k Q))
      ⊢ wp frame (wpE (defs₀ (F := F)) 𝒱₀ (V d c i) none) Set.univ (fills (c := c) (i := i) a6 a7 o6 h6 o7 h7 k n j) Q := by
  intro n
  induction n with
  | zero =>
    intro j hj
    iintro ⟨H6, ⟨%f7, %hf, H7⟩, Hk⟩
    iapply Hk $$ H6 [H7]
    iexists f7
    isplitr
    · ipureintro
      intro x hx
      have l : (x 0).val < 13 := (x 0).isLt
      exact hf x (by omega)
    · iexact H7
  | succ n ih =>
    intro j hj
    unfold fills
    iintro ⟨H6, ⟨%f7, %hf, H7⟩, Hk⟩
    iapply (wp_load 𝒱₀ (V d c i) none Set.univ (S := a6.view.set) (View.setOn_subset_set _ _)) $$ H6
    iintro H6
    iapply (wp_load 𝒱₀ (V d c i) none Set.univ (S := a7.view.set) (View.setOn_subset_set _ _)) $$ H7
    iintro H7
    iapply (wp_store 𝒱₀ (V d c i) none Set.univ (m := a7) (r := Rect.unit (s := S13x512) (o7 j) S1x16.size (h7 j)) (Mk := Finset.univ) (S := a7.view.set) (f := f7)
      (View.set_slice_subset a7.view (Rect.unit (s := S13x512) (o7 j) S1x16.size (h7 j)))) $$ H7
    iintro H7
    iapply (ih (j + 1) (by omega))
    isplitl [H6]; · iexact H6
    isplitl [H7]
    · iexists _
      isplitr
      · ipureintro
        exact filled_step a6 a7 o6 h6 o7 h7 d r₀ hr f6 t j (by omega) ht (e6 j (by omega)) (e7 j (by omega)) f7 hf
      · iexact H7
    iexact Hk

end Fill

section FillEq

variable [FloatOps F]

/-- Where row `j` of a trip reads and writes, as the first task's text spells it. -/
def o6A (t : Fin k3_t1_loop.trips) : ℕ → Fin 2 → ℕ
  | 0 => k3_off3 t | 1 => k3_off5 t | 2 => k3_off7 t | 3 => k3_off9 t | 4 => k3_off11 t | 5 => k3_off13 t | 6 => k3_off15 t
  | 7 => k3_off17 t | 8 => k3_off19 t | 9 => k3_off21 t | 10 => k3_off23 t | 11 => k3_off25 t | _ => k3_off27 t
def o7A (t : Fin k3_t1_loop.trips) : ℕ → Fin 2 → ℕ
  | 0 => k3_off4 t | 1 => k3_off6 t | 2 => k3_off8 t | 3 => k3_off10 t | 4 => k3_off12 t | 5 => k3_off14 t | 6 => k3_off16 t
  | 7 => k3_off18 t | 8 => k3_off20 t | 9 => k3_off22 t | 10 => k3_off24 t | 11 => k3_off26 t | _ => k3_off28 t
theorem h6A (t : Fin k3_t1_loop.trips) : ∀ j a, o6A t j a + S1x16.size a ≤ S26x512.size a
  | 0 => k3_off3_inb t | 1 => k3_off5_inb t | 2 => k3_off7_inb t | 3 => k3_off9_inb t | 4 => k3_off11_inb t | 5 => k3_off13_inb t | 6 => k3_off15_inb t
  | 7 => k3_off17_inb t | 8 => k3_off19_inb t | 9 => k3_off21_inb t | 10 => k3_off23_inb t | 11 => k3_off25_inb t | _ + 12 => k3_off27_inb t
theorem h7A (t : Fin k3_t1_loop.trips) : ∀ j a, o7A t j a + S1x16.size a ≤ S13x512.size a
  | 0 => k3_off4_inb t | 1 => k3_off6_inb t | 2 => k3_off8_inb t | 3 => k3_off10_inb t | 4 => k3_off12_inb t | 5 => k3_off14_inb t | 6 => k3_off16_inb t
  | 7 => k3_off18_inb t | 8 => k3_off20_inb t | 9 => k3_off22_inb t | 10 => k3_off24_inb t | 11 => k3_off26_inb t | _ + 12 => k3_off28_inb t

set_option maxRecDepth 20000 in
theorem k3_t1_body_fills (i : grid3.Coords) (arg2 : Memref sig .scVector .hbm S1304576 .f32) (harg2 : arg2.IsWhole) (arg3 : Memref sig .scVector .hbm S26x16384 .i32) (harg3 : arg3.IsWhole) (arg4 : Memref sig .scVector .hbm S16384 .f32) (harg4 : arg4.IsWhole) (arg5 : Memref sig .scVector .hbm S16384 .f32) (harg5 : arg5.IsWhole) (arg6 : Memref sig .scVector .vmem S26x512 .i32) (harg6 : arg6.IsWhole) (arg7 : Memref sig .scVector .vmem S13x512 .i32) (harg7 : arg7.IsWhole) (arg8 : Memref sig .scVector .vmem S13x512 .f32) (harg8 : arg8.IsWhole) (arg9 : Memref sig .scVector .vmem S512 .f32) (harg9 : arg9.IsWhole) (arg10 : Memref sig .scVector .vmem S512 .f32) (harg10 : arg10.IsWhole) (arg11 : DmaSems sig S_) (v527_r0 : DmaSems sig S_) (v527_r1 : DmaSems sig S_) (v527_r2 : DmaSems sig S_) :
    k3_t1_body (F := F) i arg2 harg2 arg3 harg3 arg4 harg4 arg5 harg5 arg6 harg6 arg7 harg7 arg8 harg8 arg9 harg9 arg10 harg10 arg11 v527_r0 v527_r1 v527_r2 = fun t _ => fills arg6 arg7 (o6A t) (h6A t) (o7A t) (h7A t) (pure 0#32) 13 0 := rfl

/-- Where row `j` of a trip reads and writes, as the second task's text spells it. -/
def o6B (t : Fin k4_t1_loop.trips) : ℕ → Fin 2 → ℕ
  | 0 => k4_off3 t | 1 => k4_off5 t | 2 => k4_off7 t | 3 => k4_off9 t | 4 => k4_off11 t | 5 => k4_off13 t | 6 => k4_off15 t
  | 7 => k4_off17 t | 8 => k4_off19 t | 9 => k4_off21 t | 10 => k4_off23 t | 11 => k4_off25 t | _ => k4_off27 t
def o7B (t : Fin k4_t1_loop.trips) : ℕ → Fin 2 → ℕ
  | 0 => k4_off4 t | 1 => k4_off6 t | 2 => k4_off8 t | 3 => k4_off10 t | 4 => k4_off12 t | 5 => k4_off14 t | 6 => k4_off16 t
  | 7 => k4_off18 t | 8 => k4_off20 t | 9 => k4_off22 t | 10 => k4_off24 t | 11 => k4_off26 t | _ => k4_off28 t
theorem h6B (t : Fin k4_t1_loop.trips) : ∀ j a, o6B t j a + S1x16.size a ≤ S26x512.size a
  | 0 => k4_off3_inb t | 1 => k4_off5_inb t | 2 => k4_off7_inb t | 3 => k4_off9_inb t | 4 => k4_off11_inb t | 5 => k4_off13_inb t | 6 => k4_off15_inb t
  | 7 => k4_off17_inb t | 8 => k4_off19_inb t | 9 => k4_off21_inb t | 10 => k4_off23_inb t | 11 => k4_off25_inb t | _ + 12 => k4_off27_inb t
theorem h7B (t : Fin k4_t1_loop.trips) : ∀ j a, o7B t j a + S1x16.size a ≤ S13x512.size a
  | 0 => k4_off4_inb t | 1 => k4_off6_inb t | 2 => k4_off8_inb t | 3 => k4_off10_inb t | 4 => k4_off12_inb t | 5 => k4_off14_inb t | 6 => k4_off16_inb t
  | 7 => k4_off18_inb t | 8 => k4_off20_inb t | 9 => k4_off22_inb t | 10 => k4_off24_inb t | 11 => k4_off26_inb t | _ + 12 => k4_off28_inb t

set_option maxRecDepth 20000 in
theorem k4_t1_body_fills (i : grid4.Coords) (arg2 : Memref sig .scVector .hbm S1304576 .f32) (harg2 : arg2.IsWhole) (arg3 : Memref sig .scVector .hbm S26x16384 .i32) (harg3 : arg3.IsWhole) (arg4 : Memref sig .scVector .hbm S16384 .f32) (harg4 : arg4.IsWhole) (arg5 : Memref sig .scVector .hbm S16384 .f32) (harg5 : arg5.IsWhole) (arg6 : Memref sig .scVector .vmem S26x512 .i32) (harg6 : arg6.IsWhole) (arg7 : Memref sig .scVector .vmem S13x512 .i32) (harg7 : arg7.IsWhole) (arg8 : Memref sig .scVector .vmem S13x512 .f32) (harg8 : arg8.IsWhole) (arg9 : Memref sig .scVector .vmem S512 .f32) (harg9 : arg9.IsWhole) (arg10 : Memref sig .scVector .vmem S512 .f32) (harg10 : arg10.IsWhole) (arg11 : DmaSems sig S_) (v527_r0 : DmaSems sig S_) (v527_r1 : DmaSems sig S_) (v527_r2 : DmaSems sig S_) :
    k4_t1_body (F := F) i arg2 harg2 arg3 harg3 arg4 harg4 arg5 harg5 arg6 harg6 arg7 harg7 arg8 harg8 arg9 harg9 arg10 harg10 arg11 v527_r0 v527_r1 v527_r2 = fun t _ => fills arg6 arg7 (o6B t) (h6B t) (o7B t) (h7B t) (pure 0#32) 13 0 := rfl

end FillEq

end Cert.Proof.Run
-- ==== Proof.Sum.lean ====
module

public import proofs.«01_k».proof.Proof.Fill

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

/-! ## The sums: sixteen columns a trip -/

/-- The thirteen terms' sum, in the order in which a task adds them. -/
def tree13 [FloatOps F] (f : ℕ → F .f32) : F .f32 :=
  FloatOps.addf
    (FloatOps.addf (FloatOps.addf (FloatOps.addf (f 0) (f 1)) (FloatOps.addf (f 2) (f 3)))
      (FloatOps.addf (FloatOps.addf (f 4) (f 5)) (FloatOps.addf (f 6) (f 7))))
    (FloatOps.addf (FloatOps.addf (FloatOps.addf (f 8) (f 9)) (FloatOps.addf (f 10) (f 11))) (f 12))

section Sum

variable [FloatOps F] {c : Fin τ.nSC} {i : Fin τ.nSub}
variable (a8 : Memref sig .scVector .vmem S13x512 .f32) (a9 a10 : Memref sig .scVector .vmem S512 .f32)
variable (o8 : ℕ → Fin 2 → ℕ) (h8 : ∀ j a, o8 j a + S1x16.size a ≤ S13x512.size a)
variable (o1 : Fin 1 → ℕ) (h1 : ∀ a, o1 a + S16.size a ≤ S512.size a)

/-- What a trip writes: the thirteen rows' sum, and the running row's words. -/
def sumPay (g : ℕ → Vec F S1x16 .f32) (b : Vec F S16 .f32) : FVec F S16 .f32 :=
  shapeCast S16 (addf (fun y => tree13 fun j => (shapeCast S16 (g j) shapeCasts_S1x16_S16 : FVec F S16 .f32) y)
    (shapeCast S16 b shapeCasts_S16_S16)) shapeCasts_S16_S16

/-- Column `y` of a row of sixteen. -/
def rowOf (y : S16.Idx) : S1x16.Idx
  | 0 => ⟨0, Nat.one_pos⟩
  | 1 => y 0

theorem sumPay_apply (g : ℕ → Vec F S1x16 .f32) (b : Vec F S16 .f32) (y : S16.Idx) :
    sumPay (F := F) g b y = FloatOps.addf (tree13 fun j => (g j (rowOf y) : F .f32)) (b y) := by
  have e : Shape.reshapeEquiv shapeCasts_S1x16_S16 y = rowOf y := by
    apply Shape.reshapeEquiv_eq_of_rowMajor
    rw [Shape.rowMajor_val_one, Shape.rowMajor_val_two]
    show 0 * 16 + (y 0).val = (y 0).val
    omega
  show FloatOps.addf (tree13 fun j => g j (Shape.reshapeEquiv shapeCasts_S1x16_S16 (Shape.reshapeEquiv _ y))) (b (Shape.reshapeEquiv _ (Shape.reshapeEquiv _ y))) = _
  rw [Shape.reshapeEquiv_reshapeEquiv]
  simp only [Shape.reshapeEquiv_self]
  rw [e]

/-- Row `j`'s words, once read. -/
def put (g : ℕ → Vec F S1x16 .f32) (j : ℕ) (v : Vec F S1x16 .f32) : ℕ → Vec F S1x16 .f32 := fun x => bif x == j then v else g x

/-- The next `n` rows' words read, from row `j` on, then the sum written. -/
def loads {α : Type} (k : Prog (TpuEff nD τ sig (Elt F) Λ₀ (.scVector c i)) α) : ℕ → ℕ → (ℕ → Vec F S1x16 .f32) → Prog (TpuEff nD τ sig (Elt F) Λ₀ (.scVector c i)) α
  | 0, _, g =>
    .op (.load a9 (Rect.unit (s := S512) o1 S16.size h1).toLoadRect (View.loadsAt_vmem h_S16)) fun b =>
    .op (.load a10 (Rect.unit (s := S512) o1 S16.size h1).toLoadRect (View.loadsAt_vmem h_S16)) fun _ =>
    .op (.store a10 (Rect.unit (s := S512) o1 S16.size h1) (sumPay (F := F) g b) Finset.univ (View.stores_vmem_bits_univ h_S16 rfl) (.inl rfl)) fun _ => k
  | n + 1, j, g =>
    .op (.load a8 (Rect.unit (s := S13x512) (o8 j) S1x16.size (h8 j)).toLoadRect (View.loadsAt_vmem h_S1x16)) fun v =>
    loads k n (j + 1) (put (F := F) g j v)

/-- A whole trip. -/
def sums {α : Type} (k : Prog (TpuEff nD τ sig (Elt F) Λ₀ (.scVector c i)) α) : Prog (TpuEff nD τ sig (Elt F) Λ₀ (.scVector c i)) α :=
  .op (.load a8 (Rect.unit (s := S13x512) (o8 0) S1x16.size (h8 0)).toLoadRect (View.loadsAt_vmem h_S1x16)) fun v =>
    loads (c := c) (i := i) a8 a9 a10 o8 h8 o1 h1 k 12 1 (fun _ => v)

variable (d : Dev nD)

local notation "𝕄" => MT nD τ sig (HIx 2) (Elt F) ℕ UU ℕ

/-- Place `(j, x)` of the gathered rows (the last row beyond it). -/
def colIx (j : ℕ) (x : S512.Idx) : S13x512.Idx
  | 0 => ⟨min j 12, by show _ < 13; omega⟩
  | 1 => x 0

/-- Column `x`'s total. -/
def total (f8 : Buf (Elt F) (a8.view.loc (V d c i))) (f9 : Buf (Elt F) (a9.view.loc (V d c i))) (x : S512.Idx) : F .f32 :=
  FloatOps.addf (tree13 fun j => (a8.view.read (Elt F) f8 (colIx j x) : F .f32)) (a9.view.read (Elt F) f9 x)

/-- The first `16 t` totals are in place. -/
def Summed (f8 : Buf (Elt F) (a8.view.loc (V d c i))) (f9 : Buf (Elt F) (a9.view.loc (V d c i))) (t : ℕ) (f10 : Buf (Elt F) (a10.view.loc (V d c i))) : Prop :=
  ∀ x : S512.Idx, (x 0).val < 16 * t → a10.view.read (Elt F) f10 x = total a8 a9 d f8 f9 x

/-- Rows below `j` have been read. -/
def Read (f8 : Buf (Elt F) (a8.view.loc (V d c i))) (t : ℕ) (j : ℕ) (g : ℕ → Vec F S1x16 .f32) : Prop :=
  ∀ r < j, ∀ (y : S16.Idx) (x : S512.Idx), (x 0).val = 16 * t + (y 0).val → g r (rowOf y) = a8.view.read (Elt F) f8 (colIx r x)

theorem read_row (f8 : Buf (Elt F) (a8.view.loc (V d c i))) (t : ℕ) (j : ℕ) (hj : j < 13) (e8 : o8 j = ![j, 16 * t])
    (y : S16.Idx) (x : S512.Idx) (hx : (x 0).val = 16 * t + (y 0).val) :
    a8.view.readAt (Elt F) (Rect.unit (s := S13x512) (o8 j) S1x16.size (h8 j)).toLoadRect f8 (rowOf y) = a8.view.read (Elt F) f8 (colIx j x) := by
  have p0 : o8 j 0 = j := congrFun e8 0
  have p1 : o8 j 1 = 16 * t := congrFun e8 1
  show a8.view.read (Elt F) f8 ((Rect.unit (s := S13x512) (o8 j) S1x16.size (h8 j)).emb (rowOf y)) = _
  congr 1
  funext a
  apply Fin.ext
  rw [emb_unit]
  match a with
  | 0 =>
    show o8 j 0 + 0 = min j 12
    omega
  | 1 => show o8 j 1 + (y 0).val = (x 0).val; omega

theorem summed_step (f8 : Buf (Elt F) (a8.view.loc (V d c i))) (f9 : Buf (Elt F) (a9.view.loc (V d c i))) (t : ℕ) (e1 : o1 = ![16 * t])
    (g : ℕ → Vec F S1x16 .f32) (hg : Read a8 d f8 t 13 g) (f10 : Buf (Elt F) (a10.view.loc (V d c i))) (hf : Summed a8 a9 a10 d f8 f9 t f10) :
    Summed a8 a9 a10 d f8 f9 (t + 1) ((a10.access (Rect.unit (s := S512) o1 S16.size h1)).write (Elt F) f10
        (sumPay (F := F) g (a9.view.readAt (Elt F) (Rect.unit (s := S512) o1 S16.size h1).toLoadRect f9)) Finset.univ) := by
  have p0 : o1 0 = 16 * t := congrFun e1 0
  intro x hx
  by_cases hmem : 16 * t ≤ (x 0).val
  · let y : S16.Idx := fun | 0 => ⟨(x 0).val - 16 * t, by show _ < 16; omega⟩
    have hxy : (x 0).val = 16 * t + (y 0).val := by show _ = 16 * t + ((x 0).val - 16 * t); omega
    have ey : (Rect.unit (s := S512) o1 S16.size h1).emb y = x := by
      funext a
      apply Fin.ext
      rw [emb_unit]
      match a with
      | 0 => show o1 0 + (y 0).val = (x 0).val; omega
    have e' : a10.view.read (Elt F) ((a10.access (Rect.unit (s := S512) o1 S16.size h1)).write (Elt F) f10
        (sumPay (F := F) g (a9.view.readAt (Elt F) (Rect.unit (s := S512) o1 S16.size h1).toLoadRect f9)) Finset.univ)
        ((Rect.unit (s := S512) o1 S16.size h1).emb y) = _ :=
      View.read_write_of_mem (v := a10.access (Rect.unit (s := S512) o1 S16.size h1)) (Val := Elt F) f10
        (sumPay (F := F) g (a9.view.readAt (Elt F) (Rect.unit (s := S512) o1 S16.size h1).toLoadRect f9)) (Finset.mem_univ y)
    rw [ey] at e'
    rw [e', sumPay_apply]
    have eb : a9.view.readAt (Elt F) (Rect.unit (s := S512) o1 S16.size h1).toLoadRect f9 y = a9.view.read (Elt F) f9 x := by
      show a9.view.read (Elt F) f9 ((Rect.unit (s := S512) o1 S16.size h1).emb y) = _
      rw [ey]
    have eg : ∀ j < 13, g j (rowOf y) = a8.view.read (Elt F) f8 (colIx j x) := fun j hj => hg j hj y x hxy
    unfold total
    rw [eb]
    unfold tree13
    simp only [eg _ (show 0 < 13 by decide), eg _ (show 1 < 13 by decide), eg _ (show 2 < 13 by decide), eg _ (show 3 < 13 by decide), eg _ (show 4 < 13 by decide),
      eg _ (show 5 < 13 by decide), eg _ (show 6 < 13 by decide), eg _ (show 7 < 13 by decide), eg _ (show 8 < 13 by decide), eg _ (show 9 < 13 by decide),
      eg _ (show 10 < 13 by decide), eg _ (show 11 < 13 by decide), eg _ (show 12 < 13 by decide)]
  · have hn : a10.view.emb x ∉ (a10.access (Rect.unit (s := S512) o1 S16.size h1)).setOn Finset.univ := by
      intro h
      obtain ⟨y, -, hy⟩ := Finset.mem_map.1 h
      have hy' : (Rect.unit (s := S512) o1 S16.size h1).emb y = x := a10.view.emb.injective hy
      have k0 := congrArg (fun x : S512.Idx => (x 0).val) hy'
      rw [emb_unit] at k0
      change o1 0 + (y 0).val = (x 0).val at k0
      omega
    have e : a10.view.read (Elt F) ((a10.access (Rect.unit (s := S512) o1 S16.size h1)).write (Elt F) f10
        (sumPay (F := F) g (a9.view.readAt (Elt F) (Rect.unit (s := S512) o1 S16.size h1).toLoadRect f9)) Finset.univ) x = a10.view.read (Elt F) f10 x := by
      rw [View.read_apply, View.read_apply]
      exact congrArg _ (View.write_of_not_mem _ _ _ hn)
    rw [e]
    exact hf x (by omega)

/-- A trip of the second loop, once rows below `j` have been read. -/
theorem wp_loads (f8 : Buf (Elt F) (a8.view.loc (V d c i))) (f9 : Buf (Elt F) (a9.view.loc (V d c i))) (t : ℕ)
    (e8 : ∀ j < 13, o8 j = ![j, 16 * t]) (e1 : o1 = ![16 * t]) {α : Type}
    (k : Prog (TpuEff nD τ sig (Elt F) Λ₀ (V d c i).2) α) (Q : α → sProp 𝕄) :
    ∀ n j g, j + n = 13 → Read a8 d f8 t j g →
    iprop((a8.view.loc (V d c i) ↦[a8.view.set]{fullShare} f8)
        ∗ (a9.view.loc (V d c i) ↦[a9.view.set]{fullShare} f9)
        ∗ (∃ f10 : Buf (Elt F) (a10.view.loc (V d c i)), ⌜Summed a8 a9 a10 d f8 f9 t f10⌝ ∗ a10.view.loc (V d c i) ↦[a10.view.set]{fullShare} f10)
        ∗ ((a8.view.loc (V d c i) ↦[a8.view.set]{fullShare} f8) -∗ (a9.view.loc (V d c i) ↦[a9.view.set]{fullShare} f9)
            -∗ (∃ f10 : Buf (Elt F) (a10.view.loc (V d c i)), ⌜Summed a8 a9 a10 d f8 f9 (t + 1) f10⌝ ∗ a10.view.loc (V d c i) ↦[a10.view.set]{fullShare} f10)
            -∗ wp frame (wpE (defs₀ (F := F)) 𝒱₀ (V d c i) none) Set.univ k Q))
      ⊢ wp frame (wpE (defs₀ (F := F)) 𝒱₀ (V d c i) none) Set.univ (loads (c := c) (i := i) a8 a9 a10 o8 h8 o1 h1 k n j g) Q := by
  intro n
  induction n with
  | zero =>
    intro j g hj hg
    have hj' : j = 13 := by omega
    subst hj'
    unfold loads
    iintro ⟨H8, H9, ⟨%f10, %hf, H10⟩, Hk⟩
    iapply (wp_load 𝒱₀ (V d c i) none Set.univ (S := a9.view.set) (View.setOn_subset_set _ _)) $$ H9
    iintro H9
    iapply (wp_load 𝒱₀ (V d c i) none Set.univ (S := a10.view.set) (View.setOn_subset_set _ _)) $$ H10
    iintro H10
    iapply (wp_store 𝒱₀ (V d c i) none Set.univ (m := a10) (r := Rect.unit (s := S512) o1 S16.size h1) (Mk := Finset.univ) (S := a10.view.set) (f := f10)
      (View.set_slice_subset a10.view (Rect.unit (s := S512) o1 S16.size h1))) $$ H10
    iintro H10
    iapply Hk $$ H8 H9 [H10]
    iexists _
    isplitr
    · ipureintro
      exact summed_step a8 a9 a10 o1 h1 d f8 f9 t e1 g hg f10 hf
    · iexact H10
  | succ n ih =>
    intro j g hj hg
    unfold loads
    iintro ⟨H8, H9, H10, Hk⟩
    iapply (wp_load 𝒱₀ (V d c i) none Set.univ (S := a8.view.set) (View.setOn_subset_set _ _)) $$ H8
    iintro H8
    iapply (ih (j + 1) _ (by omega) ?hg)
    case hg =>
      intro r hr y x hx
      unfold put
      by_cases e : r = j
      · subst e
        rw [beq_self_eq_true, cond_true]
        exact read_row a8 o8 h8 d f8 t r (by omega) (e8 r (by omega)) y x hx
      · rw [show (r == j) = false from beq_eq_false_iff_ne.2 e, cond_false]
        exact hg r (by omega) y x hx
    isplitl [H8]; · iexact H8
    isplitl [H9]; · iexact H9
    isplitl [H10]; · iexact H10
    iexact Hk

/-- A whole trip of the second loop. -/
theorem wp_sums (f8 : Buf (Elt F) (a8.view.loc (V d c i))) (f9 : Buf (Elt F) (a9.view.loc (V d c i))) (t : ℕ)
    (e8 : ∀ j < 13, o8 j = ![j, 16 * t]) (e1 : o1 = ![16 * t]) {α : Type}
    (k : Prog (TpuEff nD τ sig (Elt F) Λ₀ (V d c i).2) α) (Q : α → sProp 𝕄) :
    iprop((a8.view.loc (V d c i) ↦[a8.view.set]{fullShare} f8)
        ∗ (a9.view.loc (V d c i) ↦[a9.view.set]{fullShare} f9)
        ∗ (∃ f10 : Buf (Elt F) (a10.view.loc (V d c i)), ⌜Summed a8 a9 a10 d f8 f9 t f10⌝ ∗ a10.view.loc (V d c i) ↦[a10.view.set]{fullShare} f10)
        ∗ ((a8.view.loc (V d c i) ↦[a8.view.set]{fullShare} f8) -∗ (a9.view.loc (V d c i) ↦[a9.view.set]{fullShare} f9)
            -∗ (∃ f10 : Buf (Elt F) (a10.view.loc (V d c i)), ⌜Summed a8 a9 a10 d f8 f9 (t + 1) f10⌝ ∗ a10.view.loc (V d c i) ↦[a10.view.set]{fullShare} f10)
            -∗ wp frame (wpE (defs₀ (F := F)) 𝒱₀ (V d c i) none) Set.univ k Q))
      ⊢ wp frame (wpE (defs₀ (F := F)) 𝒱₀ (V d c i) none) Set.univ (sums (c := c) (i := i) a8 a9 a10 o8 h8 o1 h1 k) Q := by
  unfold sums
  iintro ⟨H8, H9, H10, Hk⟩
  iapply (wp_load 𝒱₀ (V d c i) none Set.univ (S := a8.view.set) (View.setOn_subset_set _ _)) $$ H8
  iintro H8
  iapply (wp_loads a8 a9 a10 o8 h8 o1 h1 d f8 f9 t e8 e1 k Q 12 1 _ rfl ?hg)
  case hg =>
    intro r hr y x hx
    have hr' : r = 0 := by omega
    subst hr'
    exact read_row a8 o8 h8 d f8 t 0 (by omega) (e8 0 (by omega)) y x hx
  isplitl [H8]; · iexact H8
  isplitl [H9]; · iexact H9
  isplitl [H10]; · iexact H10
  iexact Hk

end Sum

section SumEq

variable [FloatOps F]

/-- Where row `j` of a trip is read, as the first task's text spells it. -/
def o8A (t : Fin k3_t2_loop.trips) : ℕ → Fin 2 → ℕ
  | 0 => k3_off29 t | 1 => k3_off30 t | 2 => k3_off31 t | 3 => k3_off32 t | 4 => k3_off33 t | 5 => k3_off34 t | 6 => k3_off35 t
  | 7 => k3_off36 t | 8 => k3_off37 t | 9 => k3_off38 t | 10 => k3_off39 t | 11 => k3_off40 t | _ => k3_off41 t
theorem h8A (t : Fin k3_t2_loop.trips) : ∀ j a, o8A t j a + S1x16.size a ≤ S13x512.size a
  | 0 => k3_off29_inb t | 1 => k3_off30_inb t | 2 => k3_off31_inb t | 3 => k3_off32_inb t | 4 => k3_off33_inb t | 5 => k3_off34_inb t | 6 => k3_off35_inb t
  | 7 => k3_off36_inb t | 8 => k3_off37_inb t | 9 => k3_off38_inb t | 10 => k3_off39_inb t | 11 => k3_off40_inb t | _ + 12 => k3_off41_inb t

set_option maxRecDepth 20000 in
theorem k3_t2_body_sums (i : grid3.Coords) (arg2 : Memref sig .scVector .hbm S1304576 .f32) (harg2 : arg2.IsWhole) (arg3 : Memref sig .scVector .hbm S26x16384 .i32) (harg3 : arg3.IsWhole) (arg4 : Memref sig .scVector .hbm S16384 .f32) (harg4 : arg4.IsWhole) (arg5 : Memref sig .scVector .hbm S16384 .f32) (harg5 : arg5.IsWhole) (arg6 : Memref sig .scVector .vmem S26x512 .i32) (harg6 : arg6.IsWhole) (arg7 : Memref sig .scVector .vmem S13x512 .i32) (harg7 : arg7.IsWhole) (arg8 : Memref sig .scVector .vmem S13x512 .f32) (harg8 : arg8.IsWhole) (arg9 : Memref sig .scVector .vmem S512 .f32) (harg9 : arg9.IsWhole) (arg10 : Memref sig .scVector .vmem S512 .f32) (harg10 : arg10.IsWhole) (arg11 : DmaSems sig S_) (v527_r0 : DmaSems sig S_) (v527_r1 : DmaSems sig S_) (v527_r2 : DmaSems sig S_) :
    k3_t2_body (F := F) i arg2 harg2 arg3 harg3 arg4 harg4 arg5 harg5 arg6 harg6 arg7 harg7 arg8 harg8 arg9 harg9 arg10 harg10 arg11 v527_r0 v527_r1 v527_r2 = fun t _ => sums arg8 arg9 arg10 (o8A t) (h8A t) (k3_off42 t) (k3_off42_inb t) (pure 0#32) := rfl

/-- Where row `j` of a trip is read, as the second task's text spells it. -/
def o8B (t : Fin k4_t2_loop.trips) : ℕ → Fin 2 → ℕ
  | 0 => k4_off29 t | 1 => k4_off30 t | 2 => k4_off31 t | 3 => k4_off32 t | 4 => k4_off33 t | 5 => k4_off34 t | 6 => k4_off35 t
  | 7 => k4_off36 t | 8 => k4_off37 t | 9 => k4_off38 t | 10 => k4_off39 t | 11 => k4_off40 t | _ => k4_off41 t
theorem h8B (t : Fin k4_t2_loop.trips) : ∀ j a, o8B t j a + S1x16.size a ≤ S13x512.size a
  | 0 => k4_off29_inb t | 1 => k4_off30_inb t | 2 => k4_off31_inb t | 3 => k4_off32_inb t | 4 => k4_off33_inb t | 5 => k4_off34_inb t | 6 => k4_off35_inb t
  | 7 => k4_off36_inb t | 8 => k4_off37_inb t | 9 => k4_off38_inb t | 10 => k4_off39_inb t | 11 => k4_off40_inb t | _ + 12 => k4_off41_inb t

set_option maxRecDepth 20000 in
theorem k4_t2_body_sums (i : grid4.Coords) (arg2 : Memref sig .scVector .hbm S1304576 .f32) (harg2 : arg2.IsWhole) (arg3 : Memref sig .scVector .hbm S26x16384 .i32) (harg3 : arg3.IsWhole) (arg4 : Memref sig .scVector .hbm S16384 .f32) (harg4 : arg4.IsWhole) (arg5 : Memref sig .scVector .hbm S16384 .f32) (harg5 : arg5.IsWhole) (arg6 : Memref sig .scVector .vmem S26x512 .i32) (harg6 : arg6.IsWhole) (arg7 : Memref sig .scVector .vmem S13x512 .i32) (harg7 : arg7.IsWhole) (arg8 : Memref sig .scVector .vmem S13x512 .f32) (harg8 : arg8.IsWhole) (arg9 : Memref sig .scVector .vmem S512 .f32) (harg9 : arg9.IsWhole) (arg10 : Memref sig .scVector .vmem S512 .f32) (harg10 : arg10.IsWhole) (arg11 : DmaSems sig S_) (v527_r0 : DmaSems sig S_) (v527_r1 : DmaSems sig S_) (v527_r2 : DmaSems sig S_) :
    k4_t2_body (F := F) i arg2 harg2 arg3 harg3 arg4 harg4 arg5 harg5 arg6 harg6 arg7 harg7 arg8 harg8 arg9 harg9 arg10 harg10 arg11 v527_r0 v527_r1 v527_r2 = fun t _ => sums arg8 arg9 arg10 (o8B t) (h8B t) (k4_off42 t) (k4_off42_inb t) (pure 0#32) := rfl

end SumEq

end Cert.Proof.Run
-- ==== Proof.Task.lean ====
module

public import proofs.«01_k».proof.Proof.Sum

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

section Task

variable [FloatOps F]

local notation "𝕄" => MT nD τ sig (HIx 2) (Elt F) ℕ UU ℕ

/-- What a task owes, and what it has waited for: nothing new but cells at no level. -/
def owing (thr : Thread nD τ) (O : CellTallies nD τ sig (HIx 2)) (W : Waits sig (HIx 2)) : sProp 𝕄 :=
  iprop(∃ W', ⌜∀ p ∈ W', p ∈ W ∨ p.2 = (default : HIx 2)⌝ ∗ owes thr O W')

omit [FloatOps F] in
theorem owing_eq (thr : Thread nD τ) (O : CellTallies nD τ sig (HIx 2)) (W : Waits sig (HIx 2)) :
    (owing thr O W : sProp 𝕄) = iprop(∃ W', ⌜∀ p ∈ W', p ∈ W ∨ p.2 = (default : HIx 2)⌝ ∗ owes thr O W') := rfl

/-! ## A copy and its wait -/

theorem wp_sync {c : Fin τ.nSC} {i : Fin τ.nSub} (d : Dev nD) (O : CellTallies nD τ sig (HIx 2)) (W : Waits sig (HIx 2))
    {sp sp' : Space} {s : Shape} {e : EltTy} (src : Memref sig .scVector sp s e) (dst : Memref sig .scVector sp' s e) (sm : DmaSem sig)
    {hsrc : src.view.WordExact} {hdst : dst.view.WordExact} {hsem : DmaTarget.Typed (nD := nD) (p := (V d c i).2) sp (.dma sm) (.here dst)}
    {hsrc' : src.view.WordExact} {hdst' : dst.view.WordExact}
    (hN0 : 0 < dst.view.dmaCredit)
    (q : PosShare TreeShare) (fs : Buf (Elt F) (src.view.loc (V d c i))) (fd : Buf (Elt F) (dst.view.loc (V d c i)))
    {α : Type} (k : Prog (TpuEff nD τ sig (Elt F) Λ₀ (V d c i).2) α) (Q : α → sProp 𝕄) :
    iprop((src.view.loc (V d c i) ↦[src.view.set]{q} fs) ∗ (dst.view.loc (V d c i) ↦[dst.view.set]{fullShare} fd)
        ∗ semVal (V d c i, .dma sm) 0 ∗ owing (V d c i) O W ∗ MayWaits (V d c i) (default : HIx 2) O
        ∗ ((src.view.loc (V d c i) ↦[src.view.set]{q} fs)
            -∗ (dst.view.loc (V d c i) ↦[dst.view.set]{fullShare} (dst.view.write (Elt F) fd (src.view.read (Elt F) fs) Finset.univ))
            -∗ semVal (V d c i, .dma sm) 0 -∗ owing (V d c i) O W
            -∗ wp frame (wpE (defs₀ (F := F)) 𝒱₀ (V d c i) none) Set.univ k Q))
      ⊢ wp frame (wpE (defs₀ (F := F)) 𝒱₀ (V d c i) none) Set.univ
          (.op (.enqueueDma src (.here dst) (.dma sm) hsrc hdst hsem) fun _ => .op (.waitDma2 sm src dst hsrc' hdst') fun _ => k) Q := by
  unfold owing
  iintro ⟨Hs, Hd, Hv, ⟨%W', %hW, HO⟩, Hmw, Hk⟩
  iapply (Transfers.wp_dmaLocal EC 𝒱₀ (V d c i) none (default : HIx 2) dst.view.dmaCredit rfl hN0 (Finset.Subset.refl _)) $$ [Hs Hd Hv]
  · isplitl [Hs]; · iexact Hs
    isplitl [Hd]; · iexact Hd
    iexact Hv
  iintro Hfl
  iapply (Transfers.wp_waitLocalO EC 𝒱₀ (V d c i) none (default : HIx 2) rfl) $$ [Hfl HO Hmw]
  · isplitl [Hfl]; · iexact Hfl
    isplitl [HO]; · iexact HO
    iapply (Transfers.MayWaits.elim (SemLoc.dma sm)) $$ Hmw
  iintro ⟨⟨Hd, Hs⟩, Hv, HO⟩
  iapply Hk $$ Hs Hd Hv
  iexists _; isplitr
  swap; · iexact HO
  ipureintro; intro p hp
  rcases Finset.mem_insert.mp hp with hp | hp
  · exact .inr (hp ▸ rfl)
  · exact hW p hp

/-! ## The two loops, whole -/

section Loops

variable {c : Fin τ.nSC} {i : Fin τ.nSub} (d : Dev nD)

/-- The loop that makes the list. -/
theorem wp_loopFill (L : Scf.Loop 32) (ok : L.OK) (hL : L.trips = 32)
    (a6 : Memref sig .scVector .vmem S26x512 .i32) (a7 : Memref sig .scVector .vmem S13x512 .i32)
    (o6 : Fin L.trips → ℕ → Fin 2 → ℕ) (h6 : ∀ t j a, o6 t j a + S1x16.size a ≤ S26x512.size a)
    (o7 : Fin L.trips → ℕ → Fin 2 → ℕ) (h7 : ∀ t j a, o7 t j a + S1x16.size a ≤ S13x512.size a)
    (r₀ : ℕ) (hr : r₀ ≤ 13) (e6 : ∀ t, ∀ j < 13, o6 t j = ![r₀ + j, 16 * t.val]) (e7 : ∀ t, ∀ j < 13, o7 t j = ![j, 16 * t.val])
    (f6 : Buf (Elt F) (a6.view.loc (V d c i))) (f7 : Buf (Elt F) (a7.view.loc (V d c i)))
    {α : Type} (k : BitVec 32 → Prog (TpuEff nD τ sig (Elt F) Λ₀ (V d c i).2) α) (Q : α → sProp 𝕄) :
    iprop((a6.view.loc (V d c i) ↦[a6.view.set]{fullShare} f6) ∗ (a7.view.loc (V d c i) ↦[a7.view.set]{fullShare} f7)
        ∗ (∀ w, (a6.view.loc (V d c i) ↦[a6.view.set]{fullShare} f6)
            -∗ (∃ f7 : Buf (Elt F) (a7.view.loc (V d c i)), ⌜∀ x, a7.view.read (Elt F) f7 x = lst a6 d r₀ hr f6 x⌝ ∗ a7.view.loc (V d c i) ↦[a7.view.set]{fullShare} f7)
            -∗ wp frame (wpE (defs₀ (F := F)) 𝒱₀ (V d c i) none) Set.univ (k w) Q))
      ⊢ wp frame (wpE (defs₀ (F := F)) 𝒱₀ (V d c i) none) Set.univ
          (Scf.Loop.for L ok 0#32 (fun t _ => fills (c := c) (i := i) a6 a7 (o6 t) (h6 t) (o7 t) (h7 t) (pure 0#32) 13 0) >>= k) Q := by
  iintro ⟨H6, H7, Hk⟩
  iapply (Scf.wp_for_bind frame (wpE (defs₀ (F := F)) 𝒱₀ (V d c i) none) Set.univ L.lb L.ub L.st ok 0#32 _
    (fun t _ => iprop((a6.view.loc (V d c i) ↦[a6.view.set]{fullShare} f6)
      ∗ ∃ f7 : Buf (Elt F) (a7.view.loc (V d c i)), ⌜Filled a6 a7 d r₀ hr f6 t 0 f7⌝ ∗ a7.view.loc (V d c i) ↦[a7.view.set]{fullShare} f7)) ?hb) $$ [H6 H7]
  case hb =>
    intro t acc
    iintro ⟨H6, H7⟩
    iapply (wp_fills a6 a7 (o6 t) (h6 t) (o7 t) (h7 t) d r₀ hr f6 t.val (lt_of_lt_of_eq t.isLt hL) (e6 t) (e7 t) (pure 0#32) _ 13 0 rfl)
    isplitl [H6]; · iexact H6
    isplitl [H7]; · iexact H7
    iintro H6 H7
    rw [wp_pure]
    imodintro
    isplitl [H6] <;> iassumption
  · isplitl [H6]; · iexact H6
    iexists f7
    isplitr
    · ipureintro; intro x hx; omega
    · iexact H7
  iintro %w ⟨H6, %f7', %hf, H7⟩
  iapply Hk $$ %w H6
  iexists f7'
  isplitr
  · ipureintro
    intro x
    have l : (x 1).val < 512 := (x 1).isLt
    exact hf x (.inl (by change _ < 16 * L.trips; omega))
  · iexact H7

/-- The loop that adds up. -/
theorem wp_loopSum (L : Scf.Loop 32) (ok : L.OK) (hL : L.trips = 32)
    (a8 : Memref sig .scVector .vmem S13x512 .f32) (a9 a10 : Memref sig .scVector .vmem S512 .f32)
    (o8 : Fin L.trips → ℕ → Fin 2 → ℕ) (h8 : ∀ t j a, o8 t j a + S1x16.size a ≤ S13x512.size a)
    (o1 : Fin L.trips → Fin 1 → ℕ) (h1 : ∀ t a, o1 t a + S16.size a ≤ S512.size a)
    (e8 : ∀ t, ∀ j < 13, o8 t j = ![j, 16 * t.val]) (e1 : ∀ t, o1 t = ![16 * t.val])
    (f8 : Buf (Elt F) (a8.view.loc (V d c i))) (f9 : Buf (Elt F) (a9.view.loc (V d c i))) (f10 : Buf (Elt F) (a10.view.loc (V d c i)))
    {α : Type} (k : BitVec 32 → Prog (TpuEff nD τ sig (Elt F) Λ₀ (V d c i).2) α) (Q : α → sProp 𝕄) :
    iprop((a8.view.loc (V d c i) ↦[a8.view.set]{fullShare} f8) ∗ (a9.view.loc (V d c i) ↦[a9.view.set]{fullShare} f9)
        ∗ (a10.view.loc (V d c i) ↦[a10.view.set]{fullShare} f10)
        ∗ (∀ w, (a8.view.loc (V d c i) ↦[a8.view.set]{fullShare} f8) -∗ (a9.view.loc (V d c i) ↦[a9.view.set]{fullShare} f9)
            -∗ (∃ f10 : Buf (Elt F) (a10.view.loc (V d c i)), ⌜∀ x, a10.view.read (Elt F) f10 x = total a8 a9 d f8 f9 x⌝ ∗ a10.view.loc (V d c i) ↦[a10.view.set]{fullShare} f10)
            -∗ wp frame (wpE (defs₀ (F := F)) 𝒱₀ (V d c i) none) Set.univ (k w) Q))
      ⊢ wp frame (wpE (defs₀ (F := F)) 𝒱₀ (V d c i) none) Set.univ
          (Scf.Loop.for L ok 0#32 (fun t _ => sums (c := c) (i := i) a8 a9 a10 (o8 t) (h8 t) (o1 t) (h1 t) (pure 0#32)) >>= k) Q := by
  iintro ⟨H8, H9, H10, Hk⟩
  iapply (Scf.wp_for_bind frame (wpE (defs₀ (F := F)) 𝒱₀ (V d c i) none) Set.univ L.lb L.ub L.st ok 0#32 _
    (fun t _ => iprop((a8.view.loc (V d c i) ↦[a8.view.set]{fullShare} f8) ∗ (a9.view.loc (V d c i) ↦[a9.view.set]{fullShare} f9)
      ∗ ∃ f10 : Buf (Elt F) (a10.view.loc (V d c i)), ⌜Summed a8 a9 a10 d f8 f9 t f10⌝ ∗ a10.view.loc (V d c i) ↦[a10.view.set]{fullShare} f10)) ?hb) $$ [H8 H9 H10]
  case hb =>
    intro t acc
    iintro ⟨H8, H9, H10⟩
    iapply (wp_sums a8 a9 a10 (o8 t) (h8 t) (o1 t) (h1 t) d f8 f9 t.val (e8 t) (e1 t) (pure 0#32) _)
    isplitl [H8]; · iexact H8
    isplitl [H9]; · iexact H9
    isplitl [H10]; · iexact H10
    iintro H8 H9 H10
    rw [wp_pure]
    imodintro
    isplitl [H8]; · iexact H8
    isplitl [H9] <;> iassumption
  · isplitl [H8]; · iexact H8
    isplitl [H9]; · iexact H9
    iexists f10
    isplitr
    · ipureintro; intro x hx; omega
    · iexact H10
  iintro %w ⟨H8, H9, %f10', %hf, H10⟩
  iapply Hk $$ %w H8 H9
  iexists f10'
  isplitr
  · ipureintro
    intro x
    have l : (x 0).val < 512 := (x 0).isLt
    exact hf x (by change _ < 16 * L.trips; omega)
  · iexact H10

end Loops

/-! ## The gathers, whole -/

section Gathers

variable (d : Dev nD) (c : Fin τ.nSC) (i : Fin τ.nSub)
variable (a2 : Memref sig .scVector .hbm S1304576 .f32) (a7 : Memref sig .scVector .vmem S13x512 .i32) (a8 : Memref sig .scVector .vmem S13x512 .f32)
variable (q : PosShare TreeShare) (ft : Buf (Elt F) (a2.view.loc (V d c i))) (f7 : Buf (Elt F) (a7.view.loc (V d c i))) (f8 : Buf (Elt F) (a8.view.loc (V d c i)))
variable (hlt : ∀ x, (a7.view.read (Elt F) f7 x).toNat < 1304576)

theorem ready_all :
    iprop(((allOf a2).view.loc (V d c i) ↦[(allOf a2).view.set]{q} ft) ∗ (a8.view.loc (V d c i) ↦[a8.view.set]{fullShare} f8) ∗ (a7.view.loc (V d c i) ↦[a7.view.set]{fullShare} f7))
      ⊢ bigSep (pending 0) (ready d c i a2 a7 a8 q ft f7 f8) := by
  rw [pending_zero]
  iintro ⟨H2, H8, H7⟩
  ihave H2 := (Entails.of_eq (pointsTo_piecesOf _ ft pos52 q)) $$ H2
  ihave H8 := (Entails.of_eq (pointsTo_chunks d c i a8 fullShare _)) $$ H8
  ihave H7 := (Entails.of_eq (pointsTo_chunks d c i a7 fullShare _)) $$ H7
  ihave H := Transfers.bigSep_sep_in _ _ _ $$ [H8 H7]; · isplitl [H8] <;> iassumption
  ihave H := Transfers.bigSep_sep_in _ _ _ $$ [H2 H]; · isplitl [H2] <;> iassumption
  iexact H

instance delivers_storable (r : Fin (52 * 128)) : Storable (upEmb : UEmb _ 𝕄) (delivers d c i a2 a7 a8 q ft f7 f8 hlt r) := by
  unfold delivers deliver GatherBatch.rowDelivery
  infer_instance

end Gathers

end Task

end Cert.Proof.Run
-- ==== Proof.PhaseEq.lean ====
/-
  The printed text of the two SparseCore tasks is the recursion of Phase.lean.
-/
module

public import proofs.«01_k».proof.Proof.Phase

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

section Eq

variable [FloatOps F]

set_option maxRecDepth 20000 in
theorem k3_part24_phase (i : grid3.Coords) (arg2 : Memref sig .scVector .hbm S1304576 .f32) (harg2 : arg2.IsWhole) (arg3 : Memref sig .scVector .hbm S26x16384 .i32) (harg3 : arg3.IsWhole) (arg4 : Memref sig .scVector .hbm S16384 .f32) (harg4 : arg4.IsWhole) (arg5 : Memref sig .scVector .hbm S16384 .f32) (harg5 : arg5.IsWhole) (arg6 : Memref sig .scVector .vmem S26x512 .i32) (harg6 : arg6.IsWhole) (arg7 : Memref sig .scVector .vmem S13x512 .i32) (harg7 : arg7.IsWhole) (arg8 : Memref sig .scVector .vmem S13x512 .f32) (harg8 : arg8.IsWhole) (arg9 : Memref sig .scVector .vmem S512 .f32) (harg9 : arg9.IsWhole) (arg10 : Memref sig .scVector .vmem S512 .f32) (harg10 : arg10.IsWhole) (arg11 : DmaSems sig S_) (v527_r0 : DmaSems sig S_) (v527_r1 : DmaSems sig S_) (v527_r2 : DmaSems sig S_) :
    k3_part24 (F := F) i arg2 harg2 arg3 harg3 arg4 harg4 arg5 harg5 arg6 harg6 arg7 harg7 arg8 harg8 arg9 harg9 arg10 harg10 arg11 v527_r0 v527_r1 v527_r2
      = k3_part5 i arg2 harg2 arg3 harg3 arg4 harg4 arg5 harg5 arg6 harg6 arg7 harg7 arg8 harg8 arg9 harg9 arg10 harg10 arg11 v527_r0 v527_r1 v527_r2 >>= fun _ =>
        issues arg2 arg7 arg8 arg11.sem 50 2 <| waits arg2 arg8 arg11.sem 52 0 <|
          Scf.Loop.for k3_t2_loop k3_t2_ok 0#32 (k3_t2_body i arg2 harg2 arg3 harg3 arg4 harg4 arg5 harg5 arg6 harg6 arg7 harg7 arg8 harg8 arg9 harg9 arg10 harg10 arg11 v527_r0 v527_r1 v527_r2) >>= fun _ => pure ⟨⟩ := rfl

set_option maxRecDepth 20000 in
theorem k4_part24_phase (i : grid4.Coords) (arg2 : Memref sig .scVector .hbm S1304576 .f32) (harg2 : arg2.IsWhole) (arg3 : Memref sig .scVector .hbm S26x16384 .i32) (harg3 : arg3.IsWhole) (arg4 : Memref sig .scVector .hbm S16384 .f32) (harg4 : arg4.IsWhole) (arg5 : Memref sig .scVector .hbm S16384 .f32) (harg5 : arg5.IsWhole) (arg6 : Memref sig .scVector .vmem S26x512 .i32) (harg6 : arg6.IsWhole) (arg7 : Memref sig .scVector .vmem S13x512 .i32) (harg7 : arg7.IsWhole) (arg8 : Memref sig .scVector .vmem S13x512 .f32) (harg8 : arg8.IsWhole) (arg9 : Memref sig .scVector .vmem S512 .f32) (harg9 : arg9.IsWhole) (arg10 : Memref sig .scVector .vmem S512 .f32) (harg10 : arg10.IsWhole) (arg11 : DmaSems sig S_) (v527_r0 : DmaSems sig S_) (v527_r1 : DmaSems sig S_) (v527_r2 : DmaSems sig S_) :
    k4_part24 (F := F) i arg2 harg2 arg3 harg3 arg4 harg4 arg5 harg5 arg6 harg6 arg7 harg7 arg8 harg8 arg9 harg9 arg10 harg10 arg11 v527_r0 v527_r1 v527_r2
      = k4_part5 i arg2 harg2 arg3 harg3 arg4 harg4 arg5 harg5 arg6 harg6 arg7 harg7 arg8 harg8 arg9 harg9 arg10 harg10 arg11 v527_r0 v527_r1 v527_r2 >>= fun _ =>
        issues arg2 arg7 arg8 arg11.sem 50 2 <| waits arg2 arg8 arg11.sem 52 0 <|
          Scf.Loop.for k4_t2_loop k4_t2_ok 0#32 (k4_t2_body i arg2 harg2 arg3 harg3 arg4 harg4 arg5 harg5 arg6 harg6 arg7 harg7 arg8 harg8 arg9 harg9 arg10 harg10 arg11 v527_r0 v527_r1 v527_r2) >>= fun _ => pure ⟨⟩ := rfl

end Eq

end Cert.Proof.Run
-- ==== Proof.Whole.lean ====
module

public import proofs.«01_k».proof.Proof.Task
public import proofs.«01_k».proof.Proof.PhaseEq

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

section Whole

variable [FloatOps F]

local notation "𝕄" => MT nD τ sig (HIx 2) (Elt F) ℕ UU ℕ

section Prog

variable {c : Fin τ.nSC} {i : Fin τ.nSub}
variable (a2 : Memref sig .scVector .hbm S1304576 .f32) (a3 : Memref sig .scVector .hbm S26x512 .i32) (a4 a5 : Memref sig .scVector .hbm S512 .f32)
variable (a6 : Memref sig .scVector .vmem S26x512 .i32) (a7 : Memref sig .scVector .vmem S13x512 .i32)
variable (a8 : Memref sig .scVector .vmem S13x512 .f32) (a9 a10 : Memref sig .scVector .vmem S512 .f32)
variable (w3 : a3.view.WordExact) (w4 : a4.view.WordExact) (w5 : a5.view.WordExact) (w6 : a6.view.WordExact) (w9 : a9.view.WordExact) (w10 : a10.view.WordExact)
variable (sm r0 r1 r2 : DmaSem sig)
variable (L1 : Scf.Loop 32) (ok1 : L1.OK) (L2 : Scf.Loop 32) (ok2 : L2.OK)
variable (o6 : Fin L1.trips → ℕ → Fin 2 → ℕ) (h6 : ∀ t j a, o6 t j a + S1x16.size a ≤ S26x512.size a)
variable (o7 : Fin L1.trips → ℕ → Fin 2 → ℕ) (h7 : ∀ t j a, o7 t j a + S1x16.size a ≤ S13x512.size a)
variable (o8 : Fin L2.trips → ℕ → Fin 2 → ℕ) (h8 : ∀ t j a, o8 t j a + S1x16.size a ≤ S13x512.size a)
variable (o1 : Fin L2.trips → Fin 1 → ℕ) (h1 : ∀ t a, o1 t a + S16.size a ≤ S512.size a)

/-- A task up to its second gather. -/
def opening : Prog (TpuEff nD τ sig (Elt F) Λ₀ (.scVector c i)) PUnit :=
  .op (.enqueueDma a3 (.here a6) (.dma r0) w3 w6 ⟨Or.inl rfl, trivial⟩) fun _ =>
  .op (.waitDma2 r0 a3 a6 w3 w6) fun _ =>
  .op (.enqueueDma a4 (.here a9) (.dma r1) w4 w9 ⟨Or.inl rfl, trivial⟩) fun _ =>
  .op (.waitDma2 r1 a4 a9 w4 w9) fun _ =>
  Scf.Loop.for L1 ok1 0#32 (fun t _ => fills a6 a7 (o6 t) (h6 t) (o7 t) (h7 t) (pure 0#32) 13 0) >>= fun _ =>
  issues a2 a7 a8 sm 2 0 (pure ⟨⟩)

/-- The other gathers, the waits, and the sums. -/
def middle : Prog (TpuEff nD τ sig (Elt F) Λ₀ (.scVector c i)) PUnit :=
  issues a2 a7 a8 sm 50 2 <| waits a2 a8 sm 52 0 <|
    Scf.Loop.for L2 ok2 0#32 (fun t _ => sums a8 a9 a10 (o8 t) (h8 t) (o1 t) (h1 t) (pure 0#32)) >>= fun _ => pure ⟨⟩

/-- The results' copy. -/
def closing : Prog (TpuEff nD τ sig (Elt F) Λ₀ (.scVector c i)) PUnit :=
  .op (.enqueueDma a10 (.here a5) (.dma r2) w10 w5 ⟨Or.inl rfl, trivial⟩) fun _ =>
  .op (.waitDma2 r2 a10 a5 w10 w5) fun _ => pure ⟨⟩

/-- A whole task. -/
def task : Prog (TpuEff nD τ sig (Elt F) Λ₀ (.scVector c i)) PUnit :=
  (opening (F := F) a2 a3 a4 a6 a7 a8 a9 w3 w4 w6 w9 sm r0 r1 L1 ok1 o6 h6 o7 h7 >>= fun _ => middle a2 a7 a8 a9 a10 sm L2 ok2 o8 h8 o1 h1) >>= fun _ =>
    closing a5 a10 w5 w10 r2

end Prog

/-! ## The two printed tasks -/

set_option maxRecDepth 20000 in
theorem cc3_body_task (i : grid3.Coords) (arg2 : Memref sig .scVector .hbm S1304576 .f32) (harg2 : arg2.IsWhole) (arg3 : Memref sig .scVector .hbm S26x16384 .i32) (harg3 : arg3.IsWhole) (arg4 : Memref sig .scVector .hbm S16384 .f32) (harg4 : arg4.IsWhole) (arg5 : Memref sig .scVector .hbm S16384 .f32) (harg5 : arg5.IsWhole) (arg6 : Memref sig .scVector .vmem S26x512 .i32) (harg6 : arg6.IsWhole) (arg7 : Memref sig .scVector .vmem S13x512 .i32) (harg7 : arg7.IsWhole) (arg8 : Memref sig .scVector .vmem S13x512 .f32) (harg8 : arg8.IsWhole) (arg9 : Memref sig .scVector .vmem S512 .f32) (harg9 : arg9.IsWhole) (arg10 : Memref sig .scVector .vmem S512 .f32) (harg10 : arg10.IsWhole) (arg11 : DmaSems sig S_) (v527_r0 : DmaSems sig S_) (v527_r1 : DmaSems sig S_) (v527_r2 : DmaSems sig S_) :
    cc3_body (F := F) i arg2 harg2 arg3 harg3 arg4 harg4 arg5 harg5 arg6 harg6 arg7 harg7 arg8 harg8 arg9 harg9 arg10 harg10 arg11 v527_r0 v527_r1 v527_r2
      = task arg2 (arg3.slice (Rect.unit (s := S26x16384) (k3_off1 i) S26x512.size (k3_off1_inb i)) (fun _ => rfl))
        (arg4.slice (Rect.unit (s := S16384) (k3_off2 i) S512.size (k3_off2_inb i)) (fun _ => rfl))
        (arg5.slice (Rect.unit (s := S16384) (k3_off2 i) S512.size (k3_off2_inb i)) (fun _ => rfl))
        arg6 arg7 arg8 arg9 arg10 (View.wordExact_bits rfl) (View.wordExact_bits rfl) (View.wordExact_bits rfl) harg6.wordExact harg9.wordExact harg10.wordExact
        arg11.sem v527_r0.sem v527_r1.sem v527_r2.sem k3_t1_loop k3_t1_ok k3_t2_loop k3_t2_ok
        o6A h6A o7A h7A o8A h8A k3_off42 k3_off42_inb := by
  have e5 : k3_part5 (F := F) i arg2 harg2 arg3 harg3 arg4 harg4 arg5 harg5 arg6 harg6 arg7 harg7 arg8 harg8 arg9 harg9 arg10 harg10 arg11 v527_r0 v527_r1 v527_r2
      = opening arg2 (arg3.slice (Rect.unit (s := S26x16384) (k3_off1 i) S26x512.size (k3_off1_inb i)) (fun _ => rfl))
        (arg4.slice (Rect.unit (s := S16384) (k3_off2 i) S512.size (k3_off2_inb i)) (fun _ => rfl))
        arg6 arg7 arg8 arg9 (View.wordExact_bits rfl) (View.wordExact_bits rfl) harg6.wordExact harg9.wordExact
        arg11.sem v527_r0.sem v527_r1.sem k3_t1_loop k3_t1_ok o6A h6A o7A h7A := by
    unfold opening
    rw [← k3_t1_body_fills i arg2 harg2 arg3 harg3 arg4 harg4 arg5 harg5 arg6 harg6 arg7 harg7 arg8 harg8 arg9 harg9 arg10 harg10 arg11 v527_r0 v527_r1 v527_r2]
    rfl
  unfold task middle
  rw [← k3_t2_body_sums i arg2 harg2 arg3 harg3 arg4 harg4 arg5 harg5 arg6 harg6 arg7 harg7 arg8 harg8 arg9 harg9 arg10 harg10 arg11 v527_r0 v527_r1 v527_r2,
    ← e5, ← k3_part24_phase i arg2 harg2 arg3 harg3 arg4 harg4 arg5 harg5 arg6 harg6 arg7 harg7 arg8 harg8 arg9 harg9 arg10 harg10 arg11 v527_r0 v527_r1 v527_r2]
  rfl

set_option maxRecDepth 20000 in
theorem cc4_body_task (i : grid4.Coords) (arg2 : Memref sig .scVector .hbm S1304576 .f32) (harg2 : arg2.IsWhole) (arg3 : Memref sig .scVector .hbm S26x16384 .i32) (harg3 : arg3.IsWhole) (arg4 : Memref sig .scVector .hbm S16384 .f32) (harg4 : arg4.IsWhole) (arg5 : Memref sig .scVector .hbm S16384 .f32) (harg5 : arg5.IsWhole) (arg6 : Memref sig .scVector .vmem S26x512 .i32) (harg6 : arg6.IsWhole) (arg7 : Memref sig .scVector .vmem S13x512 .i32) (harg7 : arg7.IsWhole) (arg8 : Memref sig .scVector .vmem S13x512 .f32) (harg8 : arg8.IsWhole) (arg9 : Memref sig .scVector .vmem S512 .f32) (harg9 : arg9.IsWhole) (arg10 : Memref sig .scVector .vmem S512 .f32) (harg10 : arg10.IsWhole) (arg11 : DmaSems sig S_) (v527_r0 : DmaSems sig S_) (v527_r1 : DmaSems sig S_) (v527_r2 : DmaSems sig S_) :
    cc4_body (F := F) i arg2 harg2 arg3 harg3 arg4 harg4 arg5 harg5 arg6 harg6 arg7 harg7 arg8 harg8 arg9 harg9 arg10 harg10 arg11 v527_r0 v527_r1 v527_r2
      = task arg2 (arg3.slice (Rect.unit (s := S26x16384) (k4_off1 i) S26x512.size (k4_off1_inb i)) (fun _ => rfl))
        (arg4.slice (Rect.unit (s := S16384) (k4_off2 i) S512.size (k4_off2_inb i)) (fun _ => rfl))
        (arg5.slice (Rect.unit (s := S16384) (k4_off2 i) S512.size (k4_off2_inb i)) (fun _ => rfl))
        arg6 arg7 arg8 arg9 arg10 (View.wordExact_bits rfl) (View.wordExact_bits rfl) (View.wordExact_bits rfl) harg6.wordExact harg9.wordExact harg10.wordExact
        arg11.sem v527_r0.sem v527_r1.sem v527_r2.sem k4_t1_loop k4_t1_ok k4_t2_loop k4_t2_ok
        o6B h6B o7B h7B o8B h8B k4_off42 k4_off42_inb := by
  have e5 : k4_part5 (F := F) i arg2 harg2 arg3 harg3 arg4 harg4 arg5 harg5 arg6 harg6 arg7 harg7 arg8 harg8 arg9 harg9 arg10 harg10 arg11 v527_r0 v527_r1 v527_r2
      = opening arg2 (arg3.slice (Rect.unit (s := S26x16384) (k4_off1 i) S26x512.size (k4_off1_inb i)) (fun _ => rfl))
        (arg4.slice (Rect.unit (s := S16384) (k4_off2 i) S512.size (k4_off2_inb i)) (fun _ => rfl))
        arg6 arg7 arg8 arg9 (View.wordExact_bits rfl) (View.wordExact_bits rfl) harg6.wordExact harg9.wordExact
        arg11.sem v527_r0.sem v527_r1.sem k4_t1_loop k4_t1_ok o6B h6B o7B h7B := by
    unfold opening
    rw [← k4_t1_body_fills i arg2 harg2 arg3 harg3 arg4 harg4 arg5 harg5 arg6 harg6 arg7 harg7 arg8 harg8 arg9 harg9 arg10 harg10 arg11 v527_r0 v527_r1 v527_r2]
    rfl
  unfold task middle
  rw [← k4_t2_body_sums i arg2 harg2 arg3 harg3 arg4 harg4 arg5 harg5 arg6 harg6 arg7 harg7 arg8 harg8 arg9 harg9 arg10 harg10 arg11 v527_r0 v527_r1 v527_r2,
    ← e5, ← k4_part24_phase i arg2 harg2 arg3 harg3 arg4 harg4 arg5 harg5 arg6 harg6 arg7 harg7 arg8 harg8 arg9 harg9 arg10 harg10 arg11 v527_r0 v527_r1 v527_r2]
  rfl

/-! ## What a task computes -/

section Value

variable (d : Dev nD) {c : Fin τ.nSC} {i : Fin τ.nSub}
variable (a2 : Memref sig .scVector .hbm S1304576 .f32) (a3 : Memref sig .scVector .hbm S26x512 .i32) (a4 : Memref sig .scVector .hbm S512 .f32)

/-- The table's place for row `j` of column `x`. -/
def placeOf (r₀ : ℕ) (hr : r₀ ≤ 13) (f3 : Buf (Elt F) (a3.view.loc (V d c i))) (x : S13x512.Idx) : BitVec 32 :=
  a3.view.read (Elt F) f3 (rowIx r₀ hr x) + BitVec.ofNat 32 (100352 * (x 0).val)

/-- Column `x`'s result: the thirteen gathered words' sum, and the word there before. -/
def answer (r₀ : ℕ) (hr : r₀ ≤ 13) (ft : Buf (Elt F) (a2.view.loc (V d c i))) (f3 : Buf (Elt F) (a3.view.loc (V d c i))) (f4 : Buf (Elt F) (a4.view.loc (V d c i)))
    (x : S512.Idx) : F .f32 :=
  FloatOps.addf (tree13 fun j => (a2.view.read (Elt F) ft (tblIx (placeOf d a3 r₀ hr f3 (colIx j x))) : F .f32)) (a4.view.read (Elt F) f4 x)

end Value

section Wp

variable (d : Dev nD) {c : Fin τ.nSC} {i : Fin τ.nSub}
variable (a2 : Memref sig .scVector .hbm S1304576 .f32) (a3 : Memref sig .scVector .hbm S26x512 .i32) (a4 a5 : Memref sig .scVector .hbm S512 .f32)
variable (a6 : Memref sig .scVector .vmem S26x512 .i32) (a7 : Memref sig .scVector .vmem S13x512 .i32)
variable (a8 : Memref sig .scVector .vmem S13x512 .f32) (a9 a10 : Memref sig .scVector .vmem S512 .f32)
variable (w3 : a3.view.WordExact) (w4 : a4.view.WordExact) (w5 : a5.view.WordExact) (w6 : a6.view.WordExact) (w9 : a9.view.WordExact) (w10 : a10.view.WordExact)
variable (sm r0 r1 r2 : DmaSem sig)
variable (L1 : Scf.Loop 32) (ok1 : L1.OK) (L2 : Scf.Loop 32) (ok2 : L2.OK)
variable (o6 : Fin L1.trips → ℕ → Fin 2 → ℕ) (h6 : ∀ t j a, o6 t j a + S1x16.size a ≤ S26x512.size a)
variable (o7 : Fin L1.trips → ℕ → Fin 2 → ℕ) (h7 : ∀ t j a, o7 t j a + S1x16.size a ≤ S13x512.size a)
variable (o8 : Fin L2.trips → ℕ → Fin 2 → ℕ) (h8 : ∀ t j a, o8 t j a + S1x16.size a ≤ S13x512.size a)
variable (o1 : Fin L2.trips → Fin 1 → ℕ) (h1 : ∀ t a, o1 t a + S16.size a ≤ S512.size a)

theorem wp_task (hL1 : L1.trips = 32) (hL2 : L2.trips = 32)
    (r₀ : ℕ) (hr : r₀ ≤ 13) (e6 : ∀ t, ∀ j < 13, o6 t j = ![r₀ + j, 16 * t.val]) (e7 : ∀ t, ∀ j < 13, o7 t j = ![j, 16 * t.val])
    (e8 : ∀ t, ∀ j < 13, o8 t j = ![j, 16 * t.val]) (e1 : ∀ t, o1 t = ![16 * t.val])
    (n6 : 0 < a6.view.dmaCredit) (n9 : 0 < a9.view.dmaCredit) (n5 : 0 < a5.view.dmaCredit)
    (N : ℕ) (hN0 : 0 < N)
    (hN : ∀ (t : ℕ) (r), ((chunk a8 t).slice (S128.rowRect gathers_S1304576_S128.axis' r) (S128.stride_rowRect gathers_S1304576_S128.axis' r)).view.dmaCredit = N)
    (hJ : ∀ t : ℕ, (chunk a8 t).view.dmaCredit = 128 * N)
    (O : CellTallies nD τ sig (HIx 2)) (W : Waits sig (HIx 2))
    (q q3 q4 : PosShare TreeShare)
    (ft : Buf (Elt F) (a2.view.loc (V d c i))) (f3 : Buf (Elt F) (a3.view.loc (V d c i))) (f4 : Buf (Elt F) (a4.view.loc (V d c i))) (f5 : Buf (Elt F) (a5.view.loc (V d c i)))
    (f6 : Buf (Elt F) (a6.view.loc (V d c i))) (f7 : Buf (Elt F) (a7.view.loc (V d c i))) (f8 : Buf (Elt F) (a8.view.loc (V d c i)))
    (f9 : Buf (Elt F) (a9.view.loc (V d c i))) (f10 : Buf (Elt F) (a10.view.loc (V d c i)))
    (hlt : ∀ x, (placeOf d a3 r₀ hr f3 x).toNat < 1304576) (Q : PUnit.{1} → sProp 𝕄) :
    iprop(MayWaits (V d c i) (default : HIx 2) O
        ∗ ((allOf a2).view.loc (V d c i) ↦[(allOf a2).view.set]{q} ft) ∗ (a3.view.loc (V d c i) ↦[a3.view.set]{q3} f3)
        ∗ (a4.view.loc (V d c i) ↦[a4.view.set]{q4} f4) ∗ (a5.view.loc (V d c i) ↦[a5.view.set]{fullShare} f5)
        ∗ (a6.view.loc (V d c i) ↦[a6.view.set]{fullShare} f6) ∗ (a7.view.loc (V d c i) ↦[a7.view.set]{fullShare} f7)
        ∗ (a8.view.loc (V d c i) ↦[a8.view.set]{fullShare} f8) ∗ (a9.view.loc (V d c i) ↦[a9.view.set]{fullShare} f9)
        ∗ (a10.view.loc (V d c i) ↦[a10.view.set]{fullShare} f10)
        ∗ (semVal (V d c i, .dma sm) 0 ∗ semVal (V d c i, .dma r0) 0 ∗ semVal (V d c i, .dma r1) 0 ∗ semVal (V d c i, .dma r2) 0)
        ∗ owing (V d c i) O W
        ∗ (((allOf a2).view.loc (V d c i) ↦[(allOf a2).view.set]{q} ft) -∗ (a3.view.loc (V d c i) ↦[a3.view.set]{q3} f3)
            -∗ (a4.view.loc (V d c i) ↦[a4.view.set]{q4} f4)
            -∗ (∃ f5 : Buf (Elt F) (a5.view.loc (V d c i)), ⌜∀ x, a5.view.read (Elt F) f5 x = answer d a2 a3 a4 r₀ hr ft f3 f4 x⌝ ∗ a5.view.loc (V d c i) ↦[a5.view.set]{fullShare} f5)
            -∗ (∃ f, a6.view.loc (V d c i) ↦[a6.view.set]{fullShare} f) -∗ (∃ f, a7.view.loc (V d c i) ↦[a7.view.set]{fullShare} f)
            -∗ (∃ f, a8.view.loc (V d c i) ↦[a8.view.set]{fullShare} f) -∗ (∃ f, a9.view.loc (V d c i) ↦[a9.view.set]{fullShare} f)
            -∗ (∃ f, a10.view.loc (V d c i) ↦[a10.view.set]{fullShare} f)
            -∗ (semVal (V d c i, .dma sm) 0 ∗ semVal (V d c i, .dma r0) 0 ∗ semVal (V d c i, .dma r1) 0 ∗ semVal (V d c i, .dma r2) 0)
            -∗ owing (V d c i) O W -∗ Q ⟨⟩))
      ⊢ wp frame (wpE (defs₀ (F := F)) 𝒱₀ (V d c i) none) Set.univ
          (task (F := F) (c := c) (i := i) a2 a3 a4 a5 a6 a7 a8 a9 a10 w3 w4 w5 w6 w9 w10 sm r0 r1 r2 L1 ok1 L2 ok2 o6 h6 o7 h7 o8 h8 o1 h1) Q := by
  unfold task
  rw [wp_bind, wp_bind]
  iintro ⟨#Hmw, H2, H3, H4, H5, H6, H7, H8, H9, H10, ⟨Hsm, Hr0, Hr1, Hr2⟩, HO, Hk⟩
  unfold opening
  iapply (wp_sync d O W a3 a6 r0 n6 q3 f3 f6)
  isplitl [H3]; · iexact H3
  isplitl [H6]; · iexact H6
  isplitl [Hr0]; · iexact Hr0
  isplitl [HO]; · iexact HO
  isplitr; · iexact Hmw
  iintro H3 H6 Hr0 HO
  iapply (wp_sync d O W a4 a9 r1 n9 q4 f4 f9)
  isplitl [H4]; · iexact H4
  isplitl [H9]; · iexact H9
  isplitl [Hr1]; · iexact Hr1
  isplitl [HO]; · iexact HO
  isplitr; · iexact Hmw
  iintro H4 H9 Hr1 HO
  iapply (wp_loopFill d L1 ok1 hL1 a6 a7 o6 h6 o7 h7 r₀ hr e6 e7 _ f7)
  isplitl [H6]; · iexact H6
  isplitl [H7]; · iexact H7
  iintro %w H6 ⟨%f7', %hf7, H7⟩
  have hf7' : ∀ x, a7.view.read (Elt F) f7' x = placeOf d a3 r₀ hr f3 x := by
    intro x
    rw [hf7 x]
    unfold lst placeOf
    rw [View.read_write_univ]
  have hlt' : ∀ x, (a7.view.read (Elt F) f7' x).toNat < 1304576 := fun x => by rw [hf7' x]; exact hlt x
  ihave Hrd := (ready_all d c i a2 a7 a8 q ft f7' f8) $$ [H2 H8 H7]
  · isplitl [H2]; · iexact H2
    isplitl [H8] <;> iassumption
  imod (batch_alloc' EC (V d c i) (default : HIx 2) N (delivers d c i a2 a7 a8 q ft f7' f8 hlt')) $$ Hsm with HB
  iapply (wp_issues d c i a2 a7 a8 q ft f7' f8 hlt' sm N hN _ _ 2 0 (by decide))
  isplitl [HB]; · iexact HB
  isplitl [Hrd]; · iexact Hrd
  iintro HB Hrd
  rw [wp_pure]
  imodintro
  unfold middle
  iapply (wp_issues d c i a2 a7 a8 q ft f7' f8 hlt' sm N hN _ _ 50 2 (by decide))
  isplitl [HB]; · iexact HB
  isplitl [Hrd]; · iexact Hrd
  iintro HB -
  iapply (wp_waits d c i a2 a8 sm N hJ O W (delivers d c i a2 a7 a8 q ft f7' f8 hlt') _ _ 52 0 (by decide))
  isplitr; · iexact Hmw
  isplitl [HB]; · iexact HB
  isplitl [HO]; · iapply (Entails.of_eq (owing_eq (F := F) (V d c i) O W)) $$ HO
  iintro HB HO
  ihave HO := (Entails.of_eq (owing_eq (F := F) (V d c i) O W).symm) $$ HO
  imod (show Batch EC (V d c i) (.dma sm) (default : HIx 2) N (delivers d c i a2 a7 a8 q ft f7' f8 hlt') (52 * 128) (128 * N * (0 + 52)) ⊢ _ from
    (Entails.of_eq (congrArg (Batch EC (V d c i) (.dma sm) (default : HIx 2) N (delivers d c i a2 a7 a8 q ft f7' f8 hlt') (52 * 128))
      (show 128 * N * (0 + 52) = N * (52 * 128) by omega))).trans (batch_collect' EC (V d c i) hN0)) $$ HB with ⟨HD, Hsm⟩
  ihave HD := (delivers_join d c i a2 a7 a8 q ft f7' f8 hlt') $$ HD
  icases HD with ⟨H2, H8, H7⟩
  iapply (wp_loopSum d L2 ok2 hL2 a8 a9 a10 o8 h8 o1 h1 e8 e1 _ _ f10)
  isplitl [H8]; · iexact H8
  isplitl [H9]; · iexact H9
  isplitl [H10]; · iexact H10
  iintro %w2 H8 H9 ⟨%f10', %hf10, H10⟩
  rw [wp_pure]
  imodintro
  unfold closing
  iapply (wp_sync d O W a10 a5 r2 n5 fullShare f10' f5)
  isplitl [H10]; · iexact H10
  isplitl [H5]; · iexact H5
  isplitl [Hr2]; · iexact Hr2
  isplitl [HO]; · iexact HO
  isplitr; · iexact Hmw
  iintro H10 H5 Hr2 HO
  rw [wp_pure]
  imodintro
  iapply Hk $$ H2 H3 H4 [H5] [H6] [H7] [H8] [H9] [H10] [Hsm Hr0 Hr1 Hr2] HO
  · iexists _
    isplitr
    swap
    · iexact H5
    ipureintro
    intro x
    rw [View.read_write_univ, hf10]
    unfold total answer
    simp only [View.read_write_univ]
    unfold gotten
    simp only [hf7']
  · iexists _; iexact H6
  · iexists _; iexact H7
  · iexists _; iexact H8
  · iexists _; iexact H9
  · iexists _; iexact H10
  · isplitl [Hsm]; · iexact Hsm
    isplitl [Hr0]; · iexact Hr0
    isplitl [Hr1] <;> iassumption

end Wp

end Whole

end Cert.Proof.Run
-- ==== Proof.Tile.lean ====
module

public import proofs.«01_k».proof.Proof.Whole

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

/-! ## What a call computes, on whole arrays -/

/-- The index of column `x` in row `r₀ + j` (the thirteenth row beyond it). -/
def gIx (r₀ : ℕ) (hr : r₀ ≤ 13) (j : ℕ) (x : S16384.Idx) : S26x16384.Idx
  | 0 => ⟨r₀ + min j 12, by show _ < 26; omega⟩
  | 1 => x 0

/-- Column `x`'s result: thirteen words of the table, one from each row's part, and the word there before. -/
def outOf [FloatOps F] (r₀ : ℕ) (hr : r₀ ≤ 13) (t : S1304576.Idx → F .f32) (ix : S26x16384.Idx → BitVec 32) (b : S16384.Idx → F .f32) (x : S16384.Idx) : F .f32 :=
  FloatOps.addf (tree13 fun j => t (tblIx (ix (gIx r₀ hr j x) + BitVec.ofNat 32 (100352 * min j 12)))) (b x)

/-- An index below 100000, moved to its row's part, is in the table. -/
theorem place_lt (w : BitVec 32) (hw : w.toNat < 100000) (j : ℕ) (hj : j < 13) : (w + BitVec.ofNat 32 (100352 * j)).toNat < 1304576 := by
  have h : 100352 * j ≤ 1204224 := by omega
  rw [BitVec.toNat_add, BitVec.toNat_ofNat, Nat.mod_eq_of_lt (a := 100352 * j) (by omega), Nat.mod_eq_of_lt (by omega)]
  omega

section Tile

variable [FloatOps F]

local notation "𝕄" => MT nD τ sig (HIx 2) (Elt F) ℕ UU ℕ

variable (d : Dev nD) {c : Fin τ.nSC} {i : Fin τ.nSub}
variable (b2 : Memref sig .scVector .hbm S1304576 .f32) (b3 : Memref sig .scVector .hbm S26x16384 .i32) (b4 b5 : Memref sig .scVector .hbm S16384 .f32)
variable (a6 : Memref sig .scVector .vmem S26x512 .i32) (a7 : Memref sig .scVector .vmem S13x512 .i32)
variable (a8 : Memref sig .scVector .vmem S13x512 .f32) (a9 a10 : Memref sig .scVector .vmem S512 .f32)
variable (p3 : Fin 2 → ℕ) (k3 : ∀ a, p3 a + S26x512.size a ≤ S26x16384.size a) (p4 : Fin 1 → ℕ) (k4 : ∀ a, p4 a + S512.size a ≤ S16384.size a)

/-- A tile's columns of the indices, and its block of a row. -/
abbrev colsOf : Memref sig .scVector .hbm S26x512 .i32 := b3.slice (Rect.unit (s := S26x16384) p3 S26x512.size k3) (fun _ => rfl)
abbrev blockOf (b4 : Memref sig .scVector .hbm S16384 .f32) (p4 : Fin 1 → ℕ) (k4 : ∀ a, p4 a + S512.size a ≤ S16384.size a) : Memref sig .scVector .hbm S512 .f32 :=
  b4.slice (Rect.unit (s := S16384) p4 S512.size k4) (fun _ => rfl)

/-- Place `x` of the block, in the row. -/
def blockIx (w : ℕ) (hw : w < 32) (x : S512.Idx) : S16384.Idx
  | 0 => ⟨512 * w + (x 0).val, by have := (x 0).isLt; change (x 0).val < 512 at this; show _ < 16384; omega⟩

theorem block_read (w : ℕ) (hw : w < 32) (e4 : p4 = ![512 * w]) (f : Buf (Elt F) (b4.view.loc (V d c i))) (x : S512.Idx) :
    (blockOf b4 p4 k4).view.read (Elt F) f x = b4.view.read (Elt F) f (blockIx w hw x) := by
  show b4.view.read (Elt F) f ((Rect.unit (s := S16384) p4 S512.size k4).emb x) = _
  congr 1
  funext a
  apply Fin.ext
  rw [emb_unit]
  have p0 : p4 0 = 512 * w := congrFun e4 0
  match a with
  | 0 => show p4 0 + (x 0).val = 512 * w + (x 0).val; omega

theorem cols_read (w : ℕ) (hw : w < 32) (e3 : p3 = ![0, 512 * w]) (f : Buf (Elt F) (b3.view.loc (V d c i))) (r₀ : ℕ) (hr : r₀ ≤ 13) (j : ℕ) (x : S512.Idx) :
    (colsOf b3 p3 k3).view.read (Elt F) f (rowIx r₀ hr (colIx j x)) = b3.view.read (Elt F) f (gIx r₀ hr j (blockIx w hw x)) := by
  show b3.view.read (Elt F) f ((Rect.unit (s := S26x16384) p3 S26x512.size k3).emb _) = _
  congr 1
  funext a
  apply Fin.ext
  rw [emb_unit]
  have q0 : p3 0 = 0 := congrFun e3 0
  have q1 : p3 1 = 512 * w := congrFun e3 1
  match a with
  | 0 => show p3 0 + (r₀ + min j 12) = r₀ + min j 12; omega
  | 1 => show p3 1 + (x 0).val = 512 * w + (x 0).val; omega

/-- What a task computes is its block of what the call computes. -/
theorem answer_eq (w : ℕ) (hw : w < 32) (e3 : p3 = ![0, 512 * w]) (e4 : p4 = ![512 * w]) (r₀ : ℕ) (hr : r₀ ≤ 13)
    (ft : Buf (Elt F) (b2.view.loc (V d c i))) (f3 : Buf (Elt F) (b3.view.loc (V d c i))) (f4 : Buf (Elt F) (b4.view.loc (V d c i))) (x : S512.Idx) :
    answer d b2 (colsOf b3 p3 k3) (blockOf b4 p4 k4) r₀ hr ft f3 f4 x
      = outOf r₀ hr (b2.view.read (Elt F) ft) (b3.view.read (Elt F) f3) (b4.view.read (Elt F) f4) (blockIx w hw x) := by
  unfold answer outOf placeOf
  rw [block_read d b4 p4 k4 w hw e4]
  congr 2
  funext j
  rw [cols_read d b3 p3 k3 w hw e3]
  rfl

variable (w6 : a6.view.WordExact) (w9 : a9.view.WordExact) (w10 : a10.view.WordExact)
variable (sm r0 r1 r2 : DmaSem sig)
variable (L1 : Scf.Loop 32) (ok1 : L1.OK) (L2 : Scf.Loop 32) (ok2 : L2.OK)
variable (o6 : Fin L1.trips → ℕ → Fin 2 → ℕ) (h6 : ∀ t j a, o6 t j a + S1x16.size a ≤ S26x512.size a)
variable (o7 : Fin L1.trips → ℕ → Fin 2 → ℕ) (h7 : ∀ t j a, o7 t j a + S1x16.size a ≤ S13x512.size a)
variable (o8 : Fin L2.trips → ℕ → Fin 2 → ℕ) (h8 : ∀ t j a, o8 t j a + S1x16.size a ≤ S13x512.size a)
variable (o1 : Fin L2.trips → Fin 1 → ℕ) (h1 : ∀ t a, o1 t a + S16.size a ≤ S512.size a)

/-- A task, from read shares of the table, the indices and the row before, and its block of the result. -/
theorem wp_tile (hL1 : L1.trips = 32) (hL2 : L2.trips = 32)
    (r₀ : ℕ) (hr : r₀ ≤ 13) (e6 : ∀ t, ∀ j < 13, o6 t j = ![r₀ + j, 16 * t.val]) (e7 : ∀ t, ∀ j < 13, o7 t j = ![j, 16 * t.val])
    (e8 : ∀ t, ∀ j < 13, o8 t j = ![j, 16 * t.val]) (e1 : ∀ t, o1 t = ![16 * t.val])
    (w : ℕ) (hw : w < 32) (e3 : p3 = ![0, 512 * w]) (e4 : p4 = ![512 * w])
    (n6 : 0 < a6.view.dmaCredit) (n9 : 0 < a9.view.dmaCredit) (n5 : 0 < (blockOf b5 p4 k4).view.dmaCredit)
    (N : ℕ) (hN0 : 0 < N)
    (hN : ∀ (t : ℕ) (r), ((chunk a8 t).slice (S128.rowRect gathers_S1304576_S128.axis' r) (S128.stride_rowRect gathers_S1304576_S128.axis' r)).view.dmaCredit = N)
    (hJ : ∀ t : ℕ, (chunk a8 t).view.dmaCredit = 128 * N)
    (s2 : b2.view.set = Finset.univ) (s6 : a6.view.set = Finset.univ) (s7 : a7.view.set = Finset.univ) (s8 : a8.view.set = Finset.univ)
    (s9 : a9.view.set = Finset.univ) (s10 : a10.view.set = Finset.univ)
    (O : CellTallies nD τ sig (HIx 2)) (W : Waits sig (HIx 2))
    (q : PosShare TreeShare)
    (ft : Buf (Elt F) (b2.view.loc (V d c i))) (f3 : Buf (Elt F) (b3.view.loc (V d c i))) (f4 : Buf (Elt F) (b4.view.loc (V d c i))) (f5 g5 : Buf (Elt F) (b5.view.loc (V d c i)))
    (hix : ∀ x, (b3.view.read (Elt F) f3 x).toNat < 100000)
    (hg : ∀ x, b5.view.read (Elt F) g5 x = outOf r₀ hr (b2.view.read (Elt F) ft) (b3.view.read (Elt F) f3) (b4.view.read (Elt F) f4) x) (X : sProp 𝕄) (Y : sProp 𝕄) :
    iprop(MayWaits (V d c i) (default : HIx 2) O
        ∗ ((b2.view.loc (V d c i) ↦{q} ft) ∗ (b3.view.loc (V d c i) ↦{q} f3) ∗ (b4.view.loc (V d c i) ↦{q} f4)
          ∗ (b5.view.loc (V d c i) ↦[(blockOf b5 p4 k4).view.set]{fullShare} f5))
        ∗ ((∃ f, a6.view.loc (V d c i) ↦{fullShare} f) ∗ (∃ f, a7.view.loc (V d c i) ↦{fullShare} f) ∗ (∃ f, a8.view.loc (V d c i) ↦{fullShare} f)
          ∗ (∃ f, a9.view.loc (V d c i) ↦{fullShare} f) ∗ (∃ f, a10.view.loc (V d c i) ↦{fullShare} f) ∗ X)
        ∗ (semVal (V d c i, .dma sm) 0 ∗ semVal (V d c i, .dma r0) 0 ∗ semVal (V d c i, .dma r1) 0 ∗ semVal (V d c i, .dma r2) 0 ∗ Y)
        ∗ owing (V d c i) O W)
      ⊢ wp frame (wpE (defs₀ (F := F)) 𝒱₀ (V d c i) none) Set.univ
          (task (F := F) (c := c) (i := i) b2 (colsOf b3 p3 k3) (blockOf b4 p4 k4) (blockOf b5 p4 k4) a6 a7 a8 a9 a10 (View.wordExact_bits rfl) (View.wordExact_bits rfl) (View.wordExact_bits rfl)
            w6 w9 w10 sm r0 r1 r2 L1 ok1 L2 ok2 o6 h6 o7 h7 o8 h8 o1 h1)
          fun _ => iprop(((b2.view.loc (V d c i) ↦{q} ft) ∗ (b3.view.loc (V d c i) ↦{q} f3) ∗ (b4.view.loc (V d c i) ↦{q} f4)
          ∗ (b5.view.loc (V d c i) ↦[(blockOf b5 p4 k4).view.set]{fullShare} g5))
        ∗ ((∃ f, a6.view.loc (V d c i) ↦{fullShare} f) ∗ (∃ f, a7.view.loc (V d c i) ↦{fullShare} f) ∗ (∃ f, a8.view.loc (V d c i) ↦{fullShare} f)
          ∗ (∃ f, a9.view.loc (V d c i) ↦{fullShare} f) ∗ (∃ f, a10.view.loc (V d c i) ↦{fullShare} f) ∗ X)
        ∗ (semVal (V d c i, .dma sm) 0 ∗ semVal (V d c i, .dma r0) 0 ∗ semVal (V d c i, .dma r1) 0 ∗ semVal (V d c i, .dma r2) 0 ∗ Y)
        ∗ owing (V d c i) O W) := by
  iintro ⟨Hmw, ⟨H2, H3, H4, H5⟩, ⟨⟨%f6, H6⟩, ⟨%f7, H7⟩, ⟨%f8, H8⟩, ⟨%f9, H9⟩, ⟨%f10, H10⟩, HX⟩, ⟨Hsm, Hr0, Hr1, Hr2, HY⟩, HO⟩
  ihave H3 := (pointsTo_split_subset (q := q) (f := f3) (S := Finset.univ) (Finset.subset_univ (colsOf b3 p3 k3).view.set)).1 $$ H3
  icases H3 with ⟨H3, H3r⟩
  ihave H4 := (pointsTo_split_subset (q := q) (f := f4) (S := Finset.univ) (Finset.subset_univ (blockOf b4 p4 k4).view.set)).1 $$ H4
  icases H4 with ⟨H4, H4r⟩
  have hlt : ∀ x, (placeOf d (colsOf b3 p3 k3) r₀ hr f3 x).toNat < 1304576 := fun x =>
    place_lt _ (hix _) _ (x 0).isLt
  iapply (wp_task d b2 (colsOf b3 p3 k3) (blockOf b4 p4 k4) (blockOf b5 p4 k4) a6 a7 a8 a9 a10 (View.wordExact_bits rfl) (View.wordExact_bits rfl) (View.wordExact_bits rfl)
    w6 w9 w10 sm r0 r1 r2 L1 ok1 L2 ok2 o6 h6 o7 h7 o8 h8 o1 h1 hL1 hL2 r₀ hr e6 e7 e8 e1 n6 n9 n5 N hN0 hN hJ O W q q q ft f3 f4 f5 f6 f7 f8 f9 f10 hlt)
  rw [allOf_set, s2, s6, s7, s8, s9, s10]
  isplitl [Hmw]; · iexact Hmw
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hsm Hr0 Hr1 Hr2]
  · isplitl [Hsm]; · iexact Hsm
    isplitl [Hr0]; · iexact Hr0
    isplitl [Hr1] <;> iassumption
  isplitl [HO]; · iexact HO
  iintro H2 H3 H4 ⟨%f5', %hf5, H5⟩ H6 H7 H8 H9 H10 ⟨Hsm, Hr0, Hr1, Hr2⟩ HO
  isplitl [H2 H3 H3r H4 H4r H5]
  · isplitl [H2]; · iexact H2
    isplitl [H3 H3r]
    · iapply (pointsTo_split_subset (q := q) (f := f3) (S := Finset.univ) (Finset.subset_univ (colsOf b3 p3 k3).view.set)).2
      isplitl [H3] <;> iassumption
    isplitl [H4 H4r]
    · iapply (pointsTo_split_subset (q := q) (f := f4) (S := Finset.univ) (Finset.subset_univ (blockOf b4 p4 k4).view.set)).2
      isplitl [H4] <;> iassumption
    iapply (Entails.of_eq (pointsTo_congr (ℓ := b5.view.loc (V d c i)) (I := (blockOf b5 p4 k4).view.set) (f := f5') (g := g5) ?hc)) $$ H5
    case hc =>
      intro j hj
      obtain ⟨x, -, rfl⟩ := Finset.mem_map.1 hj
      have e := hf5 x
      rw [answer_eq d b2 b3 b4 p3 k3 p4 k4 w hw e3 e4, ← hg, ← block_read d b5 p4 k4 w hw e4, View.read_apply, View.read_apply] at e
      exact (cast_inj _).1 e
  isplitl [H6 H7 H8 H9 H10 HX]
  · isplitl [H6]; · iexact H6
    isplitl [H7]; · iexact H7
    isplitl [H8]; · iexact H8
    isplitl [H9]; · iexact H9
    isplitl [H10]; · iexact H10
    iexact HX
  isplitl [Hsm Hr0 Hr1 Hr2 HY]
  · isplitl [Hsm]; · iexact Hsm
    isplitl [Hr0]; · iexact Hr0
    isplitl [Hr1]; · iexact Hr1
    isplitl [Hr2]; · iexact Hr2
    iexact HY
  iexact HO

end Tile

end Cert.Proof.Run
-- ==== Proof.Calls.lean ====
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 2) (Elt F) ℕ UU ℕ

/-! ## The blocks of a row -/

section Blocks

variable {J : Type} [Fintype J] [DecidableEq J]
variable (b : Memref sig .scVector .hbm S16384 .f32) (p : J → Fin 1 → ℕ) (k : ∀ j a, p j a + S512.size a ≤ S16384.size a)
variable (w : J → ℕ) (e : ∀ j, p j = ![512 * w j])

theorem blocks_disjoint (hw : Function.Injective w) (e : ∀ j, p j = ![512 * w j]) (j j' : J) (h : j ≠ j') :
    Disjoint (blockOf b (p j) (k j)).view.set (blockOf b (p j') (k j')).view.set := by
  rw [Finset.disjoint_left]
  intro z hz hz'
  obtain ⟨y, -, hy⟩ := Finset.mem_map.1 hz
  obtain ⟨y', -, hy'⟩ := Finset.mem_map.1 hz'
  have ee : (Rect.unit (s := S16384) (p j) S512.size (k j)).emb y = (Rect.unit (s := S16384) (p j') S512.size (k j')).emb y' :=
    b.view.emb.injective (hy.trans hy'.symm)
  have e0 := congrArg (fun x : S16384.Idx => (x 0).val) ee
  rw [emb_unit, emb_unit] at e0
  have l : (y 0).val < 512 := (y 0).isLt
  have l' : (y' 0).val < 512 := (y' 0).isLt
  have q : p j 0 = 512 * w j := congrFun (e j) 0
  have q' : p j' 0 = 512 * w j' := congrFun (e j') 0
  change p j 0 + (y 0).val = p j' 0 + (y' 0).val at e0
  exact h (hw (by omega))

theorem blocks_cover (hs : ∀ n < 32, ∃ j, w j = n) (e : ∀ j, p j = ![512 * w j]) :
    (Finset.univ.biUnion fun j : J => (blockOf b (p j) (k j)).view.set) = b.view.set := by
  apply Finset.Subset.antisymm
  · intro z hz
    obtain ⟨j, -, hz⟩ := Finset.mem_biUnion.1 hz
    exact View.set_slice_subset b.view _ hz
  · intro z hz
    obtain ⟨x, -, rfl⟩ := Finset.mem_map.1 hz
    have l : (x 0).val < 16384 := (x 0).isLt
    obtain ⟨j, hj⟩ := hs ((x 0).val / 512) (by omega)
    refine Finset.mem_biUnion.2 ⟨j, Finset.mem_univ _, Finset.mem_map.2 ⟨(fun | 0 => ⟨(x 0).val % 512, Nat.mod_lt _ (by decide)⟩ : S512.Idx), Finset.mem_univ _, ?_⟩⟩
    show b.view.emb ((Rect.unit (s := S16384) (p j) S512.size (k j)).emb _) = b.view.emb x
    congr 1
    funext a
    apply Fin.ext
    rw [emb_unit]
    have q : p j 0 = 512 * w j := congrFun (e j) 0
    match a with
    | 0 => show p j 0 + (x 0).val % 512 = (x 0).val; omega

end Blocks

/-! ## A call's shares -/

/-- Tile `(c, i)`'s part of a share. -/
def sh (c : Fin 2) (i : Fin 16) : PosShare TreeShare := pieceOf (pieceOf fullShare 2 (by decide) c) 16 (by decide) i

/-- What one tile takes: read shares of three arrays, elements `S` of the fourth. -/
abbrev part (q : PosShare TreeShare) (lt li lb lo : Loc nD τ sig) (S : Finset (Idx lo)) (ft : Buf (Elt F) lt) (fi : Buf (Elt F) li) (fb : Buf (Elt F) lb) (fo : Buf (Elt F) lo) : sProp 𝕄 :=
  iprop((lt ↦{q} ft) ∗ (li ↦{q} fi) ∗ (lb ↦{q} fb) ∗ lo ↦[S]{fullShare} fo)

theorem shares_eq (l : Loc nD τ sig) (f : Buf (Elt F) l) :
    (l ↦{fullShare} f : sProp 𝕄) = bigSep Finset.univ fun c : Fin 2 => bigSep Finset.univ fun i : Fin 16 => l ↦{sh c i} f := by
  rw [pointsTo_piecesOf Finset.univ f (by decide : 0 < 2) fullShare]
  exact bigSep_congr fun c _ => pointsTo_piecesOf Finset.univ f (by decide : 0 < 16) _

/-- Four arrays are the tiles' parts of them. -/
theorem parts_eq (lt li lb lo : Loc nD τ sig) (S : Fin 2 → Fin 16 → Finset (Idx lo))
    (hd : ∀ x y : Fin 2 × Fin 16, x ≠ y → Disjoint (S x.1 x.2) (S y.1 y.2)) (hc : (Finset.univ.biUnion fun x : Fin 2 × Fin 16 => S x.1 x.2) = Finset.univ)
    (ft : Buf (Elt F) lt) (fi : Buf (Elt F) li) (fb : Buf (Elt F) lb) (fo : Buf (Elt F) lo) :
    (iprop((lt ↦{fullShare} ft) ∗ (li ↦{fullShare} fi) ∗ (lb ↦{fullShare} fb) ∗ lo ↦{fullShare} fo) : sProp 𝕄)
      = bigSep Finset.univ fun c : Fin 2 => bigSep Finset.univ fun i : Fin 16 => part (sh c i) lt li lb lo (S c i) ft fi fb fo := by
  have ho : (lo ↦{fullShare} fo : sProp 𝕄) = bigSep Finset.univ fun c : Fin 2 => bigSep Finset.univ fun i : Fin 16 => lo ↦[S c i]{fullShare} fo := by
    rw [← bigSep_univ_prod fun x : Fin 2 × Fin 16 => (lo ↦[S x.1 x.2]{fullShare} fo : sProp 𝕄),
      ← pointsTo_biUnion (ℓ := lo) Finset.univ (fun x : Fin 2 × Fin 16 => S x.1 x.2) (fun x _ y _ h => hd x y h), hc]
  rw [shares_eq lt, shares_eq li, shares_eq lb, ho]
  simp only [bigSep_sep']

/-! ## A tile's own memory and counters -/

/-- Four of a tile's DMA counters, and the rest. -/
theorem ownSems_four (d : Dev nD) (c : Fin τ.nSC) (i : Fin τ.nSub) (s0 s1 s2 s3 : DmaSem sig) (hn : [s0, s1, s2, s3].Nodup)
    (hs : ∀ s ∈ [s0, s1, s2, s3], (SemLoc.dma s : SemLoc sig).isScoped .scVector = true) :
    (ownSems0 (V d c i) : sProp 𝕄)
      = iprop(semVal (V d c i, .dma s0) 0 ∗ semVal (V d c i, .dma s1) 0 ∗ semVal (V d c i, .dma s2) 0 ∗ semVal (V d c i, .dma s3) 0
          ∗ bigSep (((((ownCells (V d c i)).erase (V d c i, .dma s0)).erase (V d c i, .dma s1)).erase (V d c i, .dma s2)).erase (V d c i, .dma s3)) fun g => semVal g 0) := by
  have hm : ∀ s ∈ [s0, s1, s2, s3], ((V d c i, .dma s) : GSem nD τ sig) ∈ ownCells (V d c i) := fun s h => mem_ownCells.mpr ⟨rfl, hs s h⟩
  have ne : ∀ s t : DmaSem sig, s ≠ t → ((V d c i, .dma s) : GSem nD τ sig) ≠ (V d c i, .dma t) := fun s t h e => h (by injection e with _ e; injection e)
  simp only [List.nodup_cons, List.mem_cons, List.not_mem_nil, or_false, not_or] at hn
  obtain ⟨⟨n1, n2, n3⟩, ⟨n4, n5⟩, n6, -⟩ := hn
  unfold SparseCore.Cfg.ownSems0
  rw [SparseCore.bigSep_erase' (hm s0 (by simp)),
    SparseCore.bigSep_erase' (Finset.mem_erase.mpr ⟨ne _ _ (Ne.symm n1), hm s1 (by simp)⟩),
    SparseCore.bigSep_erase' (Finset.mem_erase.mpr ⟨ne _ _ (Ne.symm n4), Finset.mem_erase.mpr ⟨ne _ _ (Ne.symm n2), hm s2 (by simp)⟩⟩),
    SparseCore.bigSep_erase' (Finset.mem_erase.mpr ⟨ne _ _ (Ne.symm n6), Finset.mem_erase.mpr ⟨ne _ _ (Ne.symm n5), Finset.mem_erase.mpr ⟨ne _ _ (Ne.symm n3), hm s3 (by simp)⟩⟩⟩)]

/-- Five of a tile's buffers, and the rest. -/
theorem ownBufs_five (d : Dev nD) (c : Fin τ.nSC) (i : Fin τ.nSub) (r0 r1 r2 r3 r4 : Ref sig .scVector) (hn : [r0, r1, r2, r3, r4].Nodup)
    (hs : ∀ r ∈ [r0, r1, r2, r3, r4], ((Proc.scVector c i : Proc τ).devRef r).owner = .proc (.scVector c i)) :
    (ownBufs (V d c i) : sProp 𝕄)
      = iprop((∃ f, (V d c i).loc r0 ↦{fullShare} f) ∗ (∃ f, (V d c i).loc r1 ↦{fullShare} f) ∗ (∃ f, (V d c i).loc r2 ↦{fullShare} f)
          ∗ (∃ f, (V d c i).loc r3 ↦{fullShare} f) ∗ (∃ f, (V d c i).loc r4 ↦{fullShare} f)
          ∗ bigSep ((((((ownRefs (τ := τ) (.scVector c i)).erase ((Proc.scVector c i).devRef r0)).erase ((Proc.scVector c i).devRef r1)).erase
              ((Proc.scVector c i).devRef r2)).erase ((Proc.scVector c i).devRef r3)).erase ((Proc.scVector c i).devRef r4))
              fun b => iprop(∃ f, ((d, b) : Loc nD τ sig) ↦{fullShare} f)) := by
  have hm : ∀ r ∈ [r0, r1, r2, r3, r4], (Proc.scVector c i : Proc τ).devRef r ∈ ownRefs (τ := τ) (.scVector c i) :=
    fun r h => SparseCore.Cfg.mem_ownRefs_of_owner (hs r h)
  have ne : ∀ s t : Ref sig .scVector, s ≠ t → (Proc.scVector c i : Proc τ).devRef s ≠ (Proc.scVector c i : Proc τ).devRef t :=
    fun s t h e => h (Proc.devRef_injective _ e)
  simp only [List.nodup_cons, List.mem_cons, List.not_mem_nil, or_false, not_or] at hn
  obtain ⟨⟨n1, n2, n3, n4⟩, ⟨n5, n6, n7⟩, ⟨n8, n9⟩, n10, -⟩ := hn
  unfold SparseCore.Cfg.ownBufs
  refine (SparseCore.bigSep_erase' (hm r0 (by simp))).trans ?_
  rw [SparseCore.bigSep_erase' (Finset.mem_erase.mpr ⟨ne _ _ (Ne.symm n1), hm r1 (by simp)⟩),
    SparseCore.bigSep_erase' (Finset.mem_erase.mpr ⟨ne _ _ (Ne.symm n5), Finset.mem_erase.mpr ⟨ne _ _ (Ne.symm n2), hm r2 (by simp)⟩⟩),
    SparseCore.bigSep_erase' (Finset.mem_erase.mpr ⟨ne _ _ (Ne.symm n8), Finset.mem_erase.mpr ⟨ne _ _ (Ne.symm n6), Finset.mem_erase.mpr ⟨ne _ _ (Ne.symm n3), hm r3 (by simp)⟩⟩⟩),
    SparseCore.bigSep_erase' (Finset.mem_erase.mpr ⟨ne _ _ (Ne.symm n10), Finset.mem_erase.mpr ⟨ne _ _ (Ne.symm n9), Finset.mem_erase.mpr ⟨ne _ _ (Ne.symm n7), Finset.mem_erase.mpr ⟨ne _ _ (Ne.symm n4), hm r4 (by simp)⟩⟩⟩⟩)]

/-! ## The values of the two calls -/

abbrev l3 (d : Dev nD) : Loc nD τ sig := (SparseCore.T d).loc main_v3_0
abbrev l5 (d : Dev nD) : Loc nD τ sig := (SparseCore.T d).loc main_v5
abbrev l6 (d : Dev nD) : Loc nD τ sig := (SparseCore.T d).loc main_v6
abbrev l7 (d : Dev nD) : Loc nD τ sig := (SparseCore.T d).loc main_v7
abbrev l8 (d : Dev nD) : Loc nD τ sig := (SparseCore.T d).loc main_v8
abbrev l9 (d : Dev nD) : Loc nD τ sig := (SparseCore.T d).loc main_v9

/-- What the arrays the two calls name hold before the first. -/
structure Vals (F : FTy → Type) where
  t1 : (d : Dev nD) → Buf (Elt F) (l6 d)
  t2 : (d : Dev nD) → Buf (Elt F) (l7 d)
  ix : (d : Dev nD) → Buf (Elt F) (l5 d)
  b : (d : Dev nD) → Buf (Elt F) (l3 d)
  z1 : (d : Dev nD) → Buf (Elt F) (l8 d)
  z2 : (d : Dev nD) → Buf (Elt F) (l9 d)

variable [FloatOps F]

/-- What the first call leaves. -/
def Vals.out1 (v : Vals F) (d : Dev nD) : Buf (Elt F) (l8 d) := fun x : S16384.Idx => outOf (F := F) 0 (by omega) (v.t1 d) (v.ix d) (v.b d) x
/-- What the second call leaves. -/
def Vals.out2 (v : Vals F) (d : Dev nD) : Buf (Elt F) (l9 d) := fun x : S16384.Idx => outOf (F := F) 13 (by omega) (v.t2 d) (v.ix d) (v.out1 d) x

/-- The indices name rows of the tables. -/
def Vals.Ok (v : Vals F) : Prop := ∀ d x, ((v.ix d : S26x16384.Idx → BitVec 32) x).toNat < 100000

def co3 (c : Fin 2) (s : Fin 16) : grid3.Coords :=
  fun | 0 => c | 1 => s | ⟨_ + 2, h⟩ => absurd h (Nat.not_lt.2 (Nat.le_add_left _ _))
def co4 (c : Fin 2) (s : Fin 16) : grid4.Coords :=
  fun | 0 => c | 1 => s | ⟨_ + 2, h⟩ => absurd h (Nat.not_lt.2 (Nat.le_add_left _ _))

/-- The elements of the result the tile `(c, i)` writes. -/
abbrev set3 (c : Fin 2) (i : Fin 16) : Finset S16384.Idx := (blockOf (Memref.whole main_v8_scv) (k3_off2 (co3 c i)) (k3_off2_inb (co3 c i))).view.set
abbrev set4 (c : Fin 2) (i : Fin 16) : Finset S16384.Idx := (blockOf (Memref.whole main_v9_scv) (k4_off2 (co4 c i)) (k4_off2_inb (co4 c i))).view.set

end Cert.Proof.Run
-- ==== Proof.Pays.lean ====
module

public import proofs.«01_k».proof.Proof.Calls

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 2) (Elt F) ℕ UU ℕ

/-- Which block a tile writes. -/
def wid (x : Fin 2 × Fin 16) : ℕ := 2 * x.2.val + x.1.val

theorem wid_inj : Function.Injective wid := by
  rintro ⟨a, b⟩ ⟨a', b'⟩ h
  have := a.isLt; have := a'.isLt
  simp only [wid] at h
  exact Prod.ext (Fin.ext (by simp only; omega)) (Fin.ext (by simp only; omega))

theorem wid_onto : ∀ n < 32, ∃ j, wid j = n := fun n h =>
  ⟨(⟨n % 2, by omega⟩, ⟨n / 2, by omega⟩), by simp only [wid]; omega⟩

theorem k3_off2_wid (x : Fin 2 × Fin 16) : k3_off2 (co3 x.1 x.2) = ![512 * wid x] := by
  rw [k3_off2_eq]; congr 1; show 1024 * x.2.val + 512 * x.1.val = 512 * (2 * x.2.val + x.1.val); omega
theorem k3_off1_wid (x : Fin 2 × Fin 16) : k3_off1 (co3 x.1 x.2) = ![0, 512 * wid x] := by
  rw [k3_off1_eq]; congr 2; show 1024 * x.2.val + 512 * x.1.val = 512 * (2 * x.2.val + x.1.val); omega
theorem k4_off2_wid (x : Fin 2 × Fin 16) : k4_off2 (co4 x.1 x.2) = ![512 * wid x] := by
  rw [k4_off2_eq]; congr 1; show 1024 * x.2.val + 512 * x.1.val = 512 * (2 * x.2.val + x.1.val); omega
theorem k4_off1_wid (x : Fin 2 × Fin 16) : k4_off1 (co4 x.1 x.2) = ![0, 512 * wid x] := by
  rw [k4_off1_eq]; congr 2; show 1024 * x.2.val + 512 * x.1.val = 512 * (2 * x.2.val + x.1.val); omega

theorem set3_disjoint (x y : Fin 2 × Fin 16) (h : x ≠ y) : Disjoint (set3 x.1 x.2) (set3 y.1 y.2) :=
  blocks_disjoint (Memref.whole main_v8_scv) (fun x : Fin 2 × Fin 16 => k3_off2 (co3 x.1 x.2)) (fun x => k3_off2_inb (co3 x.1 x.2)) wid wid_inj k3_off2_wid x y h
theorem set4_disjoint (x y : Fin 2 × Fin 16) (h : x ≠ y) : Disjoint (set4 x.1 x.2) (set4 y.1 y.2) :=
  blocks_disjoint (Memref.whole main_v9_scv) (fun x : Fin 2 × Fin 16 => k4_off2 (co4 x.1 x.2)) (fun x => k4_off2_inb (co4 x.1 x.2)) wid wid_inj k4_off2_wid x y h
theorem set3_cover : (Finset.univ.biUnion fun x : Fin 2 × Fin 16 => set3 x.1 x.2) = Finset.univ :=
  (blocks_cover (Memref.whole main_v8_scv) (fun x : Fin 2 × Fin 16 => k3_off2 (co3 x.1 x.2)) (fun x => k3_off2_inb (co3 x.1 x.2)) wid wid_onto k3_off2_wid).trans (View.set_whole _)
theorem set4_cover : (Finset.univ.biUnion fun x : Fin 2 × Fin 16 => set4 x.1 x.2) = Finset.univ :=
  (blocks_cover (Memref.whole main_v9_scv) (fun x : Fin 2 × Fin 16 => k4_off2 (co4 x.1 x.2)) (fun x => k4_off2_inb (co4 x.1 x.2)) wid wid_onto k4_off2_wid).trans (View.set_whole _)

variable [FloatOps F] (v : Vals F)

/-- What a tile of the first call is handed, and hands back. -/
abbrev go3 (d : Dev nD) (c : Fin 2) (i : Fin 16) : sProp 𝕄 :=
  part (sh c i) (l6 d) (l5 d) (l3 d) (l8 d) (set3 c i) (v.t1 d) (v.ix d) (v.b d) (v.z1 d)
abbrev td3 (d : Dev nD) (c : Fin 2) (i : Fin 16) : sProp 𝕄 :=
  part (sh c i) (l6 d) (l5 d) (l3 d) (l8 d) (set3 c i) (v.t1 d) (v.ix d) (v.b d) (v.out1 d)
/-- What a tile of the second call is handed, and hands back. -/
abbrev go4 (d : Dev nD) (c : Fin 2) (i : Fin 16) : sProp 𝕄 :=
  part (sh c i) (l7 d) (l5 d) (l8 d) (l9 d) (set4 c i) (v.t2 d) (v.ix d) (v.out1 d) (v.z2 d)
abbrev td4 (d : Dev nD) (c : Fin 2) (i : Fin 16) : sProp 𝕄 :=
  part (sh c i) (l7 d) (l5 d) (l8 d) (l9 d) (set4 c i) (v.t2 d) (v.ix d) (v.out1 d) (v.out2 d)

theorem nCore_0 : (K (F := F)).nCore 0 = 2 := rfl
theorem nCore_1 : (K (F := F)).nCore 1 = 2 := rfl
theorem nSub_0 : (K (F := F)).nSub 0 = 16 := rfl
theorem nSub_1 : (K (F := F)).nSub 1 = 16 := rfl

/-- A call's row of the resources: one form for each call. -/
def perCall (A B : (d : Dev nD) → Fin 2 → Fin 16 → sProp 𝕄) : (q : Fin 2) → (d : Dev nD) → Fin ((K (F := F)).nCore q) → Fin ((K (F := F)).nSub q) → sProp 𝕄
  | 0, d, c, i => A d (Fin.cast nCore_0 c) (Fin.cast nSub_0 i)
  | 1, d, c, i => B d (Fin.cast nCore_1 c) (Fin.cast nSub_1 i)

theorem perCall_storable (A B : (d : Dev nD) → Fin 2 → Fin 16 → sProp 𝕄) (hA : ∀ d c i, BI.Storable (upEmb : UEmb _ 𝕄) (A d c i)) (hB : ∀ d c i, BI.Storable (upEmb : UEmb _ 𝕄) (B d c i))
    (q : Fin 2) (d : Dev nD) (c) (i) : BI.Storable (upEmb : UEmb _ 𝕄) (perCall (F := F) A B q d c i) :=
  match q with
  | 0 => hA _ _ _
  | 1 => hB _ _ _

/-- What the calls' signals carry. -/
def P : (K (F := F)).Pay (nD := nD) (Val := Elt F) (Name := ℕ) (U := UU) where
  st q d c := bigSep Finset.univ fun i => perCall (go3 v) (go4 v) q d c i
  dn q d c := bigSep Finset.univ fun i => perCall (td3 v) (td4 v) q d c i
  go q d c i := perCall (go3 v) (go4 v) q d c i
  td q d c i := perCall (td3 v) (td4 v) q d c i
  x _ _ := BI.emp

instance perCall_go (q d c i) : BI.Storable (upEmb : UEmb _ 𝕄) (perCall (go3 v) (go4 v) q d c i) :=
  perCall_storable _ _ (fun _ _ _ => inferInstance) (fun _ _ _ => inferInstance) q d c i
instance perCall_td (q d c i) : BI.Storable (upEmb : UEmb _ 𝕄) (perCall (td3 v) (td4 v) q d c i) :=
  perCall_storable _ _ (fun _ _ _ => inferInstance) (fun _ _ _ => inferInstance) q d c i

instance P_storable : (P v).IsStorable where
  st q d c := (inferInstance : BI.Storable (upEmb : UEmb _ 𝕄) (bigSep Finset.univ fun i => perCall (go3 v) (go4 v) q d c i))
  dn q d c := (inferInstance : BI.Storable (upEmb : UEmb _ 𝕄) (bigSep Finset.univ fun i => perCall (td3 v) (td4 v) q d c i))
  go q d c i := perCall_go v q d c i
  td q d c i := perCall_td v q d c i

/-- All the tiles' parts of the first call are its four arrays. -/
theorem go3_all (d : Dev nD) :
    (bigSep Finset.univ fun c => (P v).st 0 d c) = (iprop((l6 d ↦{fullShare} v.t1 d) ∗ (l5 d ↦{fullShare} v.ix d) ∗ (l3 d ↦{fullShare} v.b d) ∗ (l8 d ↦{fullShare} v.z1 d)) : sProp 𝕄) :=
  (parts_eq (l6 d) (l5 d) (l3 d) (l8 d) set3 set3_disjoint set3_cover (v.t1 d) (v.ix d) (v.b d) (v.z1 d)).symm
theorem td3_all (d : Dev nD) :
    (bigSep Finset.univ fun c => (P v).dn 0 d c) = (iprop((l6 d ↦{fullShare} v.t1 d) ∗ (l5 d ↦{fullShare} v.ix d) ∗ (l3 d ↦{fullShare} v.b d) ∗ (l8 d ↦{fullShare} v.out1 d)) : sProp 𝕄) :=
  (parts_eq (l6 d) (l5 d) (l3 d) (l8 d) set3 set3_disjoint set3_cover (v.t1 d) (v.ix d) (v.b d) (v.out1 d)).symm
theorem go4_all (d : Dev nD) :
    (bigSep Finset.univ fun c => (P v).st 1 d c) = (iprop((l7 d ↦{fullShare} v.t2 d) ∗ (l5 d ↦{fullShare} v.ix d) ∗ (l8 d ↦{fullShare} v.out1 d) ∗ (l9 d ↦{fullShare} v.z2 d)) : sProp 𝕄) :=
  (parts_eq (l7 d) (l5 d) (l8 d) (l9 d) set4 set4_disjoint set4_cover (v.t2 d) (v.ix d) (v.out1 d) (v.z2 d)).symm
theorem td4_all (d : Dev nD) :
    (bigSep Finset.univ fun c => (P v).dn 1 d c) = (iprop((l7 d ↦{fullShare} v.t2 d) ∗ (l5 d ↦{fullShare} v.ix d) ∗ (l8 d ↦{fullShare} v.out1 d) ∗ (l9 d ↦{fullShare} v.out2 d)) : sProp 𝕄) :=
  (parts_eq (l7 d) (l5 d) (l8 d) (l9 d) set4 set4_disjoint set4_cover (v.t2 d) (v.ix d) (v.out1 d) (v.out2 d)).symm

theorem vecSplit (q : Fin 2) : (K (F := F)).VecSplit' (P v) q := by
  intro d c
  change bigSep Finset.univ (fun i => perCall (go3 v) (go4 v) q d c i) ⊢ |={Set.univ}=> iprop(bigSep Finset.univ (fun i => perCall (go3 v) (go4 v) q d c i)
    ∗ (bigSep Finset.univ (fun i => perCall (td3 v) (td4 v) q d c i) -∗ bigSep Finset.univ (fun i => perCall (td3 v) (td4 v) q d c i)))
  iintro H
  imodintro
  isplitl [H]
  · iexact H
  · iintro H
    iexact H

end Cert.Proof.Run
-- ==== Proof.Duty.lean ====
module

public import proofs.«01_k».proof.Proof.Pays

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 2) (Elt F) ℕ UU ℕ

variable [FloatOps F] (v : Vals F)

theorem off_rows {n : ℕ} (o : Fin n → ℕ → Fin 2 → ℕ) (r₀ : ℕ) (h : ∀ t : Fin n, ∀ j : Fin 13, o t j.val = ![r₀ + j.val, 16 * t.val]) :
    ∀ t, ∀ j < 13, o t j = ![r₀ + j, 16 * t.val] := fun t j hj => h t ⟨j, hj⟩

theorem o6A_eq (t) (j : Fin 13) : o6A t j.val = ![0 + j.val, 16 * t.val] := by
  match j with
  | 0 => exact k3_off3_eq t | 1 => exact k3_off5_eq t | 2 => exact k3_off7_eq t | 3 => exact k3_off9_eq t | 4 => exact k3_off11_eq t
  | 5 => exact k3_off13_eq t | 6 => exact k3_off15_eq t | 7 => exact k3_off17_eq t | 8 => exact k3_off19_eq t | 9 => exact k3_off21_eq t
  | 10 => exact k3_off23_eq t | 11 => exact k3_off25_eq t | 12 => exact k3_off27_eq t
theorem o6B_eq (t) (j : Fin 13) : o6B t j.val = ![13 + j.val, 16 * t.val] := by
  match j with
  | 0 => exact k4_off3_eq t | 1 => exact k4_off5_eq t | 2 => exact k4_off7_eq t | 3 => exact k4_off9_eq t | 4 => exact k4_off11_eq t
  | 5 => exact k4_off13_eq t | 6 => exact k4_off15_eq t | 7 => exact k4_off17_eq t | 8 => exact k4_off19_eq t | 9 => exact k4_off21_eq t
  | 10 => exact k4_off23_eq t | 11 => exact k4_off25_eq t | 12 => exact k4_off27_eq t
theorem o7A_eq (t) (j : ℕ) (h : j < 13) : o7A t j = ![j, 16 * t.val] := by
  obtain ⟨j, rfl⟩ : ∃ i : Fin 13, i.val = j := ⟨⟨j, h⟩, rfl⟩
  match j with
  | 0 => exact k3_off4_eq t | 1 => exact k3_off6_eq t | 2 => exact k3_off8_eq t | 3 => exact k3_off10_eq t | 4 => exact k3_off12_eq t
  | 5 => exact k3_off14_eq t | 6 => exact k3_off16_eq t | 7 => exact k3_off18_eq t | 8 => exact k3_off20_eq t | 9 => exact k3_off22_eq t
  | 10 => exact k3_off24_eq t | 11 => exact k3_off26_eq t | 12 => exact k3_off28_eq t
theorem o7B_eq (t) (j : ℕ) (h : j < 13) : o7B t j = ![j, 16 * t.val] := by
  obtain ⟨j, rfl⟩ : ∃ i : Fin 13, i.val = j := ⟨⟨j, h⟩, rfl⟩
  match j with
  | 0 => exact k4_off4_eq t | 1 => exact k4_off6_eq t | 2 => exact k4_off8_eq t | 3 => exact k4_off10_eq t | 4 => exact k4_off12_eq t
  | 5 => exact k4_off14_eq t | 6 => exact k4_off16_eq t | 7 => exact k4_off18_eq t | 8 => exact k4_off20_eq t | 9 => exact k4_off22_eq t
  | 10 => exact k4_off24_eq t | 11 => exact k4_off26_eq t | 12 => exact k4_off28_eq t
theorem o8A_eq (t) (j : ℕ) (h : j < 13) : o8A t j = ![j, 16 * t.val] := by
  obtain ⟨j, rfl⟩ : ∃ i : Fin 13, i.val = j := ⟨⟨j, h⟩, rfl⟩
  match j with
  | 0 => exact k3_off29_eq t | 1 => exact k3_off30_eq t | 2 => exact k3_off31_eq t | 3 => exact k3_off32_eq t | 4 => exact k3_off33_eq t
  | 5 => exact k3_off34_eq t | 6 => exact k3_off35_eq t | 7 => exact k3_off36_eq t | 8 => exact k3_off37_eq t | 9 => exact k3_off38_eq t
  | 10 => exact k3_off39_eq t | 11 => exact k3_off40_eq t | 12 => exact k3_off41_eq t
theorem o8B_eq (t) (j : ℕ) (h : j < 13) : o8B t j = ![j, 16 * t.val] := by
  obtain ⟨j, rfl⟩ : ∃ i : Fin 13, i.val = j := ⟨⟨j, h⟩, rfl⟩
  match j with
  | 0 => exact k4_off29_eq t | 1 => exact k4_off30_eq t | 2 => exact k4_off31_eq t | 3 => exact k4_off32_eq t | 4 => exact k4_off33_eq t
  | 5 => exact k4_off34_eq t | 6 => exact k4_off35_eq t | 7 => exact k4_off36_eq t | 8 => exact k4_off37_eq t | 9 => exact k4_off38_eq t
  | 10 => exact k4_off39_eq t | 11 => exact k4_off40_eq t | 12 => exact k4_off41_eq t

theorem wid_lt (x : Fin 2 × Fin 16) : wid x < 32 := by
  have := x.1.isLt; have := x.2.isLt; simp only [wid]; omega

theorem block_credit3 (x : grid3.Coords) : 0 < (blockOf (Memref.whole main_v8_scv) (k3_off2 x) (k3_off2_inb x)).view.dmaCredit := by
  rw [View.dmaCredit_closed _ S512 rfl 16 rfl 16384 (by decide)]; decide
theorem block_credit4 (x : grid4.Coords) : 0 < (blockOf (Memref.whole main_v9_scv) (k4_off2 x) (k4_off2_inb x)).view.dmaCredit := by
  rw [View.dmaCredit_closed _ S512 rfl 17 rfl 16384 (by decide)]; decide

theorem distinct3 : [cc3_scratch5.sem, cc3_scoped0.sem, cc3_scoped1.sem, cc3_scoped2.sem].Nodup := by decide
theorem scoped3 : ∀ s ∈ [cc3_scratch5.sem, cc3_scoped0.sem, cc3_scoped1.sem, cc3_scoped2.sem], (SemLoc.dma s : SemLoc sig).isScoped .scVector = true := by
  simp only [List.forall_mem_cons]
  exact ⟨by decide, by decide, by decide, by decide, fun _ h => absurd h List.not_mem_nil⟩
theorem distinct4 : [cc4_scratch5.sem, cc4_scoped0.sem, cc4_scoped1.sem, cc4_scoped2.sem].Nodup := by decide
theorem scoped4 : ∀ s ∈ [cc4_scratch5.sem, cc4_scoped0.sem, cc4_scoped1.sem, cc4_scoped2.sem], (SemLoc.dma s : SemLoc sig).isScoped .scVector = true := by
  simp only [List.forall_mem_cons]
  exact ⟨by decide, by decide, by decide, by decide, fun _ h => absurd h List.not_mem_nil⟩
theorem row_shape {r} : (S128.rowRect gathers_S1304576_S128.axis' r).shape = ⟨1, ![1]⟩ :=
  congrArg (Shape.mk 1) (funext fun a => match a with | 0 => rfl)

theorem credit_row3 (t : ℕ) (r) :
    ((chunk (Memref.whole cc3_scratch2) t).slice (S128.rowRect gathers_S1304576_S128.axis' r) (S128.stride_rowRect gathers_S1304576_S128.axis' r)).view.dmaCredit = 32 :=
  View.dmaCredit_closed _ ⟨1, ![1]⟩ row_shape 2 rfl 32 (by decide)
theorem credit_chunk3 (t : ℕ) : (chunk (Memref.whole cc3_scratch2) t).view.dmaCredit = 128 * 32 :=
  View.dmaCredit_closed _ S128 rfl 2 rfl _ (by decide)
theorem credit_row4 (t : ℕ) (r) :
    ((chunk (Memref.whole cc4_scratch2) t).slice (S128.rowRect gathers_S1304576_S128.axis' r) (S128.stride_rowRect gathers_S1304576_S128.axis' r)).view.dmaCredit = 32 :=
  View.dmaCredit_closed _ ⟨1, ![1]⟩ row_shape 7 rfl 32 (by decide)
theorem credit_chunk4 (t : ℕ) : (chunk (Memref.whole cc4_scratch2) t).view.dmaCredit = 128 * 32 :=
  View.dmaCredit_closed _ S128 rfl 7 rfl _ (by decide)

theorem sems3 (d : Dev nD) (c : Fin τ.nSC) (i : Fin τ.nSub) :
    (scopedSems0 (V d c i) : sProp 𝕄)
      = iprop(semVal (V d c i, .dma cc3_scratch5.sem) 0 ∗ semVal (V d c i, .dma cc3_scoped0.sem) 0 ∗ semVal (V d c i, .dma cc3_scoped1.sem) 0 ∗ semVal (V d c i, .dma cc3_scoped2.sem) 0
          ∗ bigSep (((((ownCells (V d c i)).erase (V d c i, .dma cc3_scratch5.sem)).erase (V d c i, .dma cc3_scoped0.sem)).erase (V d c i, .dma cc3_scoped1.sem)).erase (V d c i, .dma cc3_scoped2.sem)) fun g => semVal g 0) := by
  rw [SparseCore.Cfg.scopedSems0_V]
  exact ownSems_four d c i _ _ _ _ distinct3 scoped3

theorem sems4 (d : Dev nD) (c : Fin τ.nSC) (i : Fin τ.nSub) :
    (scopedSems0 (V d c i) : sProp 𝕄)
      = iprop(semVal (V d c i, .dma cc4_scratch5.sem) 0 ∗ semVal (V d c i, .dma cc4_scoped0.sem) 0 ∗ semVal (V d c i, .dma cc4_scoped1.sem) 0 ∗ semVal (V d c i, .dma cc4_scoped2.sem) 0
          ∗ bigSep (((((ownCells (V d c i)).erase (V d c i, .dma cc4_scratch5.sem)).erase (V d c i, .dma cc4_scoped0.sem)).erase (V d c i, .dma cc4_scoped1.sem)).erase (V d c i, .dma cc4_scoped2.sem)) fun g => semVal g 0) := by
  rw [SparseCore.Cfg.scopedSems0_V]
  exact ownSems_four d c i _ _ _ _ distinct4 scoped4

/-- A task's triple, in the launch's form. -/
theorem wrap (d : Dev nD) (c : Fin τ.nSC) (i : Fin τ.nSub) (O : CellTallies nD τ sig (HIx 2)) (W : Waits sig (HIx 2)) (hO : ∀ g, O g none = 0) (q : Fin 2)
    (G T B S : sProp 𝕄) (hB : (scopedBufs (V d c i) : sProp 𝕄) = B) (hS : (scopedSems0 (V d c i) : sProp 𝕄) = S)
    (p p' : Prog (TpuEff nD τ sig (Elt F) Λ₀ (V d c i).2) PUnit.{1}) (e : p = p')
    (h : iprop(MayWaits (V d c i) (default : HIx 2) O ∗ G ∗ B ∗ S ∗ owing (V d c i) O W)
      ⊢ wp frame (wpE (defs₀ (F := F)) 𝒱₀ (V d c i) none) Set.univ p' fun _ => iprop(T ∗ B ∗ S ∗ owing (V d c i) O W)) :
    iprop(levAts (K (F := F)).L (K (F := F)).lev ∗ BI.emp ∗ G ∗ scopedBufs (V d c i) ∗ scopedSems0 (V d c i) ∗ owes (V d c i) O W)
      ⊢ wp frame (wpE (defs₀ (F := F)) 𝒱₀ (V d c i) none) Set.univ p
          fun _ => iprop(T ∗ scopedBufs (V d c i) ∗ scopedSems0 (V d c i) ∗ ∃ W', ⌜∀ p ∈ W', p ∈ W ∨ p.2 = none ∨ p.2 = some q⌝ ∗ owes (V d c i) O W') := by
  subst e hB hS
  have pre : iprop(levAts (K (F := F)).L (K (F := F)).lev ∗ BI.emp ∗ G ∗ scopedBufs (V d c i) ∗ scopedSems0 (V d c i) ∗ owes (V d c i) O W)
      ⊢ (iprop(MayWaits (V d c i) (default : HIx 2) O ∗ G ∗ scopedBufs (V d c i) ∗ scopedSems0 (V d c i) ∗ owing (V d c i) O W) : sProp 𝕄) := by
    iintro ⟨#Hlv, -, Hg, Hb, Hs, HO⟩
    ihave Hmw := (show levAts (K (F := F)).L (K (F := F)).lev ⊢ Transfers.MayWaits (V d c i) (default : HIx 2) O from (K (F := F)).mayWaits_none (thr := V d c i) hO) $$ Hlv
    isplitl [Hmw]; · iexact Hmw
    isplitl [Hg]; · iexact Hg
    isplitl [Hb]; · iexact Hb
    isplitl [Hs]; · iexact Hs
    iapply (Entails.of_eq (owing_eq (F := F) _ O W).symm)
    iexists W
    isplitr
    · ipureintro; exact fun p hp => .inl hp
    · iexact HO
  have post : (iprop(T ∗ scopedBufs (V d c i) ∗ scopedSems0 (V d c i) ∗ owing (V d c i) O W) : sProp 𝕄)
      ⊢ iprop(T ∗ scopedBufs (V d c i) ∗ scopedSems0 (V d c i) ∗ ∃ W', ⌜∀ p ∈ W', p ∈ W ∨ p.2 = none ∨ p.2 = some q⌝ ∗ owes (V d c i) O W') := by
    iintro ⟨Hg, Hb, Hs, HO⟩
    isplitl [Hg]; · iexact Hg
    isplitl [Hb]; · iexact Hb
    isplitl [Hs]; · iexact Hs
    ihave HO := (Entails.of_eq (owing_eq (F := F) _ O W)) $$ HO
    icases HO with ⟨%W', %hW, HO⟩
    iexists W'
    isplitr
    · ipureintro; exact fun p hp => (hW p hp).imp_right Or.inl
    · iexact HO
  exact pre.trans (h.trans (wp_mono frame _ _ fun _ => post))

theorem tile3 (d : Dev nD) (c : Fin 2) (i : Fin 16) (hok : v.Ok) (O : CellTallies nD τ sig (HIx 2)) (W : Waits sig (HIx 2)) (hO : ∀ g, O g none = 0) :
    iprop(levAts (K (F := F)).L (K (F := F)).lev ∗ BI.emp ∗ go3 v d c i ∗ scopedBufs (V d c i) ∗ scopedSems0 (V d c i) ∗ owes (V d c i) O W)
      ⊢ wp frame (wpE (defs₀ (F := F)) 𝒱₀ (V d c i) none) Set.univ
          (cc3_body (F := F) (co3 c i) (Memref.whole main_v6_scv) (Memref.isWhole_whole _) (Memref.whole main_v5_scv) (Memref.isWhole_whole _)
            (Memref.whole main_v3_0_scv) (Memref.isWhole_whole _) (Memref.whole main_v8_scv) (Memref.isWhole_whole _)
            (Memref.whole cc3_scratch0) (Memref.isWhole_whole _) (Memref.whole cc3_scratch1) (Memref.isWhole_whole _) (Memref.whole cc3_scratch2) (Memref.isWhole_whole _)
            (Memref.whole cc3_scratch3) (Memref.isWhole_whole _) (Memref.whole cc3_scratch4) (Memref.isWhole_whole _) cc3_scratch5 cc3_scoped0 cc3_scoped1 cc3_scoped2)
          fun _ => iprop(td3 v d c i ∗ scopedBufs (V d c i) ∗ scopedSems0 (V d c i)
            ∗ ∃ W', ⌜∀ p ∈ W', p ∈ W ∨ p.2 = none ∨ p.2 = some (0 : Fin 2)⌝ ∗ owes (V d c i) O W') := by
  have h := wp_tile (F := F) d (c := c) (i := i) (Memref.whole main_v6_scv) (Memref.whole main_v5_scv) (Memref.whole main_v3_0_scv) (Memref.whole main_v8_scv)
    (Memref.whole cc3_scratch0) (Memref.whole cc3_scratch1) (Memref.whole cc3_scratch2) (Memref.whole cc3_scratch3) (Memref.whole cc3_scratch4)
    (k3_off1 (co3 c i)) (k3_off1_inb (co3 c i)) (k3_off2 (co3 c i)) (k3_off2_inb (co3 c i))
    (Memref.isWhole_whole _).wordExact (Memref.isWhole_whole _).wordExact (Memref.isWhole_whole _).wordExact
    cc3_scratch5.sem cc3_scoped0.sem cc3_scoped1.sem cc3_scoped2.sem k3_t1_loop k3_t1_ok k3_t2_loop k3_t2_ok o6A h6A o7A h7A o8A h8A k3_off42 k3_off42_inb
    rfl rfl 0 (by omega) (off_rows _ 0 o6A_eq) o7A_eq o8A_eq (fun t => k3_off42_eq t) (wid (c, i)) (wid_lt _) (k3_off1_wid (c, i)) (k3_off2_wid (c, i))
    (by decide) (by decide) (block_credit3 _) 32 (by omega) credit_row3 credit_chunk3
    (View.set_whole _) (View.set_whole _) (View.set_whole _) (View.set_whole _) (View.set_whole _) (View.set_whole _) O W (sh c i)
    (v.t1 d) (v.ix d) (v.b d) (v.z1 d) (v.out1 d) (fun x => hok d x) (fun x => rfl)
      (bigSep ((((((ownRefs (τ := τ) (.scVector c i)).erase ((Proc.scVector c i).devRef cc3_scratch0)).erase ((Proc.scVector c i).devRef cc3_scratch1)).erase
              ((Proc.scVector c i).devRef cc3_scratch2)).erase ((Proc.scVector c i).devRef cc3_scratch3)).erase ((Proc.scVector c i).devRef cc3_scratch4))
              fun b => iprop(∃ f, ((d, b) : Loc nD τ sig) ↦{fullShare} f))
      (bigSep (((((ownCells (V d c i)).erase (V d c i, .dma cc3_scratch5.sem)).erase (V d c i, .dma cc3_scoped0.sem)).erase (V d c i, .dma cc3_scoped1.sem)).erase (V d c i, .dma cc3_scoped2.sem)) fun g => semVal g 0)
  have eB := ((K (F := F)).scopedBufs_V facts d c i).trans (ownBufs_five (F := F) d c i cc3_scratch0 cc3_scratch1 cc3_scratch2 cc3_scratch3 cc3_scratch4 (by decide)
      (by intro r hr; simp only [List.mem_cons, List.not_mem_nil, _root_.or_false] at hr; rcases hr with rfl | rfl | rfl | rfl | rfl <;> rfl))
  have eS := sems3 (F := F) d c i
  have eP := cc3_body_task (F := F) (co3 c i) (Memref.whole main_v6_scv) (Memref.isWhole_whole _) (Memref.whole main_v5_scv) (Memref.isWhole_whole _)
            (Memref.whole main_v3_0_scv) (Memref.isWhole_whole _) (Memref.whole main_v8_scv) (Memref.isWhole_whole _)
            (Memref.whole cc3_scratch0) (Memref.isWhole_whole _) (Memref.whole cc3_scratch1) (Memref.isWhole_whole _) (Memref.whole cc3_scratch2) (Memref.isWhole_whole _)
            (Memref.whole cc3_scratch3) (Memref.isWhole_whole _) (Memref.whole cc3_scratch4) (Memref.isWhole_whole _) cc3_scratch5 cc3_scoped0 cc3_scoped1 cc3_scoped2
  have w := wrap (F := F) d c i O W hO 0 (go3 v d c i) (td3 v d c i) _ _ eB eS _ _ eP
  clear eB eS eP
  replace w := w h
  clear h
  exact w

theorem tile4 (d : Dev nD) (c : Fin 2) (i : Fin 16) (hok : v.Ok) (O : CellTallies nD τ sig (HIx 2)) (W : Waits sig (HIx 2)) (hO : ∀ g, O g none = 0) :
    iprop(levAts (K (F := F)).L (K (F := F)).lev ∗ BI.emp ∗ go4 v d c i ∗ scopedBufs (V d c i) ∗ scopedSems0 (V d c i) ∗ owes (V d c i) O W)
      ⊢ wp frame (wpE (defs₀ (F := F)) 𝒱₀ (V d c i) none) Set.univ
          (cc4_body (F := F) (co4 c i) (Memref.whole main_v7_scv) (Memref.isWhole_whole _) (Memref.whole main_v5_scv) (Memref.isWhole_whole _)
            (Memref.whole main_v8_scv) (Memref.isWhole_whole _) (Memref.whole main_v9_scv) (Memref.isWhole_whole _)
            (Memref.whole cc4_scratch0) (Memref.isWhole_whole _) (Memref.whole cc4_scratch1) (Memref.isWhole_whole _) (Memref.whole cc4_scratch2) (Memref.isWhole_whole _)
            (Memref.whole cc4_scratch3) (Memref.isWhole_whole _) (Memref.whole cc4_scratch4) (Memref.isWhole_whole _) cc4_scratch5 cc4_scoped0 cc4_scoped1 cc4_scoped2)
          fun _ => iprop(td4 v d c i ∗ scopedBufs (V d c i) ∗ scopedSems0 (V d c i)
            ∗ ∃ W', ⌜∀ p ∈ W', p ∈ W ∨ p.2 = none ∨ p.2 = some (1 : Fin 2)⌝ ∗ owes (V d c i) O W') := by
  have h := wp_tile (F := F) d (c := c) (i := i) (Memref.whole main_v7_scv) (Memref.whole main_v5_scv) (Memref.whole main_v8_scv) (Memref.whole main_v9_scv)
    (Memref.whole cc4_scratch0) (Memref.whole cc4_scratch1) (Memref.whole cc4_scratch2) (Memref.whole cc4_scratch3) (Memref.whole cc4_scratch4)
    (k4_off1 (co4 c i)) (k4_off1_inb (co4 c i)) (k4_off2 (co4 c i)) (k4_off2_inb (co4 c i))
    (Memref.isWhole_whole _).wordExact (Memref.isWhole_whole _).wordExact (Memref.isWhole_whole _).wordExact
    cc4_scratch5.sem cc4_scoped0.sem cc4_scoped1.sem cc4_scoped2.sem k4_t1_loop k4_t1_ok k4_t2_loop k4_t2_ok o6B h6B o7B h7B o8B h8B k4_off42 k4_off42_inb
    rfl rfl 13 (by omega) (off_rows _ 13 o6B_eq) o7B_eq o8B_eq (fun t => k4_off42_eq t) (wid (c, i)) (wid_lt _) (k4_off1_wid (c, i)) (k4_off2_wid (c, i))
    (by decide) (by decide) (block_credit4 _) 32 (by omega) credit_row4 credit_chunk4
    (View.set_whole _) (View.set_whole _) (View.set_whole _) (View.set_whole _) (View.set_whole _) (View.set_whole _) O W (sh c i)
    (v.t2 d) (v.ix d) (v.out1 d) (v.z2 d) (v.out2 d) (fun x => hok d x) (fun x => rfl)
      (bigSep ((((((ownRefs (τ := τ) (.scVector c i)).erase ((Proc.scVector c i).devRef cc4_scratch0)).erase ((Proc.scVector c i).devRef cc4_scratch1)).erase
              ((Proc.scVector c i).devRef cc4_scratch2)).erase ((Proc.scVector c i).devRef cc4_scratch3)).erase ((Proc.scVector c i).devRef cc4_scratch4))
              fun b => iprop(∃ f, ((d, b) : Loc nD τ sig) ↦{fullShare} f))
      (bigSep (((((ownCells (V d c i)).erase (V d c i, .dma cc4_scratch5.sem)).erase (V d c i, .dma cc4_scoped0.sem)).erase (V d c i, .dma cc4_scoped1.sem)).erase (V d c i, .dma cc4_scoped2.sem)) fun g => semVal g 0)
  have eB := ((K (F := F)).scopedBufs_V facts d c i).trans (ownBufs_five (F := F) d c i cc4_scratch0 cc4_scratch1 cc4_scratch2 cc4_scratch3 cc4_scratch4 (by decide)
      (by intro r hr; simp only [List.mem_cons, List.not_mem_nil, _root_.or_false] at hr; rcases hr with rfl | rfl | rfl | rfl | rfl <;> rfl))
  have eS := sems4 (F := F) d c i
  have eP := cc4_body_task (F := F) (co4 c i) (Memref.whole main_v7_scv) (Memref.isWhole_whole _) (Memref.whole main_v5_scv) (Memref.isWhole_whole _)
            (Memref.whole main_v8_scv) (Memref.isWhole_whole _) (Memref.whole main_v9_scv) (Memref.isWhole_whole _)
            (Memref.whole cc4_scratch0) (Memref.isWhole_whole _) (Memref.whole cc4_scratch1) (Memref.isWhole_whole _) (Memref.whole cc4_scratch2) (Memref.isWhole_whole _)
            (Memref.whole cc4_scratch3) (Memref.isWhole_whole _) (Memref.whole cc4_scratch4) (Memref.isWhole_whole _) cc4_scratch5 cc4_scoped0 cc4_scoped1 cc4_scoped2
  have w := wrap (F := F) d c i O W hO 1 (go4 v d c i) (td4 v d c i) _ _ eB eS _ _ eP
  clear eB eS eP
  replace w := w h
  clear h
  exact w

theorem row3 (c : Fin τ.nSC) (s : Fin τ.nSub) :
    defs₀ (F := F) (.scVector c s) 3 ()
      = SparseCore.onTile hcore3 hsub3 (fun c s => cc3_body (co3 c s) (Memref.whole main_v6_scv) (Memref.isWhole_whole _) (Memref.whole main_v5_scv) (Memref.isWhole_whole _)
            (Memref.whole main_v3_0_scv) (Memref.isWhole_whole _) (Memref.whole main_v8_scv) (Memref.isWhole_whole _)
            (Memref.whole cc3_scratch0) (Memref.isWhole_whole _) (Memref.whole cc3_scratch1) (Memref.isWhole_whole _) (Memref.whole cc3_scratch2) (Memref.isWhole_whole _)
            (Memref.whole cc3_scratch3) (Memref.isWhole_whole _) (Memref.whole cc3_scratch4) (Memref.isWhole_whole _) cc3_scratch5 cc3_scoped0 cc3_scoped1 cc3_scoped2) ⟨⟩ c s := rfl

set_option maxRecDepth 16384 in
theorem tileObl_0 (hok : v.Ok) : (K (F := F)).TileObl (D (F := F)) 𝒱 (P v) v₀ 0 := by
  intro d c i O W hO _ _
  simp only [show (P v).ox = fun _ _ => 0 from rfl, add_zero]
  have hci : ((K (F := F)).core 0 c).val < grid3.bound 0 ∧ ((K (F := F)).sub 0 i).val < grid3.bound 1 := ⟨c.isLt, i.isLt⟩
  change _ ⊢ wp _ _ _ (Pipeline.liftProg (defs₀ (F := F) (.scVector ((K (F := F)).core 0 c) ((K (F := F)).sub 0 i)) 3 ())) _
  refine BI.Entails.trans ?_ (Pipeline.wp_liftProg (D (F := F)) (Pipeline.defs_kernel pcfgs defs₀) 𝒱₀ _ Set.univ none _ _)
  rw [row3]; simp only [SparseCore.onTile, hci, and_self, ↓reduceDIte]
  exact tile3 v d (Fin.cast nCore_0 c) (Fin.cast nSub_0 i) hok O W hO

theorem row4 (c : Fin τ.nSC) (s : Fin τ.nSub) :
    defs₀ (F := F) (.scVector c s) 4 ()
      = SparseCore.onTile hcore4 hsub4 (fun c s => cc4_body (co4 c s) (Memref.whole main_v7_scv) (Memref.isWhole_whole _) (Memref.whole main_v5_scv) (Memref.isWhole_whole _)
            (Memref.whole main_v8_scv) (Memref.isWhole_whole _) (Memref.whole main_v9_scv) (Memref.isWhole_whole _)
            (Memref.whole cc4_scratch0) (Memref.isWhole_whole _) (Memref.whole cc4_scratch1) (Memref.isWhole_whole _) (Memref.whole cc4_scratch2) (Memref.isWhole_whole _)
            (Memref.whole cc4_scratch3) (Memref.isWhole_whole _) (Memref.whole cc4_scratch4) (Memref.isWhole_whole _) cc4_scratch5 cc4_scoped0 cc4_scoped1 cc4_scoped2) ⟨⟩ c s := rfl

set_option maxRecDepth 16384 in
theorem tileObl_1 (hok : v.Ok) : (K (F := F)).TileObl (D (F := F)) 𝒱 (P v) v₀ 1 := by
  intro d c i O W hO _ _
  simp only [show (P v).ox = fun _ _ => 0 from rfl, add_zero]
  have hci : ((K (F := F)).core 1 c).val < grid4.bound 0 ∧ ((K (F := F)).sub 1 i).val < grid4.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [row4]; simp only [SparseCore.onTile, hci, and_self, ↓reduceDIte]
  exact tile4 v d (Fin.cast nCore_1 c) (Fin.cast nSub_1 i) hok O W hO

end Cert.Proof.Run
-- ==== Proof.Region.lean ====
/-
  The three calls of the TensorCore as regions of the program: entered with every buffer that outlives a call, left with
  their results' buffers at the blocks their bodies wrote.
-/
module

public import proofs.«01_k».proof.Proof.Body
public import proofs.«01_k».proof.Proof.Duty
public import Idealize.ShloMosaic.Lib.Pipeline.RegionsLoop
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 2) (Elt F) ℕ UU ℕ

/-- No call reads a table before its windows. -/
abbrev adm : (p : Fin 3) → (pcfgs (F := F) p).Adm := fun p => (cfgs p).toPCfg_adm

/-- The contents of a core's buffers. -/
abbrev Mem (F : FTy → Type) : Type := (c : Dev nD) → (b : Ref sig .tc) → Buf (Elt F) ((c.tc : Thread nD τ).loc b)

section Data

variable [FloatOps F] (V : Mem F) (c : Dev nD)

/-- The waits a core may have recorded before the first of the SparseCore's calls. -/
def early : Set (SemLoc sig × HIx 2) := {p | (K (F := F)).lev (T c, p.1) p.2 ≤ 0}

/-- The windows' blocks of the calls' arrays. -/
abbrev in0_0 : (cfg0.win 0).block.Idx → Elt F (cfg0.win 0).elt := ((cfg0.win 0).blk t0_0).view.read (Elt F) (V c (Pipeline.arrRef spec0 0))
abbrev in0_1 : (cfg0.win 1).block.Idx → Elt F (cfg0.win 1).elt := ((cfg0.win 1).blk t0_0).view.read (Elt F) (V c (Pipeline.arrRef spec0 1))
abbrev in0_2 : (cfg0.win 2).block.Idx → Elt F (cfg0.win 2).elt := ((cfg0.win 2).blk t0_0).view.read (Elt F) (V c (Pipeline.arrRef spec0 2))
abbrev in0_3 : (cfg0.win 3).block.Idx → Elt F (cfg0.win 3).elt := ((cfg0.win 3).blk t0_0).view.read (Elt F) (V c (Pipeline.arrRef spec0 3))
abbrev in0_4 : (cfg0.win 4).block.Idx → Elt F (cfg0.win 4).elt := ((cfg0.win 4).blk t0_0).view.read (Elt F) (V c (Pipeline.arrRef spec0 4))
abbrev in1_0 (t : Fin cfg1.N) : (cfg1.win 0).block.Idx → Elt F (cfg1.win 0).elt := ((cfg1.win 0).blk t).view.read (Elt F) (V c (Pipeline.arrRef spec1 0))
abbrev in1_1 (t : Fin cfg1.N) : (cfg1.win 1).block.Idx → Elt F (cfg1.win 1).elt := ((cfg1.win 1).blk t).view.read (Elt F) (V c (Pipeline.arrRef spec1 1))
abbrev in2_0 (t : Fin cfg2.N) : (cfg2.win 0).block.Idx → Elt F (cfg2.win 0).elt := ((cfg2.win 0).blk t).view.read (Elt F) (V c (Pipeline.arrRef spec2 0))
abbrev in2_1 (t : Fin cfg2.N) : (cfg2.win 1).block.Idx → Elt F (cfg2.win 1).elt := ((cfg2.win 1).blk t).view.read (Elt F) (V c (Pipeline.arrRef spec2 1))

def dat0 : Pipeline.Dat τ (Elt F) (HIx 2) ℕ UU ℕ cfg0 c where
  A w := V c (Pipeline.arrRef spec0 w)
  after w _ := match w with
    | ⟨0, _⟩ => in0_0 V c
    | ⟨1, _⟩ => in0_1 V c
    | ⟨2, _⟩ => in0_2 V c
    | ⟨3, _⟩ => in0_3 V c
    | ⟨4, _⟩ => in0_4 V c
    | ⟨5, _⟩ => baseOf (in0_0 V c) (in0_1 V c) (in0_2 V c) (in0_3 V c) (in0_4 V c)
    | ⟨6, _⟩ => tabOf (in0_1 V c) (in0_3 V c)
  Φ _ := Pipeline.scopedRest (Pipeline.pin (pcfgs (F := F)) adm ⟨0, by omega⟩).spec c
  q _ := fullShare
  owed _ := (K (F := F)).Otc c 0
  recorded _ := early (F := F) c

def dat1 : Pipeline.Dat τ (Elt F) (HIx 2) ℕ UU ℕ cfg1 c where
  A w := V c (Pipeline.arrRef spec1 w)
  after w t := match w with
    | ⟨0, _⟩ => in1_0 V c t
    | ⟨1, _⟩ => in1_1 V c t
    | ⟨2, _⟩ => rowTimes (row1 (grid1.coords t) (in1_1 V c t)) (in1_0 V c t)
  Φ _ := Pipeline.scopedRest (Pipeline.pin (pcfgs (F := F)) adm ⟨1, by omega⟩).spec c
  q _ := fullShare
  owed _ := (K (F := F)).Otc c 0
  recorded _ := early (F := F) c

def dat2 : Pipeline.Dat τ (Elt F) (HIx 2) ℕ UU ℕ cfg2 c where
  A w := V c (Pipeline.arrRef spec2 w)
  after w t := match w with
    | ⟨0, _⟩ => in2_0 V c t
    | ⟨1, _⟩ => in2_1 V c t
    | ⟨2, _⟩ => rowTimes (row2 (grid2.coords t) (in2_1 V c t)) (in2_0 V c t)
  Φ _ := Pipeline.scopedRest (Pipeline.pin (pcfgs (F := F)) adm ⟨2, by omega⟩).spec c
  q _ := fullShare
  owed _ := (K (F := F)).Otc c 0
  recorded _ := early (F := F) c

def pdats : (p : Fin 3) → (c : Dev nD) → Pipeline.Dat τ (Elt F) (HIx 2) ℕ UU ℕ (Pipeline.pin (pcfgs (F := F)) adm p) c
  | ⟨0, _⟩ => fun c => dat0 V c
  | ⟨1, _⟩ => fun c => dat1 V c
  | ⟨2, _⟩ => fun c => dat2 V c

end Data

section Bodies

variable [FloatOps F] (V : Mem F) (c : Dev nD)

theorem body0 : Pipeline.BodyObligation (dat0 V c) (defs₀ (F := F)) 𝒱₀ none Set.univ := fun t => by
  obtain rfl := fin_N0 t
  rw [bigSep_W0, bigSep_W0]
  rw [show (dat0 V c).Φ t0_0.succ = (dat0 V c).Φ t0_0.castSucc from rfl,
    show (dat0 V c).owesAt none t0_0.succ = (dat0 V c).owesAt none t0_0.castSucc from rfl]
  have e0 : ∀ d, (dat0 V c).before 0 t0_0 d = in0_0 V c := fun d => (dat0 V c).before_fetched 0 t0_0 (fetch0_0 _) d
  have e1 : ∀ d, (dat0 V c).before 1 t0_0 d = in0_1 V c := fun d => (dat0 V c).before_fetched 1 t0_0 (fetch0_1 _) d
  have e2 : ∀ d, (dat0 V c).before 2 t0_0 d = in0_2 V c := fun d => (dat0 V c).before_fetched 2 t0_0 (fetch0_2 _) d
  have e3 : ∀ d, (dat0 V c).before 3 t0_0 d = in0_3 V c := fun d => (dat0 V c).before_fetched 3 t0_0 (fetch0_3 _) d
  have e4 : ∀ d, (dat0 V c).before 4 t0_0 d = in0_4 V c := fun d => (dat0 V c).before_fetched 4 t0_0 (fetch0_4 _) d
  iintro ⟨HΦ, Howes, ⟨%d0, H0⟩, ⟨%d1, H1⟩, ⟨%d2, H2⟩, ⟨%d3, H3⟩, ⟨%d4, H4⟩, ⟨%d5, H5⟩, ⟨%d6, H6⟩⟩
  rw [e0, e1, e2, e3, e4]
  iapply (wp_cc0 c _ (hstage0_0 0) _ (hstage0_1 0) _ (hstage0_2 0) _ (hstage0_3 0) _ (hstage0_4 0) _ (hstage0_5 0) _ (hstage0_6 0) (in0_0 V c) (in0_1 V c) (in0_2 V c) (in0_3 V c) (in0_4 V c) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem body1 : Pipeline.BodyObligation (dat1 V c) (defs₀ (F := F)) 𝒱₀ none Set.univ := fun t => by
  rw [bigSep_W1, bigSep_W1]
  rw [show (dat1 V c).Φ t.succ = (dat1 V c).Φ t.castSucc from rfl,
    show (dat1 V c).owesAt none t.succ = (dat1 V c).owesAt none t.castSucc from rfl]
  have e0 : ∀ d, (dat1 V c).before 0 t d = in1_0 V c t := fun d => (dat1 V c).before_fetched 0 t (fetch1_0 _) d
  have e1 : ∀ d, (dat1 V c).before 1 t d = in1_1 V c t := fun d =>
    (dat1 V c).before_in_eq_fetched 1 rfl (fun _ => rfl) (fun _ _ _ => rfl) (fun _ => rfl) t d
  iintro ⟨HΦ, Howes, ⟨%d0, H0⟩, ⟨%d1, H1⟩, ⟨%d2, H2⟩⟩
  rw [e0, e1]
  iapply (wp_cc1 c (grid1.coords t) _ (hstage1_0 ((cfg1.slots t 0).cast nbuf1_0)) _ (hstage1_1 ((cfg1.slots t 1).cast nbuf1_1)) _ (hstage1_2 ((cfg1.slots t 2).cast nbuf1_2)) (in1_0 V c t) (in1_1 V c t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem body2 : Pipeline.BodyObligation (dat2 V c) (defs₀ (F := F)) 𝒱₀ none Set.univ := fun t => by
  rw [bigSep_W2, bigSep_W2]
  rw [show (dat2 V c).Φ t.succ = (dat2 V c).Φ t.castSucc from rfl,
    show (dat2 V c).owesAt none t.succ = (dat2 V c).owesAt none t.castSucc from rfl]
  have e0 : ∀ d, (dat2 V c).before 0 t d = in2_0 V c t := fun d => (dat2 V c).before_fetched 0 t (fetch2_0 _) d
  have e1 : ∀ d, (dat2 V c).before 1 t d = in2_1 V c t := fun d =>
    (dat2 V c).before_in_eq_fetched 1 rfl (fun _ => rfl) (fun _ _ _ => rfl) (fun _ => rfl) t d
  iintro ⟨HΦ, Howes, ⟨%d0, H0⟩, ⟨%d1, H1⟩, ⟨%d2, H2⟩⟩
  rw [e0, e1]
  iapply (wp_cc2 c (grid2.coords t) _ (hstage2_0 ((cfg2.slots t 0).cast nbuf2_0)) _ (hstage2_1 ((cfg2.slots t 1).cast nbuf2_1)) _ (hstage2_2 ((cfg2.slots t 2).cast nbuf2_2)) (in2_0 V c t) (in2_1 V c t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem bodies : ∀ p c, Pipeline.BodyObligation (pdats V p c) (defs₀ (F := F)) 𝒱₀ none Set.univ
  | ⟨0, _⟩, c => body0 V c
  | ⟨1, _⟩, c => body1 V c
  | ⟨2, _⟩, c => body2 V c

end Bodies

section Segments

variable [FloatOps F] (V V' : Mem F)

theorem Otc_none (c : Dev nD) (g : GSem nD τ sig) : (K (F := F)).Otc (N := 2) c 0 g none = 0 := by
  by_contra h
  have h1 := SparseCore.Cfg.lev_of_Otc_pos (K := K (F := F)) (N := 2) (Nat.pos_of_ne_zero h)
  have h2 : (K (F := F)).lev (N := 2) g none = 0 := rfl
  omega

theorem launches : ∀ p, Pipeline.LaunchFacts (nD := nD) (τ := τ) cfgs p
  | ⟨0, _⟩ => launch0
  | ⟨1, _⟩ => launch1
  | ⟨2, _⟩ => launch2

theorem phi_dat0 (c : Dev nD) (t) :
    (dat0 V c).Φ t = Pipeline.scopedRest (Pipeline.pin (pcfgs (F := F)) adm ⟨0, by omega⟩).spec c := by
  unfold dat0; dsimp only

theorem phi_pdats0 (h) (c : Dev nD) (t : Fin ((Pipeline.pin (pcfgs (F := F)) adm ⟨0, h⟩).N + 1)) :
    (pdats V ⟨0, h⟩ c).Φ t = (dat0 V c).Φ t := rfl

theorem phi_dat1 (c : Dev nD) (t) :
    (dat1 V c).Φ t = Pipeline.scopedRest (Pipeline.pin (pcfgs (F := F)) adm ⟨1, by omega⟩).spec c := by
  unfold dat1; dsimp only

theorem phi_pdats1 (h) (c : Dev nD) (t : Fin ((Pipeline.pin (pcfgs (F := F)) adm ⟨1, h⟩).N + 1)) :
    (pdats V ⟨1, h⟩ c).Φ t = (dat1 V c).Φ t := rfl

theorem phi_dat2 (c : Dev nD) (t) :
    (dat2 V c).Φ t = Pipeline.scopedRest (Pipeline.pin (pcfgs (F := F)) adm ⟨2, by omega⟩).spec c := by
  unfold dat2; dsimp only

theorem phi_pdats2 (h) (c : Dev nD) (t : Fin ((Pipeline.pin (pcfgs (F := F)) adm ⟨2, h⟩).N + 1)) :
    (pdats V ⟨2, h⟩ c).Φ t = (dat2 V c).Φ t := rfl

theorem phi_eq (p : Fin 3) (c : Dev nD) (t : Fin ((Pipeline.pin (pcfgs (F := F)) adm p).N + 1)) :
    (pdats V p c).Φ t = Pipeline.scopedRest (Pipeline.pin (pcfgs (F := F)) adm p).spec c := by
  obtain ⟨_ | _ | _ | n, h⟩ := p
  · exact (phi_pdats0 V h c t).trans (phi_dat0 V c t)
  · exact (phi_pdats1 V h c t).trans (phi_dat1 V c t)
  · exact (phi_pdats2 V h c t).trans (phi_dat2 V c t)
  · omega

theorem q_eq (p : Fin 3) (c : Dev nD) (w : Fin (Pipeline.pin (pcfgs (F := F)) adm p).W) : (pdats V p c).q w = fullShare := by
  obtain ⟨_ | _ | _ | n, h⟩ := p
  · exact (rfl : (dat0 V c).q w = fullShare)
  · exact (rfl : (dat1 V c).q w = fullShare)
  · exact (rfl : (dat2 V c).q w = fullShare)
  · omega

theorem A_eq (p : Fin 3) (c : Dev nD) (w : Fin (Pipeline.pin (pcfgs (F := F)) adm p).W) :
    (pdats V p c).A w = V c (Pipeline.arrRef (Pipeline.pin (pcfgs (F := F)) adm p).spec w) := by
  obtain ⟨_ | _ | _ | n, h⟩ := p
  · exact (rfl : (dat0 V c).A w = V c (Pipeline.arrRef spec0 w))
  · exact (rfl : (dat1 V c).A w = V c (Pipeline.arrRef spec1 w))
  · exact (rfl : (dat2 V c).A w = V c (Pipeline.arrRef spec2 w))
  · omega

theorem owed_eq (p : Fin 3) (c : Dev nD) (t : Fin ((Pipeline.pin (pcfgs (F := F)) adm p).N + 1)) :
    (pdats V p c).owed t = (K (F := F)).Otc c 0 := by
  obtain ⟨_ | _ | _ | n, h⟩ := p
  · exact (rfl : (dat0 V c).owed t = (K (F := F)).Otc c 0)
  · exact (rfl : (dat1 V c).owed t = (K (F := F)).Otc c 0)
  · exact (rfl : (dat2 V c).owed t = (K (F := F)).Otc c 0)
  · omega

theorem recorded_eq (p : Fin 3) (c : Dev nD) (t : Fin ((Pipeline.pin (pcfgs (F := F)) adm p).N + 1)) :
    (pdats V p c).recorded t = early (F := F) c := by
  obtain ⟨_ | _ | _ | n, h⟩ := p
  · exact (rfl : (dat0 V c).recorded t = early (F := F) c)
  · exact (rfl : (dat1 V c).recorded t = early (F := F) c)
  · exact (rfl : (dat2 V c).recorded t = early (F := F) c)
  · omega

theorem early_waits (p : Fin 3) (c : Dev nD) :
    (levAts (K (F := F)).L (K (F := F)).lev : sProp 𝕄) ⊢ Pipeline.cellsWaits (Pipeline.pin (pcfgs (F := F)) adm) (pdats V) none p c :=
  Pipeline.cellsWaits_intro _ _ _ p c fun w s t => (K (F := F)).mayWait_none _ (by rw [owed_eq]; exact Otc_none c)

/-- What a core owes, with the waits it may have recorded before the SparseCore's calls. -/
def owesEarly (c : Dev nD) : sProp 𝕄 := iprop(∃ W, ⌜(K (F := F)).WBelow (T c) W 0⌝ ∗ owes (T c) ((K (F := F)).Otc c 0) W)

theorem owesAt_in (p : Fin 3) (c : Dev nD) (t : Fin ((Pipeline.pin (pcfgs (F := F)) adm p).N + 1)) :
    owesEarly (F := F) c ⊢ (pdats V p c).owesAt none t := by
  unfold Pipeline.Dat.owesAt Pipeline.owesWithin Pipeline.Dat.bound owesEarly
  rw [owed_eq, recorded_eq]
  iintro ⟨%W, %hW, H⟩
  iexists W
  isplitr
  · ipureintro
    intro x hx
    exact Or.inl (hW x hx)
  · iexact H

theorem owesAt_out (p : Fin 3) (c : Dev nD) (t : Fin ((Pipeline.pin (pcfgs (F := F)) adm p).N + 1)) :
    (pdats V p c).owesAt none t ⊢ owesEarly (F := F) c := by
  unfold Pipeline.Dat.owesAt Pipeline.owesWithin Pipeline.Dat.bound owesEarly
  rw [owed_eq, recorded_eq]
  iintro ⟨%W, %hW, H⟩
  iexists W
  isplitr
  · ipureintro
    intro x hx
    rcases hW hx with h | ⟨w, s, h⟩
    · exact h
    · subst h
      exact Nat.le_refl 0
  · iexact H

set_option backward.isDefEq.respectTransparency.types false in
/-- Call `p` as a region, from the buffers at `V` to the buffers at `V'`. -/
def reg (p : Fin 3)
    (hout : ∀ c w, (pdats V p c).arrAt w (Pipeline.pin (pcfgs (F := F)) adm p).N = V' c (Pipeline.arrRef (Pipeline.pin (pcfgs (F := F)) adm p).spec w))
    (hne : ∀ c b, b ∉ Finset.univ.image (Pipeline.arrRef (Pipeline.pin (pcfgs (F := F)) adm p).spec) → V' c b = V c b) :
    Pipeline.RegionSeg (pcfgs (F := F)) adm (pdats V) none (defs₀ (F := F)) 𝒱₀ (K (F := F)).L (K (F := F)).lev p where
  win := (launches p).win.to₀
  block_pos := (launches p).block_pos
  stage_whole := (launches p).stage_whole
  K := PEmpty
  osem k := k.elim
  ho := Pipeline.OwnSemFacts.none _
  hbody c := (bodies V p c).loose
  hwaits := early_waits V p
  pre c := iprop(unscopedBufs c (V c) ∗ owesEarly (F := F) c)
  post c := iprop(unscopedBufs c (V' c) ∗ owesEarly (F := F) c)
  X _ := BI.emp
  Y _ := BI.emp
  Z c := Pipeline.unscopedRest (Ix := HIx 2) (Name := ℕ) (U := UU) (Lvl := ℕ) (Pipeline.pin (pcfgs (F := F)) adm p).spec c (V c)
  hentry c := by
    rw [Pipeline.ownSems0_none]
    have hsplit := Pipeline.arrays_of_unscopedBufs (p := p) (pcfgs (F := F)) adm (pdats V) (launches p).win (launches p).arr_whole c
      ((pdats V p c).share_full fun w => q_eq V p c w) (V c) fun w => A_eq V p c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_in V p c 0); iexact HO
    isplitr; · iempintro
    iexact Hrest
  hin c := by
    rw [phi_eq V p c 0]
    iintro ⟨-, -, Hr⟩; iexact Hr
  hout c := by
    rw [Pipeline.ownSems0_none, phi_eq V p c (Fin.last _)]
    iintro Hr
    isplitr; · iempintro
    isplitr; · iempintro
    iexact Hr
  hexit c := by
    have hjoin := Pipeline.unscopedBufs_of_arrays (p := p) (pcfgs (F := F)) adm (Ix := HIx 2) (Name := ℕ) (U := UU) (Lvl := ℕ) (launches p).win (launches p).arr_whole c
      (pdats V) ((pdats V p c).share_full fun w => q_eq V p c w) (V c) (V' c) ((pdats V p c).arrAt · (Pipeline.pin (pcfgs (F := F)) adm p).N)
      (hout c) (hne c)
    iintro ⟨Ha, HO, -, Hrest⟩
    imodintro
    isplitl [Ha Hrest]
    · iapply hjoin; isplitl [Ha] <;> iassumption
    iapply (owesAt_out V p c _)
    iexact HO

end Segments

end Cert.Proof.Run
-- ==== Proof.Line.lean ====
/-
  The buffers of the program between its steps: the host's operations and the three calls of the TensorCore, each as a step
  from one assignment of contents to the next.
-/
module

public import proofs.«01_k».proof.Proof.Region
public import Idealize.ShloMosaic.Lib.Pipeline.FrameTail
public import Idealize.ShloMosaic.Lib.Pipeline.RegionArraysS

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 2) (Elt F) ℕ UU ℕ

/-- Contents of every buffer of a device. -/
abbrev Bufs (F : FTy → Type) : Type := Valuation τ sig (Elt F)

/-! ## The host's operations -/

section Ops

variable [FloatOps F]

abbrev op0 : HloOp τ sig (Elt F) := StableHlo.unary main_arg0 main_v0 ((transpose S13x16384 [1, 0] · transposes_S16384x13_S13x16384_1_0) : (⟨S16384x13, .f32⟩ : BufTy).Contents (Elt F) → (⟨S13x16384, .f32⟩ : BufTy).Contents (Elt F))
abbrev op1 : HloOp τ sig (Elt F) := StableHlo.reshape main_arg4 main_v1 (rfl : (.f32 : EltTy) = .f32) shapeCasts_S16_S1x16
abbrev op2 : HloOp τ sig (Elt F) := StableHlo.reshape main_arg6 main_v2 (rfl : (.f32 : EltTy) = .f32) shapeCasts_S1_S1x1
abbrev op4 : HloOp τ sig (Elt F) := StableHlo.unary main_arg2 main_v4 ((transpose S26x16x100000 [0, 2, 1] · transposes_S26x100000x16_S26x16x100000_0_2_1) : (⟨S26x100000x16, .f32⟩ : BufTy).Contents (Elt F) → (⟨S26x16x100000, .f32⟩ : BufTy).Contents (Elt F))
abbrev op5 : HloOp τ sig (Elt F) := StableHlo.unary main_arg1 main_v5 ((transpose S26x16384 [1, 0] · transposes_S16384x26_S26x16384_1_0) : (⟨S16384x26, .i32⟩ : BufTy).Contents (Elt F) → (⟨S26x16384, .i32⟩ : BufTy).Contents (Elt F))
abbrev op10 : HloOp τ sig (Elt F) := StableHlo.reshape main_v9 main_v10 (rfl : (.f32 : EltTy) = .f32) shapeCasts_S16384_S16384x1

end Ops

/-! ## A call of the TensorCore as a step -/

section Step

variable [FloatOps F]

/-- The contents as the regions read them. -/
abbrev mem (V : Dev nD → Bufs F) : Mem F := fun c b => V c (Proc.devRef .tc b)

/-- The contents after call `p`. -/
def step (p : Fin 3) (V : Dev nD → Bufs F) : Dev nD → Bufs F := fun c => Pipeline.afterRegion (pdats (mem V) p c) (V c)

abbrev uc : Finset (DevRef τ sig) := Pipeline.ucRefs τ sig

def regStep (p : Fin 3) (V : Dev nD → Bufs F) :=
  reg (mem V) (mem (step p V)) p
    (fun c w => (Pipeline.afterRegion_arr (pdats (mem V) p c) (V c) (launches p).win.arr_inj w).symm)
    (fun c b hb => Pipeline.afterRegion_of_not_arr (pdats (mem V) p c) (V c) fun w e => hb (Finset.mem_image.2 ⟨w, Finset.mem_univ _, e.symm⟩))

theorem wp_call (p : Fin 3) (V : Dev nD → Bufs F) (d : Dev nD) (Q : PUnit.{1} → sProp 𝕄) :
    iprop((iprop(boundary (T d) ∗ StableHlo.held (T d) uc (step p V d) ∗ owesEarly (F := F) d) -∗ Q ⟨⟩)
        ∗ boundary (T d) ∗ StableHlo.held (T d) uc (V d) ∗ owesEarly (F := F) d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (Prog.lift (.customCall (SparseCore.inner (Pipeline.entry p)) ())) Q := by
  have h := Pipeline.RegionSeg.wp (pcfgs (F := F)) adm (pdats (mem V)) none cellOf_inj EP (defs₀ (F := F)) 𝒱₀ (K (F := F)).L (K (F := F)).lev
    (regStep p V) d none (fun _ h => nomatch h) .ret Q
  rw [show (regStep p V).post d = iprop(unscopedBufs d (mem (step p V) d) ∗ owesEarly (F := F) d) from rfl,
    show (regStep p V).pre d = iprop(unscopedBufs d (mem V d) ∗ owesEarly (F := F) d) from rfl,
    Pipeline.unscopedBufs_held, Pipeline.unscopedBufs_held] at h
  have h' := (K (F := F)).wp_liftProg (D (F := F)) 𝒱 (T d) Set.univ none (.op (.customCall (Pipeline.entry p) ()) .ret) Q
  iintro ⟨Hk, Hb, Hh, Ho, Hl, Hc, Ht⟩
  iapply h'
  iapply h
  isplitl [Hk]
  · iintro ⟨Hb, Hh, Ho⟩
    rw [wp_ret]; imodintro
    iapply Hk
    isplitl [Hb]; · iexact Hb
    isplitl [Hh]; · iexact Hh
    iexact Ho
  isplitl [Hb]; · iexact Hb
  isplitl [Hh Ho]; · isplitl [Hh] <;> iassumption
  isplitl [Hl]; · iexact Hl
  isplitl [Hc]; · iexact Hc
  iexact Ht

end Step

end Cert.Proof.Run
-- ==== Proof.Main.lean ====
/-
  The program's main thread: the host's operations, the three calls of the TensorCore and the two of the SparseCore, from
  the launch memory to the buffers it leaves.
-/
module

public import proofs.«01_k».proof.Proof.Line

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 2) (Elt F) ℕ UU ℕ

section Chain

variable [FloatOps F] (m : (ℓ : Loc nD τ sig) → Buf (Elt F) ℓ)

/-! ## The contents between the steps -/

def B0 : Dev nD → Bufs F := fun d b => m (d, b)
def B1 : Dev nD → Bufs F := fun d => op2.result (op1.result (op0.result (B0 m d)))
def B2 : Dev nD → Bufs F := step 0 (B1 m)
def B3 : Dev nD → Bufs F := fun d => op5.result (op4.result (B2 m d))
def B4 : Dev nD → Bufs F := step 1 (B3 m)
def B5 : Dev nD → Bufs F := step 2 (B4 m)

/-- What the SparseCore's calls carry. -/
def vals : Vals F where
  t1 d := B5 m d (Proc.devRef .tc main_v6)
  t2 d := B5 m d (Proc.devRef .tc main_v7)
  ix d := B5 m d (Proc.devRef .tc main_v5)
  b d := B5 m d (Proc.devRef .tc main_v3_0)
  z1 d := B5 m d (Proc.devRef .tc main_v8)
  z2 d := B5 m d (Proc.devRef .tc main_v9)

/-- After the SparseCore's calls. -/
def B6 : Dev nD → Bufs F := fun d =>
  Function.update (Function.update (B5 m d) (Proc.devRef .tc main_v8) ((vals m).out1 d)) (Proc.devRef .tc main_v9) ((vals m).out2 d)
def B7 : Dev nD → Bufs F := fun d => op10.result (B6 m d)

/-! ## The arrays of the SparseCore's calls among the buffers -/

abbrev scRefs : Finset (DevRef τ sig) :=
  {Proc.devRef .tc main_v6, Proc.devRef .tc main_v7, Proc.devRef .tc main_v5, Proc.devRef .tc main_v3_0, Proc.devRef .tc main_v8, Proc.devRef .tc main_v9}

theorem scRefs_sub : scRefs ⊆ uc := by decide

theorem held_sc (d : Dev nD) (W : Bufs F) :
    (StableHlo.held (T d) scRefs W : sProp 𝕄) = iprop((l6 d ↦{fullShare} W (Proc.devRef .tc main_v6)) ∗ (l7 d ↦{fullShare} W (Proc.devRef .tc main_v7))
      ∗ (l5 d ↦{fullShare} W (Proc.devRef .tc main_v5)) ∗ (l3 d ↦{fullShare} W (Proc.devRef .tc main_v3_0))
      ∗ (l8 d ↦{fullShare} W (Proc.devRef .tc main_v8)) ∗ (l9 d ↦{fullShare} W (Proc.devRef .tc main_v9))) := by
  unfold StableHlo.held
  rw [SparseCore.bigSep_insert' (by decide), SparseCore.bigSep_insert' (by decide), SparseCore.bigSep_insert' (by decide),
    SparseCore.bigSep_insert' (by decide), SparseCore.bigSep_insert' (by decide), bigSep_singleton]

theorem B6_of_ne (d : Dev nD) (b : DevRef τ sig) (h8 : b ≠ Proc.devRef .tc main_v8) (h9 : b ≠ Proc.devRef .tc main_v9) : B6 m d b = B5 m d b := by
  unfold B6
  rw [Function.update_of_ne h9, Function.update_of_ne h8]
theorem B6_v8 (d : Dev nD) : B6 m d (Proc.devRef .tc main_v8) = (vals m).out1 d := by
  unfold B6
  rw [Function.update_of_ne (by decide), Function.update_self]
theorem B6_v9 (d : Dev nD) : B6 m d (Proc.devRef .tc main_v9) = (vals m).out2 d := by
  unfold B6
  rw [Function.update_self]

theorem held_rest (d : Dev nD) : (StableHlo.held (T d) (uc \ scRefs) (B6 m d) : sProp 𝕄) = StableHlo.held (T d) (uc \ scRefs) (B5 m d) :=
  bigSep_congr fun b hb => by
    rw [B6_of_ne m d b (fun e => (Finset.mem_sdiff.1 hb).2 (by rw [e]; decide)) (fun e => (Finset.mem_sdiff.1 hb).2 (by rw [e]; decide))]

theorem join_sc (d : Dev nD) :
    (iprop(((l6 d ↦{fullShare} (vals m).t1 d) ∗ (l7 d ↦{fullShare} (vals m).t2 d) ∗ (l5 d ↦{fullShare} (vals m).ix d)
      ∗ (l3 d ↦{fullShare} (vals m).b d) ∗ (l8 d ↦{fullShare} (vals m).out1 d) ∗ (l9 d ↦{fullShare} (vals m).out2 d))
      ∗ StableHlo.held (T d) (uc \ scRefs) (B5 m d)) : sProp 𝕄) = StableHlo.held (T d) uc (B6 m d) := by
  rw [StableHlo.held_sub_split _ scRefs_sub, held_rest, held_sc, B6_v8, B6_v9, B6_of_ne m d _ (by decide) (by decide), B6_of_ne m d _ (by decide) (by decide),
    B6_of_ne m d _ (by decide) (by decide), B6_of_ne m d _ (by decide) (by decide)]
  rfl

end Chain

/-! ## The main thread -/

section Thread

variable [FloatOps F] (m : (ℓ : Loc nD τ sig) → Buf (Elt F) ℓ) (ρ : Dev nD → PrngReg)

theorem wp_op (op : HloOp τ sig (Elt F)) (hs : op.bufs ⊆ StableHlo.tcRefs τ sig) (hf : op.fresh = ∅) (W : Bufs F) (d : Dev nD) (Q : PUnit.{1} → sProp 𝕄) :
    iprop((iprop(boundary (T d) ∗ StableHlo.held (T d) uc (op.result W)) -∗ Q ⟨⟩) ∗ boundary (T d) ∗ StableHlo.held (T d) uc W)
      ⊢ wp frame (wpE ((K (F := F)).defs (D (F := F))) 𝒱 (T d) none) Set.univ (hlo rfl op (fun _ => .ret ⟨⟩)) Q := by
  iintro ⟨Hk, H⟩
  iapply (StableHlo.wp_hlo_within 𝒱 (T d) none Set.univ (Pipeline.sub_ucRefs op hs) (hf := hf)) $$ H
  iintro H
  rw [wp_ret]; imodintro
  iapply Hk; iexact H

/-- The rounds of the three calls of the TensorCore on device `d`. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

/-- What the main thread holds of the handshakes beside what it owes. -/
def hsRest (d : Dev nD) : sProp 𝕄 :=
  iprop(atPos (EH (F := F)) ((K (F := F)).doneCell d) 0 ∅ 0 ∗ reached (EH (F := F)) ((K (F := F)).doneCell d) 0
    ∗ (bigSep Finset.univ fun c : Fin τ.nSC => reached (EH (F := F)) ((K (F := F)).startCell d c) ((K (F := F)).sRank c 0))
    ∗ bigSep (SparseCore.Cfg.callsFrom 0) fun q => bigSep Finset.univ fun c : Fin ((K (F := F)).nCore q) =>
        iprop(dutyTok (EH (F := F)) ((K (F := F)).startCell d ((K (F := F)).core q c)) ((K (F := F)).sRank ((K (F := F)).core q c) q.val) 0 ∗ cred (tallyAt ((K (F := F)).doneCell d) (some (SparseCore.Cfg.Blocks.last q)) 1)))

theorem tcSt_zero (d : Dev nD) : ((K (F := F)).tcSt EH d 0 : sProp 𝕄) = iprop(owesEarly (F := F) d ∗ hsRest (F := F) d) := rfl

theorem fin3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem launch_held (d : Dev nD) :
    (unscopedBufs d (fun b => m ((SparseCore.T (τ := τ) d).loc b)) : sProp 𝕄) = StableHlo.held (SparseCore.T d) uc (B0 m d) := by
  rw [← Pipeline.unscopedBufs_held]
  exact congrArg (unscopedBufs d) (funext fun b => by unfold B0; rfl)

/-- What the main thread ends with. -/
abbrev FIN (d : Dev nD) : sProp 𝕄 := StableHlo.held (T d) uc (B7 m d)

theorem hmain (κ : GSem nD τ sig → ℕ) (d : Dev nD) :
    iprop((K (F := F)).ctx EH (P (vals m)) κ ∗ (K (F := F)).tcSt EH d 0 ∗ (K (F := F)).tcRes m ρ d ∗ G (F := F) d)
      ⊢ wp frame (wpE ((K (F := F)).defs (D (F := F))) 𝒱 (T d) none) Set.univ (main (F := F) d)
          fun _ => iprop((K (F := F)).tcSt EH d 2 ∗ FIN m d ∗ (K (F := F)).tcEnd d) := by
  unfold SparseCore.Cfg.tcRes SparseCore.Cfg.tcEnd G
  rw [tcSt_zero, fin3, fin3, launch_held]
  simp only [main, wp_bind, wp_pure]
  iintro ⟨#Hctx, ⟨Ho, Hr⟩, ⟨Hb, Hh, Hts, -⟩, ⟨Hc0, Hc1, Hc2⟩, Ht0, Ht1, Ht2⟩
  ihave #Hl := ((K (F := F)).ctx_levAts (EH := EH) (P := P (vals m)) κ) $$ Hctx
  iapply (wp_op op0 (StableHlo.unary_bufs_sub _ _ _ _ _) rfl (B0 m d) d)
  isplitr [Hb Hh]
  rotate_left
  · isplitl [Hb]; · iexact Hb
    iexact Hh
  iintro ⟨Hb, Hh⟩
  iapply (wp_op op1 (StableHlo.reshape_bufs_sub _ _ _ _ _ _) rfl (op0.result (B0 m d)) d)
  isplitr [Hb Hh]
  rotate_left
  · isplitl [Hb]; · iexact Hb
    iexact Hh
  iintro ⟨Hb, Hh⟩
  iapply (wp_op op2 (StableHlo.reshape_bufs_sub _ _ _ _ _ _) rfl (op1.result (op0.result (B0 m d))) d)
  isplitr [Hb Hh]
  rotate_left
  · isplitl [Hb]; · iexact Hb
    iexact Hh
  iintro ⟨Hb, Hh⟩
  iapply (wp_call 0 (B1 m) d)
  isplitr [Hb Hh Ho Hc0 Ht0]
  rotate_left
  · isplitl [Hb]; · iexact Hb
    isplitl [Hh]; · iexact Hh
    isplitl [Ho]; · iexact Ho
    isplitr; · iexact Hl
    isplitl [Hc0] <;> iassumption
  iintro ⟨Hb, Hh, Ho⟩
  iapply (wp_op op4 (StableHlo.unary_bufs_sub _ _ _ _ _) rfl (B2 m d) d)
  isplitr [Hb Hh]
  rotate_left
  · isplitl [Hb]; · iexact Hb
    iexact Hh
  iintro ⟨Hb, Hh⟩
  iapply (wp_op op5 (StableHlo.unary_bufs_sub _ _ _ _ _) rfl (op4.result (B2 m d)) d)
  isplitr [Hb Hh]
  rotate_left
  · isplitl [Hb]; · iexact Hb
    iexact Hh
  iintro ⟨Hb, Hh⟩
  iapply (wp_call 1 (B3 m) d)
  isplitr [Hb Hh Ho Hc1 Ht1]
  rotate_left
  · isplitl [Hb]; · iexact Hb
    isplitl [Hh]; · iexact Hh
    isplitl [Ho]; · iexact Ho
    isplitr; · iexact Hl
    isplitl [Hc1] <;> iassumption
  iintro ⟨Hb, Hh, Ho⟩
  iapply (wp_call 2 (B4 m) d)
  isplitr [Hb Hh Ho Hc2 Ht2]
  rotate_left
  · isplitl [Hb]; · iexact Hb
    isplitl [Hh]; · iexact Hh
    isplitl [Ho]; · iexact Ho
    isplitr; · iexact Hl
    isplitl [Hc2] <;> iassumption
  iintro ⟨Hb, Hh, Ho⟩
  ihave Hh := (Entails.of_eq (show (StableHlo.held (T d) uc (step 2 (B4 m) d) : sProp 𝕄)
    = iprop(StableHlo.held (T d) scRefs (B5 m d) ∗ StableHlo.held (T d) (uc \ scRefs) (B5 m d)) from StableHlo.held_sub_split _ scRefs_sub _)) $$ Hh
  icases Hh with ⟨Hs, Hrest⟩
  ihave Hs := (Entails.of_eq (held_sc d (B5 m d))) $$ Hs
  icases Hs with ⟨H6, H7, H5, H3, H8, H9⟩
  iapply ((K (F := F)).wp_run (D (F := F)) 𝒱 (EH := EH) (P := P (vals m)) κ d 0) $$ [Ho Hr H6 H5 H3 H8 H7 H9 Hrest Hb Hts]
  isplitr; · iexact Hctx
  isplitl [Ho Hr]
  · iapply (Entails.of_eq (tcSt_zero (F := F) d).symm)
    isplitl [Ho] <;> iassumption
  isplitl [H6 H5 H3 H8]
  · iapply (Entails.of_eq (go3_all (vals m) d).symm)
    isplitl [H6]; · iexact H6
    isplitl [H5]; · iexact H5
    isplitl [H3]; · iexact H3
    iexact H8
  iintro ⟨Hst, Hdn⟩
  ihave Hdn := (Entails.of_eq (td3_all (vals m) d)) $$ Hdn
  icases Hdn with ⟨H6, H5, H3, H8⟩
  iapply ((K (F := F)).wp_run (D (F := F)) 𝒱 (EH := EH) (P := P (vals m)) κ d 1) $$ [Hst H6 H5 H3 H8 H7 H9 Hrest Hb Hts]
  isplitr; · iexact Hctx
  isplitl [Hst]; · iexact Hst
  isplitl [H7 H5 H8 H9]
  · iapply (Entails.of_eq (go4_all (vals m) d).symm)
    isplitl [H7]; · iexact H7
    isplitl [H5]; · iexact H5
    isplitl [H8]; · iexact H8
    iexact H9
  iintro ⟨Hst, Hdn⟩
  ihave Hdn := (Entails.of_eq (td4_all (vals m) d)) $$ Hdn
  icases Hdn with ⟨H7, H5, H8, H9⟩
  ihave Hh := (Entails.of_eq (join_sc m d)) $$ [H6 H7 H5 H3 H8 H9 Hrest]
  · isplitr [Hrest]
    · isplitl [H6]; · iexact H6
      isplitl [H7]; · iexact H7
      isplitl [H5]; · iexact H5
      isplitl [H3]; · iexact H3
      isplitl [H8]; · iexact H8
      iexact H9
    iexact Hrest
  iapply (wp_op op10 (StableHlo.reshape_bufs_sub _ _ _ _ _ _) rfl (B6 m d) d)
  isplitr [Hb Hh]
  rotate_left
  · isplitl [Hb]; · iexact Hb
    iexact Hh
  iintro ⟨Hb, Hh⟩
  imodintro
  isplitl [Hst]; · iexact Hst
  isplitl [Hh]; · iexact Hh
  isplitl [Hb] <;> iassumption

end Thread

end Cert.Proof.Run
-- ==== Proof.Launch.lean ====
/-
  The program's run: the ghost state it is launched with, and what every buffer that outlives a call holds when it ends.
-/
module

public import proofs.«01_k».proof.Proof.Main
public import Idealize.ShloMosaic.Lib.SparseCore.Quiescent

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 2) (Elt F) ℕ UU ℕ

section Run

variable [FloatOps F] (m : (ℓ : Loc nD τ sig) → Buf (Elt F) ℓ) (ρ : Dev nD → PrngReg)

/-- The rounds of the pipelines at the launch. -/
def uP : UP := initOf (Pipeline.cells (nD := nD) (τ := τ) (Pipeline.pin (pcfgs (F := F)) adm) cellOf_inj) (Pipeline.launchToks (Pipeline.pin (pcfgs (F := F)) adm) cellOf_inj)

/-- The ghost state of the launch. -/
def u₀ : UU := (initOf (K (F := F)).hsCells (K (F := F)).hsToks, (uP (F := F), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P (vals m)).x q thr) := by
  unfold u₀ G
  rw [bigSep_sep']
  iintro Hu
  ihave H := (ownU_pair (initOf (K (F := F)).hsCells (K (F := F)).hsToks) ((uP (F := F), 1) : UP × Counters)) $$ Hu
  icases H with ⟨HH, Hr⟩
  ihave Hr := (own_pair_emb (embR (A := UH) (B := UP × Counters)) (uP (F := F)) (1 : Counters)) $$ Hr
  icases Hr with ⟨Hp, -⟩
  ihave Hp := (Entails.of_eq (show (BI.own (((Emb.inl : Emb UP (UP × Counters)).trans (embR (A := UH) (B := UP × Counters))) (uP (F := F))) : sProp 𝕄)
    = BI.own (EP (initOf (Pipeline.cells (nD := nD) (τ := τ) (Pipeline.pin (pcfgs (F := F)) adm) cellOf_inj) (Pipeline.launchToks (Pipeline.pin (pcfgs (F := F)) adm) cellOf_inj))) from rfl)) $$ Hp
  ihave Hp := (Pipeline.fund_ghost (Pipeline.pin (pcfgs (F := F)) adm) EP cellOf_inj) $$ Hp
  imod Hp
  imodintro
  isplitl [HH]; · iexact HH
  isplitl [Hp]; · iexact Hp
  rw [show (bigSep Finset.univ fun thr : Thread nD τ => bigSep Finset.univ fun q : Fin 2 => (P (F := F) (vals m)).x q thr)
      = bigSep Finset.univ fun _ : Thread nD τ => bigSep Finset.univ fun _ : Fin 2 => (BI.emp : sProp 𝕄) from rfl]
  rw [bigSep_emp_const, bigSep_emp_const]
  iempintro

/-- What a device's buffers hold at the end. -/
def fq (d : Dev nD) (s' : Phys nD τ sig (Elt F)) : Prop := ∀ b ∈ uc, s'.mem.mem (d, b) = B7 m d b

theorem hfin (d : Dev nD) (s' : Phys nD τ sig (Elt F)) : iprop(FIN m d ∗ SI s') ⊢ (⌜fq m d s'⌝ : sProp 𝕄) := by
  unfold FIN StableHlo.held
  iintro H
  ihave H := (pointsTo_read_all uc (fun b => ((d, b) : Loc nD τ sig)) (fun b => B7 m d b) s') $$ H
  icases H with ⟨%h, -⟩
  ipureintro
  exact h

def QC : PUnit × MemSt nD τ sig (Elt F) → Prop := fun r => (∀ d, ∀ b ∈ uc, r.2.mem (d, b) = B7 m d b) ∧ r.2.sem = fun _ => 0

theorem run_main [∀ e, Nonempty (Elt F e)] (hok : (vals m).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (vals m)) (A := ∅) facts v₀
    (fun q hq => match q with | 0 => nomatch hq | 1 => nomatch hq)
    (fun q _ => match q with | 0 => tileObl_0 (vals m) hok | 1 => tileObl_1 (vals m) hok)
    (fun q _ => SparseCore.Cfg.VecSplit.of_plain (vecSplit (vals m) q))
    m ρ main (G (F := F)) (FIN m) (u₀ (F := F)) (sep_elim_left.trans (hu₀ m)) (hmain m ρ) (fq m) (hfin m) (QC m) (fun _ h hz => ⟨h, hz⟩)

end Run

end Cert.Proof.Run
-- ==== Proof.Keep.lean ====
/-
  What the steps of the program leave alone, and what its host operations write.
-/
module

public import proofs.«01_k».proof.Proof.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

section Keep

variable [FloatOps F] (V : Dev nD → Bufs F) (d : Dev nD) (r : Ref sig .tc)

theorem step_keeps (p : Fin 3) (h : ∀ w, Pipeline.arrRef (Pipeline.pin (pcfgs (F := F)) adm p).spec w = r → ((Pipeline.pin (pcfgs (F := F)) adm p).win w).isOut = false) :
    step p V d (Proc.devRef .tc r) = V d (Proc.devRef .tc r) :=
  Pipeline.afterRegion_keeps (pdats (mem V) p d) (V d) (launches p).win.arr_inj (A_eq (mem V) p d) r h

theorem step0_keeps (h : r ≠ main_v3_0) (h' : r ≠ main_v3_1) : step 0 V d (Proc.devRef .tc r) = V d (Proc.devRef .tc r) :=
  step_keeps V d r 0 fun
    | ⟨0, _⟩, _ => rfl
    | ⟨1, _⟩, _ => rfl
    | ⟨2, _⟩, _ => rfl
    | ⟨3, _⟩, _ => rfl
    | ⟨4, _⟩, _ => rfl
    | ⟨5, _⟩, e => absurd e.symm h
    | ⟨6, _⟩, e => absurd e.symm h'

theorem step1_keeps (h : r ≠ main_v6) : step 1 V d (Proc.devRef .tc r) = V d (Proc.devRef .tc r) :=
  step_keeps V d r 1 fun
    | ⟨0, _⟩, _ => rfl
    | ⟨1, _⟩, _ => rfl
    | ⟨2, _⟩, e => absurd e.symm h

theorem step2_keeps (h : r ≠ main_v7) : step 2 V d (Proc.devRef .tc r) = V d (Proc.devRef .tc r) :=
  step_keeps V d r 2 fun
    | ⟨0, _⟩, _ => rfl
    | ⟨1, _⟩, _ => rfl
    | ⟨2, _⟩, e => absurd e.symm h

variable (m : (ℓ : Loc nD τ sig) → Buf (Elt F) ℓ)

/-- The buffers the steps write. -/
abbrev written : List (Ref sig .tc) :=
  [main_v0, main_v1, main_v2, main_v3_0, main_v3_1, main_v4, main_v5, main_v6, main_v7, main_v8, main_v9, main_v10]

theorem B1_keeps (h0 : r ≠ main_v0) (h1 : r ≠ main_v1) (h2 : r ≠ main_v2) : B1 m d (Proc.devRef .tc r) = m (d, Proc.devRef .tc r) :=
  (StableHlo.reshape_result_ne _ _ _ _ _ _ _ h2).trans ((StableHlo.reshape_result_ne _ _ _ _ _ _ _ h1).trans (StableHlo.unary_result_ne _ _ _ _ _ _ h0))

theorem B3_keeps (h4 : r ≠ main_v4) (h5 : r ≠ main_v5) : B3 m d (Proc.devRef .tc r) = B2 m d (Proc.devRef .tc r) :=
  (StableHlo.unary_result_ne _ _ _ _ _ _ h5).trans (StableHlo.unary_result_ne _ _ _ _ _ _ h4)

theorem B7_keeps (h : r ∉ written) : B7 m d (Proc.devRef .tc r) = m (d, Proc.devRef .tc r) := by
  simp only [written, List.mem_cons, List.not_mem_nil, not_or, _root_.or_false] at h
  obtain ⟨h0, h1, h2, h30, h31, h4, h5, h6, h7, h8, h9, h10⟩ := h
  refine (StableHlo.reshape_result_ne _ _ _ _ _ _ _ h10).trans ?_
  rw [B6_of_ne m d _ (StableHlo.devRef_ne_of_ne h8) (StableHlo.devRef_ne_of_ne h9)]
  refine (step2_keeps _ d r h7).trans ((step1_keeps _ d r h6).trans ((B3_keeps d r m h4 h5).trans ((step0_keeps _ d r h30 h31).trans (B1_keeps d r m h0 h1 h2))))

/-- The transposed indices. -/
theorem vals_ix : (vals m).ix d = transpose S26x16384 [1, 0] (m (d, Proc.devRef .tc main_arg1) : S16384x26.Idx → BitVec 32) transposes_S16384x26_S26x16384_1_0 := by
  show B5 m d (Proc.devRef .tc main_v5) = _
  refine (step2_keeps _ d _ (by decide)).trans ((step1_keeps _ d _ (by decide)).trans ?_)
  refine (StableHlo.unary_result _ _ _ _ _ _).trans ?_
  rw [StableHlo.unary_result_ne _ _ _ _ _ _ (by decide)]
  exact congrArg (fun X : S16384x26.Idx → BitVec 32 => transpose S26x16384 [1, 0] X transposes_S16384x26_S26x16384_1_0)
    ((step0_keeps _ d main_arg1 (by decide) (by decide)).trans (B1_keeps d main_arg1 m (by decide) (by decide) (by decide)))

end Keep

end Cert.Proof.Run
-- ==== Proof.Same.lean ====
/-
  The program as printed and the idealized one are the same text: their body tables and their threads are equal.
-/
module

public import proofs.«01_k».proof.Proof.Gen.Kernel
public import proofs.«01_k».proof.Proof.Gen.KernelIdeal
public import Idealize.ShloMosaic.PureOps.BitExact

@[expose] public section

noncomputable section

namespace Cert.Proof.Same

open Idealize.ShloMosaic

theorem threads_eq : Cert.Kernel.threads (F := Bits) = Cert.KernelIdeal.threads (F := Bits) := rfl

set_option maxHeartbeats 8000000 in
/-- The kernels' body tables, label by label. -/
theorem bodies_eq : Cert.Kernel.defs₀ (F := Bits) = Cert.KernelIdeal.defs₀ (F := Bits) := by
  funext p l a
  match p, l, a with
  | .tc, 0, a => obtain ⟨t, s⟩ := a; rfl
  | .tc, 1, a => obtain ⟨t, s⟩ := a; rfl
  | .tc, 2, a => obtain ⟨t, s⟩ := a; rfl
  | .tc, 3, a => rfl
  | .tc, 4, a => rfl
  | .scVector _ _, 0, a => rfl
  | .scVector _ _, 1, a => rfl
  | .scVector _ _, 2, a => rfl
  | .scVector _ _, 3, a => rfl
  | .scVector _ _, 4, a => rfl
  | .scScalar _, _, a => rfl

theorem defs_eq : Cert.Kernel.defs (F := Bits) = Cert.KernelIdeal.defs (F := Bits) := by
  unfold Cert.Kernel.defs Cert.KernelIdeal.defs
  exact congrArg (fun x => (Cert.KernelIdeal.sc (F := Bits)).defs (Pipeline.defs Cert.KernelIdeal.pcfgs x)) bodies_eq

end Cert.Proof.Same
-- ==== Proof.Frame.lean ====
/-
  The program leaves its arguments as they were and every semaphore at zero, where the indices name rows of the tables.
-/
module

public import proofs.«01_k».proof.Proof.Keep
public import proofs.«01_k».proof.Proof.Same
public import proofs.«01_k».proof.Proof.Gen.ReferenceIdeal.Run
public import proofs.«01_k».proof.Defs
public import proofs.«01_k».proof.Proof.Gen.Kernel
public import proofs.«01_k».proof.Proof.Gen.Pre_in_vocab
public import proofs.«01_k».proof.Proof.Gen.Pre_in_vocab_finite
public import Idealize.ShloMosaic.Lib.ReduceAll
public import Idealize.ShloMosaic.Lib.WordCmp

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

section Pre

/-- A word at least 0 and under 100000, both as signed, is under 100000. -/
theorem in_range (v : BitVec 32) (e : IntOp.andi (IntOp.cmpi .sge v 0#32) (IntOp.cmpi .slt v 100000#32) = 1#1) : v.toNat < 100000 := by
  obtain ⟨h, h'⟩ := IntOp.andi_eq_one.1 e
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h h'
  omega

variable [FloatOps F]

instance : Subsingleton (Cert.Pre_in_vocab.S_.Idx) := ⟨fun a b => funext fun i => i.elim0⟩
instance : Subsingleton (Cert.Pre_in_vocab_finite.S_.Idx) := ⟨fun a b => funext fun i => i.elim0⟩

theorem range_of_pre [Cert.Pre_in_vocab.Facts] (X0 : FVec F S16384x13 .f32) (X1 : IVec S16384x26 32) (X2 : FVec F S26x100000x16 .f32) (X3 : FVec F S429x16 .f32)
    (X4 : FVec F S16 .f32) (X5 : FVec F S16x1 .f32) (X6 : FVec F S1 .f32)
    (h : Cert.Pre_in_vocab.fn (F := F) X0 X1 X2 X3 X4 X5 X6 = fun _ => 1#1) (i : S16384x26.Idx) : (X1 i).toNat < 100000 := by
  have e := congrFun h (fun a : Fin 0 => a.elim0)
  exact in_range _ (Host.reduce_andi_all _ _ _ _ _ e i)

theorem bits_of_finite [Cert.Pre_in_vocab_finite.Facts] (X0 : FVec F S16384x13 .f32) (X1 : IVec S16384x26 32) (X2 : FVec F S26x100000x16 .f32)
    (X3 : FVec F S429x16 .f32) (X4 : FVec F S16 .f32) (X5 : FVec F S16x1 .f32) (X6 : FVec F S1 .f32)
    (h : Cert.Pre_in_vocab_finite.fn (F := F) X0 X1 X2 X3 X4 X5 X6 = fun _ => 1#1) :
    (∀ i : S16384x26.Idx, (X1 i).toNat < 100000) ∧
      (∀ i, FloatOps.cmpf .olt (Host.absf X0 i) (FloatOps.ofBits .f32 0x7F800000#32 : F .f32) = 1#1) ∧
      (∀ i, FloatOps.cmpf .olt (Host.absf X2 i) (FloatOps.ofBits .f32 0x7F800000#32 : F .f32) = 1#1) ∧
      (∀ i, FloatOps.cmpf .olt (Host.absf X3 i) (FloatOps.ofBits .f32 0x7F800000#32 : F .f32) = 1#1) ∧
      (∀ i, FloatOps.cmpf .olt (Host.absf X5 i) (FloatOps.ofBits .f32 0x7F800000#32 : F .f32) = 1#1) := by
  have e := congrFun h (fun a : Fin 0 => a.elim0)
  obtain ⟨e, h5⟩ := IntOp.andi_eq_one.1 e
  obtain ⟨e, h3⟩ := IntOp.andi_eq_one.1 e
  obtain ⟨e, h2⟩ := IntOp.andi_eq_one.1 e
  obtain ⟨e, h0⟩ := IntOp.andi_eq_one.1 e
  exact ⟨fun i => in_range _ (Host.reduce_andi_all _ _ _ _ _ e i), fun i => Host.reduce_andi_all _ _ _ _ _ h0 i,
    fun i => Host.reduce_andi_all _ _ _ _ _ h2 i, fun i => Host.reduce_andi_all _ _ _ _ _ h3 i, fun i => Host.reduce_andi_all _ _ _ _ _ h5 i⟩

theorem ok_of_range (m : (ℓ : Loc nD τ sig) → Buf (Elt F) ℓ)
    (h : ∀ (d : Dev nD) (i : S16384x26.Idx), ((m (d, Proc.devRef .tc main_arg1) : S16384x26.Idx → BitVec 32) i).toNat < 100000) : (vals m).Ok := fun d x => by
  rw [vals_ix]
  exact h d _

end Pre

section Frame

variable [FloatOps F] (m : (ℓ : Loc nD τ sig) → Buf (Elt F) ℓ) (ρ : Dev nD → PrngReg)

/-- A buffer of the main thread that outlives the calls is among those read at the end. -/
theorem arg_mem (r : Ref sig .tc) (h : Proc.devRef .tc r ∈ uc) (hw : r ∉ written) {x : PUnit × MemSt nD τ sig (Elt F)} (hx : QC m x) (d : Dev nD) :
    x.2.mem ((d.tc : Thread nD τ).loc r) = m ((d.tc : Thread nD τ).loc r) :=
  (hx.1 d _ h).trans (B7_keeps d r m hw)

/-- The arguments after a run. -/
def Args (x : PUnit × MemSt nD τ sig (Elt F)) : Prop := ∀ c : Dev nD,
  x.2.mem ((c.tc : Thread nD τ).loc main_arg0) = m ((c.tc : Thread nD τ).loc main_arg0)
    ∧ x.2.mem ((c.tc : Thread nD τ).loc main_arg1) = m ((c.tc : Thread nD τ).loc main_arg1)
    ∧ x.2.mem ((c.tc : Thread nD τ).loc main_arg2) = m ((c.tc : Thread nD τ).loc main_arg2)
    ∧ x.2.mem ((c.tc : Thread nD τ).loc main_arg3) = m ((c.tc : Thread nD τ).loc main_arg3)
    ∧ x.2.mem ((c.tc : Thread nD τ).loc main_arg4) = m ((c.tc : Thread nD τ).loc main_arg4)
    ∧ x.2.mem ((c.tc : Thread nD τ).loc main_arg5) = m ((c.tc : Thread nD τ).loc main_arg5)
    ∧ x.2.mem ((c.tc : Thread nD τ).loc main_arg6) = m ((c.tc : Thread nD τ).loc main_arg6)

theorem args_of_QC {x : PUnit × MemSt nD τ sig (Elt F)} (hx : QC m x) : Args m x := fun c =>
  ⟨arg_mem m _ (by decide) (by decide) hx c, arg_mem m _ (by decide) (by decide) hx c, arg_mem m _ (by decide) (by decide) hx c,
    arg_mem m _ (by decide) (by decide) hx c, arg_mem m _ (by decide) (by decide) hx c, arg_mem m _ (by decide) (by decide) hx c,
    arg_mem m _ (by decide) (by decide) hx c⟩

theorem frame_of_ok [∀ e, Nonempty (Elt F e)] (hok : (vals m).Ok) :
    θ_run (Cert.KernelIdeal.defs (F := F)) (Cert.KernelIdeal.threads (F := F)) ⟨m, fun _ => 0, ρ⟩ (fun r => Args m r ∧ r.2.sem = fun _ => 0) :=
  (θ_run Cert.KernelIdeal.defs _ _).mono (fun _ h => ⟨args_of_QC m h, h.2⟩) (run_main m ρ hok)

end Frame

section Claims

theorem frame_ideal [Cert.Pre_in_vocab.Facts] : Cert.quiescent_KernelIdeal := fun m g hpre =>
  frame_of_ok (F := Ideal) m g (ok_of_range m fun d i => range_of_pre _ _ _ _ _ _ _ (hpre d) i)

theorem frame_bits [Cert.Pre_in_vocab.Facts] : Cert.quiescent_Kernel := fun m g hpre => by
  have h := frame_of_ok (F := Bits) m g (ok_of_range m fun d i => range_of_pre _ _ _ _ _ _ _ (hpre d) i)
  rw [← Same.defs_eq] at h
  exact h

end Claims

end Cert.Proof.Run
-- ==== Proof.Ref.lean ====
/-
  The reference's run: it leaves its arguments as they were, and it has no semaphore.
-/
module

public import proofs.«01_k».proof.Defs
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof.Ref

open Idealize.ShloMosaic Idealize.SL.Sem

theorem frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_finite [Cert.Pre_in_vocab_finite.Facts] : Cert.quiescent_ReferenceIdeal_pre_in_vocab_finite := fun m g _ => frame m g trivial

end Cert.Proof.Ref
-- ==== Proof.At.lean ====
/-
  The bodies' values at coordinates, over the extended reals: each is a sum of products.
-/
module

public import proofs.«01_k».proof.Proof.Body
public import Idealize.ShloMosaic.Lib.MatmulPlain
public import Idealize.ShloMosaic.Lib.IdealHost
public import Idealize.ShloMosaic.Lib.Pipeline.Value

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

open Idealize.ShloMosaic.ValueIdx

/-- The column of a feature in the two layers' product. -/
def wgt (W1 : S429x16.Idx → EReal) (W2 : S16x1.Idx → EReal) (k : Fin 429) : EReal :=
  ∑ h : Fin 16, W1 (ix2 k h) * W2 (ix2 h (0 : Fin 1))

theorem zero_bits (s : Shape) (i : s.Idx) : (constant s .f32 0x00000000#32 : FVec Ideal s .f32) i = 0 := Ideal.ofBits_zero_f32

theorem wAll_at (W1 : S429x16.Idx → EReal) (W2 : S16x1.Idx → EReal) (k : Fin 429) (z : Fin 1) :
    wAll (F := Ideal) W1 W2 (ix2 k z) = wgt W1 W2 k := by
  refine (Ideal.matmul_plain_apply none (W1 : FVec Ideal S429x16 .f32) (W2 : FVec Ideal S16x1 .f32) (constant S429x1 .f32 0x00000000#32) k z).trans ?_
  rw [zero_bits, zero_add, Subsingleton.elim z 0]
  rfl

theorem tabOf_at (W1 : S429x16.Idx → EReal) (W2 : S16x1.Idx → EReal) (j : Fin 26) (e : Fin 16) :
    tabOf (F := Ideal) W1 W2 (ix2 j e) = wgt W1 W2 ⟨13 + (16 * j + e), by omega⟩ := by
  unfold tabOf
  rw [shapeCast_apply _ _ _ (ix1 (n := 416) ⟨16 * j + e, by omega⟩) (by
      simp only [Shape.rowMajor_val_one, Shape.rowMajor_val_two]; show 16 * j.val + e.val = j.val * 16 + e.val; omega),
    shapeCast_apply _ _ _ (ix2 (n0 := 416) (n1 := 1) ⟨16 * j + e, by omega⟩ 0) (by
      simp only [Shape.rowMajor_val_one, Shape.rowMajor_val_two]; show (16 * j.val + e.val) * 1 + 0 = 16 * j.val + e.val; omega),
    extractStridedSlice_apply _ _ _ _ (ix2 (n0 := 429) (n1 := 1) ⟨13 + (16 * j + e), by omega⟩ 0) (by
      intro a; match a with | ⟨0, _⟩ => rfl | ⟨1, _⟩ => rfl)]
  exact wAll_at W1 W2 _ _

theorem baseOf_at (num : S13x16384.Idx → EReal) (W1 : S429x16.Idx → EReal) (b1 : S1x16.Idx → EReal) (W2 : S16x1.Idx → EReal) (b2 : S1x1.Idx → EReal)
    (x : Fin 16384) :
    baseOf (F := Ideal) num W1 b1 W2 b2 (ix1 x)
      = (∑ k : Fin 13, wgt W1 W2 ⟨k, by omega⟩ * num (ix2 k x)) + ((∑ h : Fin 16, b1 (ix2 (0 : Fin 1) h) * W2 (ix2 h (0 : Fin 1))) + b2 (ix2 (0 : Fin 1) (0 : Fin 1))) := by
  unfold baseOf
  rw [shapeCast_apply _ _ _ (ix2 (n0 := 1) (n1 := 16384) 0 x) (by
      simp only [Shape.rowMajor_val_one, Shape.rowMajor_val_two]; show 0 * 16384 + x.val = x.val; omega)]
  refine congrArg₂ (· + ·) ?_ ?_
  · refine (Ideal.matmul_plain_apply (M := 1) (K := 13) (N := 16384) none _ _ _ 0 x).trans ?_
    rw [zero_bits, zero_add]
    refine Finset.sum_congr rfl fun k _ => ?_
    rw [shapeCast_self]
    refine congrArg (· * _) ?_
    rw [shapeCast_apply _ _ _ (ix1 (n := 13) k) (by
        simp only [Shape.rowMajor_val_one, Shape.rowMajor_val_two]; show k.val = 0 * 13 + k.val; omega),
      shapeCast_apply _ _ _ (ix2 (n0 := 13) (n1 := 1) k 0) (by
        simp only [Shape.rowMajor_val_one, Shape.rowMajor_val_two]; show k.val * 1 + 0 = k.val; omega),
      extractStridedSlice_apply _ _ _ _ (ix2 (n0 := 429) (n1 := 1) ⟨k, by omega⟩ 0) (by
        intro a; match a with | ⟨0, _⟩ => exact (Nat.zero_add _).symm | ⟨1, _⟩ => rfl)]
    exact wAll_at W1 W2 _ _
  · rw [broadcastTo_apply _ _ _ (ix2 (n0 := 1) (n1 := 1) 0 0) (by
      intro a; match a with | ⟨0, _⟩ => rfl | ⟨1, _⟩ => rfl)]
    refine congrArg₂ (· + ·) ?_ ?_
    · refine (Ideal.matmul_plain_apply (M := 1) (K := 16) (N := 1) none _ _ _ 0 0).trans ?_
      rw [zero_bits, zero_add, shapeCast_self]
    · rw [shapeCast_self]

theorem rowTimes_at (w : S1x16.Idx → EReal) (X : S1x16x100000.Idx → EReal) (v : Fin 100352) (hv : v.val < 100000) :
    rowTimes (F := Ideal) w X (ix1 v) = ∑ e : Fin 16, w (ix2 (0 : Fin 1) e) * X (ix3 (0 : Fin 1) e (⟨v, hv⟩ : Fin 100000)) := by
  unfold rowTimes
  rw [shapeCast_apply _ _ _ (ix2 (n0 := 1) (n1 := 100352) 0 v) (by
      simp only [Shape.rowMajor_val_one, Shape.rowMajor_val_two]; show 0 * 100352 + v.val = v.val; omega),
    concatenate_pair_apply_left (t := S1x100352) (s₁ := S1x100000) (s₂ := S1x352) _ _ _ _ _ rfl (ix2 (n0 := 1) (n1 := 100000) 0 ⟨v, hv⟩) (by
      intro a; match a with | ⟨0, _⟩ => rfl | ⟨1, _⟩ => rfl)]
  refine (Ideal.matmul_plain_apply (M := 1) (K := 16) (N := 100000) none _ _ _ 0 ⟨v, hv⟩).trans ?_
  rw [zero_bits, zero_add, shapeCast_self, shapeCast_self]
  refine Finset.sum_congr rfl fun e _ => ?_
  refine congrArg (_ * ·) ?_
  exact shapeCast_apply _ _ _ (ix3 (n0 := 1) (n1 := 16) (n2 := 100000) 0 e ⟨v, hv⟩) (by
    simp only [Shape.rowMajor_val_three, Shape.rowMajor_val_two]; show (0 * 16 + e.val) * 100000 + v.val = e.val * 100000 + v.val; omega)

theorem off1_at : ∀ i : Fin 13, (Scalar.indexCast (Scalar.addi (BitVec.ofNat 32 i.val) 0#32)).toNat = i.val := by decide
theorem off2_at : ∀ i : Fin 13, (Scalar.indexCast (Scalar.addi (BitVec.ofNat 32 i.val) 13#32)).toNat = 13 + i.val := by decide

theorem row1_at (i : grid1.Coords) (X : S26x16.Idx → EReal) (e : Fin 16) (j : Fin 26) (hj : j.val = (i 0).val) :
    row1 (F := Ideal) i X (ix2 (0 : Fin 1) e) = X (ix2 j e) := by
  unfold row1
  refine congrArg X (funext fun a => Fin.ext ?_)
  match a with
  | ⟨0, _⟩ => exact (congrArg (· + 1 * 0) (off1_at (i 0))).trans hj.symm
  | ⟨1, _⟩ => show 0 + 1 * e.val = e.val; omega

theorem row2_at (i : grid2.Coords) (X : S26x16.Idx → EReal) (e : Fin 16) (j : Fin 26) (hj : j.val = 13 + (i 0).val) :
    row2 (F := Ideal) i X (ix2 (0 : Fin 1) e) = X (ix2 j e) := by
  unfold row2
  refine congrArg X (funext fun a => Fin.ext ?_)
  match a with
  | ⟨0, _⟩ => exact (congrArg (· + 1 * 0) (off2_at (i 0))).trans hj.symm
  | ⟨1, _⟩ => show 0 + 1 * e.val = e.val; omega

end Cert.Proof.Run
-- ==== Proof.Arrays.lean ====
/-
  The arrays that the three calls of the TensorCore leave, element by element.
-/
module

public import proofs.«01_k».proof.Proof.Keep
public import proofs.«01_k».proof.Proof.At
public import Idealize.ShloMosaic.Lib.Pipeline.ValueKit.Geometry

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

open Idealize.ShloMosaic.ValueIdx

/-- Column `j` of the tables, as the block a call reads. -/
def plane (X : S26x16x100000.Idx → F .f32) (j : Fin 26) : S1x16x100000.Idx → F .f32 := fun y => X (ix3 j (y 1) (y 2))

section Arrays

variable [FloatOps F] (V : Dev nD → Bufs F) (d : Dev nD)

theorem at1_0 : ∀ t : Fin cfg1.N, win1_0.index t = ![t.val, 0, 0] := by decide +kernel
theorem at1_1 : ∀ t : Fin cfg1.N, win1_1.index t = ![0, 0] := by decide +kernel
theorem at1_2 : ∀ t : Fin cfg1.N, win1_2.index t = ![t.val] := by decide +kernel
theorem at2_0 : ∀ t : Fin cfg2.N, win2_0.index t = ![13 + t.val, 0, 0] := by decide +kernel
theorem at2_1 : ∀ t : Fin cfg2.N, win2_1.index t = ![0, 0] := by decide +kernel
theorem at2_2 : ∀ t : Fin cfg2.N, win2_2.index t = ![t.val] := by decide +kernel

theorem lt1 (t : Fin cfg1.N) : t.val < 13 := t.isLt
theorem lt2 (t : Fin cfg2.N) : t.val < 13 := t.isLt

theorem in1_0_eq (t : Fin cfg1.N) :
    in1_0 (mem V) d t = plane (V d (Proc.devRef .tc main_v4) : S26x16x100000.Idx → F .f32) ⟨t.val, by have := lt1 t; omega⟩ := by
  funext y
  refine congrArg (V d (Proc.devRef .tc main_v4) : S26x16x100000.Idx → F .f32)
    (?_ : (win1_0.blk t).view.emb y = ix3 (⟨t.val, by have := lt1 t; omega⟩ : Fin 26) (y 1) (y 2))
  blk_ext [at1_0]

theorem in1_1_eq (t : Fin cfg1.N) : in1_1 (mem V) d t = (V d (Proc.devRef .tc main_v3_1) : S26x16.Idx → F .f32) := by
  funext y
  refine congrArg (V d (Proc.devRef .tc main_v3_1) : S26x16.Idx → F .f32) (?_ : (win1_1.blk t).view.emb y = y)
  blk_ext [at1_1]

theorem in2_0_eq (t : Fin cfg2.N) :
    in2_0 (mem V) d t = plane (V d (Proc.devRef .tc main_v4) : S26x16x100000.Idx → F .f32) ⟨13 + t.val, by have := lt2 t; omega⟩ := by
  funext y
  refine congrArg (V d (Proc.devRef .tc main_v4) : S26x16x100000.Idx → F .f32)
    (?_ : (win2_0.blk t).view.emb y = ix3 (⟨13 + t.val, by have := lt2 t; omega⟩ : Fin 26) (y 1) (y 2))
  blk_ext [at2_0]

theorem in2_1_eq (t : Fin cfg2.N) : in2_1 (mem V) d t = (V d (Proc.devRef .tc main_v3_1) : S26x16.Idx → F .f32) := by
  funext y
  refine congrArg (V d (Proc.devRef .tc main_v3_1) : S26x16.Idx → F .f32) (?_ : (win2_1.blk t).view.emb y = y)
  blk_ext [at2_1]

/-- The first call's table, at entry `v` of the block of point `t`. -/
theorem table1_at (t : Fin cfg1.N) (v : Fin 100352) :
    (step 1 V d (Proc.devRef .tc main_v6) : S1304576.Idx → F .f32) (ix1 ⟨t.val * 100352 + v.val, by have := lt1 t; omega⟩)
      = rowTimes (row1 (grid1.coords t) (V d (Proc.devRef .tc main_v3_1) : S26x16.Idx → F .f32))
          (plane (V d (Proc.devRef .tc main_v4) : S26x16x100000.Idx → F .f32) ⟨t.val, by have := lt1 t; omega⟩) (ix1 v) := by
  refine (congrFun (Pipeline.afterRegion_arr (dat1 (mem V) d) (V d) (launches 1).win.arr_inj 2) _).trans ?_
  rw [← in1_0_eq, ← in1_1_eq V d t]
  have e : (ix1 (⟨t.val * 100352 + v.val, by have := lt1 t; omega⟩ : Fin 1304576) : S1304576.Idx) = (win1_2.blk t).view.emb (ix1 v) := by
    blk_ext [at1_2]
  rw [e]
  exact (dat1 (mem V) d).arrAt_emb_eq_flushed 2 (Pipeline.Window.hdisj_of_index_inj _ (by decide +kernel)) t ((by decide +kernel : ∀ t, win1_2.flush t = true) t) (ix1 v)

/-- The second call's table, at entry `v` of the block of point `t`. -/
theorem table2_at (t : Fin cfg2.N) (v : Fin 100352) :
    (step 2 V d (Proc.devRef .tc main_v7) : S1304576.Idx → F .f32) (ix1 ⟨t.val * 100352 + v.val, by have := lt2 t; omega⟩)
      = rowTimes (row2 (grid2.coords t) (V d (Proc.devRef .tc main_v3_1) : S26x16.Idx → F .f32))
          (plane (V d (Proc.devRef .tc main_v4) : S26x16x100000.Idx → F .f32) ⟨13 + t.val, by have := lt2 t; omega⟩) (ix1 v) := by
  refine (congrFun (Pipeline.afterRegion_arr (dat2 (mem V) d) (V d) (launches 2).win.arr_inj 2) _).trans ?_
  rw [← in2_0_eq, ← in2_1_eq V d t]
  have e : (ix1 (⟨t.val * 100352 + v.val, by have := lt2 t; omega⟩ : Fin 1304576) : S1304576.Idx) = (win2_2.blk t).view.emb (ix1 v) := by
    blk_ext [at2_2]
  rw [e]
  exact (dat2 (mem V) d).arrAt_emb_eq_flushed 2 (Pipeline.Window.hdisj_of_index_inj _ (by decide +kernel)) t ((by decide +kernel : ∀ t, win2_2.flush t = true) t) (ix1 v)

theorem in0_0_eq : in0_0 (mem V) d = (V d (Proc.devRef .tc main_v0) : S13x16384.Idx → F .f32) := by
  funext y
  refine congrArg (V d (Proc.devRef .tc main_v0) : S13x16384.Idx → F .f32) (?_ : (win0_0.blk t0_0).view.emb y = y)
  blk_ext [(by decide : win0_0.index t0_0 = ![0, 0])]

theorem in0_1_eq : in0_1 (mem V) d = (V d (Proc.devRef .tc main_arg3) : S429x16.Idx → F .f32) := by
  funext y
  refine congrArg (V d (Proc.devRef .tc main_arg3) : S429x16.Idx → F .f32) (?_ : (win0_1.blk t0_0).view.emb y = y)
  blk_ext [(by decide : win0_1.index t0_0 = ![0, 0])]

theorem in0_2_eq : in0_2 (mem V) d = (V d (Proc.devRef .tc main_v1) : S1x16.Idx → F .f32) := by
  funext y
  refine congrArg (V d (Proc.devRef .tc main_v1) : S1x16.Idx → F .f32) (?_ : (win0_2.blk t0_0).view.emb y = y)
  blk_ext [(by decide : win0_2.index t0_0 = ![0, 0])]

theorem in0_3_eq : in0_3 (mem V) d = (V d (Proc.devRef .tc main_arg5) : S16x1.Idx → F .f32) := by
  funext y
  refine congrArg (V d (Proc.devRef .tc main_arg5) : S16x1.Idx → F .f32) (?_ : (win0_3.blk t0_0).view.emb y = y)
  blk_ext [(by decide : win0_3.index t0_0 = ![0, 0])]

theorem in0_4_eq : in0_4 (mem V) d = (V d (Proc.devRef .tc main_v2) : S1x1.Idx → F .f32) := by
  funext y
  refine congrArg (V d (Proc.devRef .tc main_v2) : S1x1.Idx → F .f32) (?_ : (win0_4.blk t0_0).view.emb y = y)
  blk_ext [(by decide : win0_4.index t0_0 = ![0, 0])]

/-- The part of the result that is not of the tables. -/
theorem base_eq : (step 0 V d (Proc.devRef .tc main_v3_0) : S16384.Idx → F .f32)
    = baseOf (V d (Proc.devRef .tc main_v0) : S13x16384.Idx → F .f32) (V d (Proc.devRef .tc main_arg3) : S429x16.Idx → F .f32)
        (V d (Proc.devRef .tc main_v1) : S1x16.Idx → F .f32) (V d (Proc.devRef .tc main_arg5) : S16x1.Idx → F .f32)
        (V d (Proc.devRef .tc main_v2) : S1x1.Idx → F .f32) := by
  refine (Pipeline.afterRegion_arr (dat0 (mem V) d) (V d) (launches 0).win.arr_inj 5).trans ?_
  rw [← in0_0_eq V d, ← in0_1_eq V d, ← in0_2_eq V d, ← in0_3_eq V d, ← in0_4_eq V d]
  exact (dat0 (mem V) d).arrAt_eq_of_after_last 5 t0_0 (by decide +kernel) _ (fun j => rfl)

theorem weights_eq : (step 0 V d (Proc.devRef .tc main_v3_1) : S26x16.Idx → F .f32)
    = tabOf (V d (Proc.devRef .tc main_arg3) : S429x16.Idx → F .f32) (V d (Proc.devRef .tc main_arg5) : S16x1.Idx → F .f32) := by
  refine (Pipeline.afterRegion_arr (dat0 (mem V) d) (V d) (launches 0).win.arr_inj 6).trans ?_
  rw [← in0_1_eq V d, ← in0_3_eq V d]
  exact (dat0 (mem V) d).arrAt_eq_of_after_last 6 t0_0 (by decide +kernel) _ (fun j => rfl)

end Arrays

end Cert.Proof.Run
-- ==== Proof.Steps.lean ====
/-
  What the program's result is, in its arguments: the base and the tables from the arguments, then the result's two sums.
-/
module

public import proofs.«01_k».proof.Proof.Arrays

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

open Idealize.ShloMosaic.ValueIdx

section Steps

variable [FloatOps F] (m : (ℓ : Loc nD τ sig) → Buf (Elt F) ℓ) (d : Dev nD)

/-- The arguments of device `d`. -/
abbrev inNum : S16384x13.Idx → F .f32 := m (d, Proc.devRef .tc main_arg0)
abbrev inCat : S16384x26.Idx → BitVec 32 := m (d, Proc.devRef .tc main_arg1)
abbrev inEmb : S26x100000x16.Idx → F .f32 := m (d, Proc.devRef .tc main_arg2)
abbrev inW1 : S429x16.Idx → F .f32 := m (d, Proc.devRef .tc main_arg3)
abbrev inB1 : S16.Idx → F .f32 := m (d, Proc.devRef .tc main_arg4)
abbrev inW2 : S16x1.Idx → F .f32 := m (d, Proc.devRef .tc main_arg5)
abbrev inB2 : S1.Idx → F .f32 := m (d, Proc.devRef .tc main_arg6)

theorem B1_v0 : (B1 m d (Proc.devRef .tc main_v0) : S13x16384.Idx → F .f32) = transpose S13x16384 [1, 0] (inNum m d) transposes_S16384x13_S13x16384_1_0 :=
  (StableHlo.reshape_result_ne _ _ _ _ _ _ _ (by decide)).trans ((StableHlo.reshape_result_ne _ _ _ _ _ _ _ (by decide)).trans (StableHlo.unary_result _ _ _ _ _ _))

theorem B1_v1 : (B1 m d (Proc.devRef .tc main_v1) : S1x16.Idx → F .f32) = shapeCast S1x16 (inB1 m d) shapeCasts_S16_S1x16 := by
  refine (StableHlo.reshape_result_ne _ _ _ _ _ _ _ (by decide)).trans ((StableHlo.reshape_result _ _ _ _ _ _ _).trans ?_)
  exact congrArg (fun X : S16.Idx → F .f32 => shapeCast S1x16 X shapeCasts_S16_S1x16) (StableHlo.unary_result_ne _ _ _ _ _ _ (by decide))

theorem B1_v2 : (B1 m d (Proc.devRef .tc main_v2) : S1x1.Idx → F .f32) = shapeCast S1x1 (inB2 m d) shapeCasts_S1_S1x1 := by
  refine (StableHlo.reshape_result _ _ _ _ _ _ _).trans ?_
  exact congrArg (fun X : S1.Idx → F .f32 => shapeCast S1x1 X shapeCasts_S1_S1x1)
    ((StableHlo.reshape_result_ne _ _ _ _ _ _ _ (by decide)).trans (StableHlo.unary_result_ne _ _ _ _ _ _ (by decide)))

theorem B1_W1 : (B1 m d (Proc.devRef .tc main_arg3) : S429x16.Idx → F .f32) = inW1 m d := B1_keeps d main_arg3 m (by decide) (by decide) (by decide)
theorem B1_W2 : (B1 m d (Proc.devRef .tc main_arg5) : S16x1.Idx → F .f32) = inW2 m d := B1_keeps d main_arg5 m (by decide) (by decide) (by decide)

theorem vals_b : ((vals m).b d : S16384.Idx → F .f32)
    = baseOf (transpose S13x16384 [1, 0] (inNum m d) transposes_S16384x13_S13x16384_1_0) (inW1 m d) (shapeCast S1x16 (inB1 m d) shapeCasts_S16_S1x16) (inW2 m d)
        (shapeCast S1x1 (inB2 m d) shapeCasts_S1_S1x1) := by
  rw [← B1_v0, ← B1_v1, ← B1_v2, ← B1_W1, ← B1_W2]
  refine Eq.trans ?_ (base_eq (B1 m) d)
  exact (step2_keeps _ d _ (by decide)).trans ((step1_keeps _ d _ (by decide)).trans (B3_keeps d _ m (by decide) (by decide)))

theorem B3_weights : (B3 m d (Proc.devRef .tc main_v3_1) : S26x16.Idx → F .f32) = tabOf (inW1 m d) (inW2 m d) := by
  rw [← B1_W1, ← B1_W2]
  exact (B3_keeps d _ m (by decide) (by decide)).trans (weights_eq (B1 m) d)

theorem B3_tables : (B3 m d (Proc.devRef .tc main_v4) : S26x16x100000.Idx → F .f32)
    = transpose S26x16x100000 [0, 2, 1] (inEmb m d) transposes_S26x100000x16_S26x16x100000_0_2_1 := by
  refine (StableHlo.unary_result_ne _ _ _ _ _ _ (by decide)).trans ((StableHlo.unary_result _ _ _ _ _ _).trans ?_)
  exact congrArg (fun X : S26x100000x16.Idx → F .f32 => transpose S26x16x100000 [0, 2, 1] X transposes_S26x100000x16_S26x16x100000_0_2_1)
    ((step0_keeps _ d main_arg2 (by decide) (by decide)).trans (B1_keeps d main_arg2 m (by decide) (by decide) (by decide)))

theorem vals_t1 (t : Fin cfg1.N) (v : Fin 100352) :
    ((vals m).t1 d : S1304576.Idx → F .f32) (ix1 ⟨t.val * 100352 + v.val, by have := lt1 t; omega⟩)
      = rowTimes (row1 (grid1.coords t) (tabOf (inW1 m d) (inW2 m d)))
          (plane (transpose S26x16x100000 [0, 2, 1] (inEmb m d) transposes_S26x100000x16_S26x16x100000_0_2_1) ⟨t.val, by have := lt1 t; omega⟩) (ix1 v) := by
  rw [← B3_weights, ← B3_tables]
  exact (congrFun (step2_keeps (B4 m) d main_v6 (by decide)) _).trans (table1_at (B3 m) d t v)

theorem vals_t2 (t : Fin cfg2.N) (v : Fin 100352) :
    ((vals m).t2 d : S1304576.Idx → F .f32) (ix1 ⟨t.val * 100352 + v.val, by have := lt2 t; omega⟩)
      = rowTimes (row2 (grid2.coords t) (tabOf (inW1 m d) (inW2 m d)))
          (plane (transpose S26x16x100000 [0, 2, 1] (inEmb m d) transposes_S26x100000x16_S26x16x100000_0_2_1) ⟨13 + t.val, by have := lt2 t; omega⟩) (ix1 v) := by
  rw [← B3_weights, ← B3_tables, ← step1_keeps (B3 m) d main_v3_1 (by decide), ← step1_keeps (B3 m) d main_v4 (by decide)]
  exact table2_at (B4 m) d t v

theorem B7_v10 (x : Fin 16384) (z : Fin 1) :
    (B7 m d (Proc.devRef .tc main_v10) : S16384x1.Idx → F .f32) (ix2 x z) = ((vals m).out2 d : S16384.Idx → F .f32) (ix1 x) := by
  rw [← B6_v9]
  refine (congrFun (StableHlo.reshape_result _ _ _ _ _ _ _) _).trans ?_
  exact shapeCast_apply (s := S16384) (t := S16384x1) _ _ _ (ix1 x) (by
    simp only [Shape.rowMajor_val_one, Shape.rowMajor_val_two]; show x.val = x.val * 1 + z.val; omega)

end Steps

end Cert.Proof.Run
-- ==== Proof.Pure.lean ====
/-
  The equation between the two programs' sums, over the extended reals: the weights of the two layers multiplied first, and
  the features multiplied first. The features and the weights are real; the biases need not be.
-/
module

public import Mathlib.Data.EReal.Operations
public import Mathlib.Algebra.BigOperators.Fin
public import Mathlib.Tactic.Abel

@[expose] public section

noncomputable section

namespace Cert.Proof.Pure

open Finset

theorem cast_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real multiplier distributes over a real and any other. -/
theorem add_mul_real (r w : ℝ) (b : EReal) : ((r : EReal) + b) * w = r * w + b * w := by
  induction b using EReal.rec with
  | coe b => rw [← EReal.coe_add, ← EReal.coe_mul, ← EReal.coe_mul, ← EReal.coe_mul, ← EReal.coe_add, add_mul]
  | top =>
    rw [EReal.coe_add_top, ← EReal.coe_mul]
    rcases lt_trichotomy w 0 with h | rfl | h
    · rw [EReal.top_mul_coe_of_neg h, EReal.add_bot]
    · simp
    · rw [EReal.top_mul_coe_of_pos h, EReal.coe_add_top]
  | bot =>
    rw [EReal.add_bot, ← EReal.coe_mul]
    rcases lt_trichotomy w 0 with h | rfl | h
    · rw [EReal.bot_mul_coe_of_neg h, EReal.coe_add_top]
    · simp
    · rw [EReal.bot_mul_coe_of_pos h, EReal.add_bot]

variable {K H : ℕ}

/-- The sums over the features and over the hidden units exchanged. -/
theorem exchange (f : Fin K → ℝ) (W1 : Fin K → Fin H → ℝ) (W2 : Fin H → ℝ) :
    ∑ h, (∑ k, (f k : EReal) * (W1 k h : EReal)) * (W2 h : EReal) = ∑ k, (∑ h, (W1 k h : EReal) * (W2 h : EReal)) * (f k : EReal) := by
  simp only [← EReal.coe_mul, ← cast_sum]
  congr 1
  simp only [Finset.sum_mul]
  rw [Finset.sum_comm]
  exact Finset.sum_congr rfl fun k _ => Finset.sum_congr rfl fun h _ => by ring

/-- Two layers, and the layers' product with the biases' part apart. -/
theorem layers (f : Fin K → EReal) (W1 : Fin K → Fin H → EReal) (W2 b1 : Fin H → EReal) (b2 : EReal)
    (hf : ∀ k, ∃ r : ℝ, f k = r) (h1 : ∀ k h, ∃ r : ℝ, W1 k h = r) (h2 : ∀ h, ∃ r : ℝ, W2 h = r) :
    (∑ h, ((∑ k, f k * W1 k h) + b1 h) * W2 h) + b2 = (∑ k, (∑ h, W1 k h * W2 h) * f k) + ((∑ h, b1 h * W2 h) + b2) := by
  choose f' hf using hf
  choose W1' h1 using h1
  choose W2' h2 using h2
  simp only [hf, h1, h2]
  rw [← exchange, ← add_assoc, ← Finset.sum_add_distrib]
  refine congrArg (· + b2) (Finset.sum_congr rfl fun h _ => ?_)
  simp only [← EReal.coe_mul, ← cast_sum]
  exact add_mul_real _ _ _

/-- The sum over all the features: the numerical ones, then the tables', thirteen and thirteen. -/
theorem split (g : Fin 429 → EReal) :
    ∑ k, g k = (∑ k : Fin 13, g ⟨k, by omega⟩)
      + ((∑ j : Fin 13, ∑ e : Fin 16, g ⟨13 + (16 * j + e), by omega⟩) + ∑ j : Fin 13, ∑ e : Fin 16, g ⟨13 + (16 * (13 + j) + e), by omega⟩) := by
  have e1 : ∑ k, g k = (∑ k : Fin 13, g ⟨k, by omega⟩) + ∑ i : Fin 416, g ⟨13 + i, by omega⟩ := Fin.sum_univ_add (a := 13) (b := 416) g
  have e2 : ∑ i : Fin 416, g ⟨13 + i, by omega⟩ = ∑ j : Fin 26, ∑ e : Fin 16, g ⟨13 + (16 * j + e), by omega⟩ := by
    rw [← Equiv.sum_comp (finProdFinEquiv (m := 26) (n := 16)) (fun i : Fin 416 => g ⟨13 + i, by omega⟩), Fintype.sum_prod_type]
    refine Finset.sum_congr rfl fun j _ => Finset.sum_congr rfl fun e _ => congrArg g (Fin.ext ?_)
    show 13 + (e.val + 16 * j.val) = 13 + (16 * j.val + e.val)
    omega
  rw [e1, e2]
  exact congrArg (_ + ·) (Fin.sum_univ_add (a := 13) (b := 13) (fun j : Fin 26 => ∑ e : Fin 16, g ⟨13 + (16 * j + e), by omega⟩))

end Cert.Proof.Pure
-- ==== Proof.Value.lean ====
/-
  The program's result at coordinates, over the extended reals, where every index is in range.
-/
module

public import proofs.«01_k».proof.Proof.Steps
public import proofs.«01_k».proof.Proof.Pure

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

open Idealize.ShloMosaic.ValueIdx

/-- The thirteen words' sum. -/
theorem tree13_sum (f : ℕ → EReal) : tree13 (F := Ideal) f = ∑ j : Fin 13, f j := by
  simp only [Fin.sum_univ_succ, Fin.sum_univ_zero, add_zero]
  show (((f 0 + f 1) + (f 2 + f 3)) + ((f 4 + f 5) + (f 6 + f 7))) + (((f 8 + f 9) + (f 10 + f 11)) + f 12) = _
  simp only [Fin.val_zero, Fin.val_succ, Nat.zero_add, Nat.reduceAdd]
  abel

/-- The entry of a table that an index of row `j` of its part names. -/
theorem tblIx_at (w : BitVec 32) (hw : w.toNat < 100000) (j : Fin 13) :
    tblIx (w + BitVec.ofNat 32 (100352 * min j.val 12)) = ix1 ⟨j.val * 100352 + (⟨w.toNat, by omega⟩ : Fin 100352).val, by show _ + w.toNat < _; omega⟩ := by
  have hj := j.isLt
  have e : (w + BitVec.ofNat 32 (100352 * j.val)).toNat = w.toNat + 100352 * j.val := by
    rw [BitVec.toNat_add, BitVec.toNat_ofNat, Nat.mod_eq_of_lt (a := 100352 * j.val) (by omega), Nat.mod_eq_of_lt (by omega)]
  rw [Nat.min_eq_left (by omega)]
  funext a
  match a with
  | ⟨0, _⟩ =>
    refine Fin.ext ?_
    show (w + BitVec.ofNat 32 (100352 * j.val)).toNat % 1304576 = j.val * 100352 + w.toNat
    rw [e, Nat.mod_eq_of_lt (by omega)]
    omega

section Value

variable (m : (ℓ : Loc nD τ sig) → Buf (Elt Ideal) ℓ) (d : Dev nD) (hr : ∀ i, (inCat (F := Ideal) m d i).toNat < 100000)

/-- The row of table `j` that row `x` names, at `e`. -/
def pick (x : Fin 16384) (j : Fin 26) (e : Fin 16) : EReal := inEmb (F := Ideal) m d (ix3 j (⟨(inCat (F := Ideal) m d (ix2 x j)).toNat, hr _⟩ : Fin 100000) e)

/-- The product of the layers at feature `k`. -/
abbrev wt (k : Fin 429) : EReal := wgt (inW1 (F := Ideal) m d) (inW2 (F := Ideal) m d) k

/-- The index that row `x` has in column `r₀ + j`. -/
def indexOf (r₀ : ℕ) (hr₀ : r₀ ≤ 13) (j : ℕ) (x : Fin 16384) : BitVec 32 := ((vals m).ix d : S26x16384.Idx → BitVec 32) (gIx r₀ hr₀ j (ix1 x))

theorem index_at (r₀ : ℕ) (hr₀ : r₀ ≤ 13) (j : Fin 13) (x : Fin 16384) :
    indexOf m d r₀ hr₀ j.val x = inCat (F := Ideal) m d (ix2 x (⟨r₀ + j.val, by omega⟩ : Fin 26)) := by
  unfold indexOf
  rw [vals_ix]
  refine transpose_apply _ _ _ _ _ fun b => ?_
  match b with
  | ⟨0, _⟩ => show r₀ + j.val = r₀ + min j.val 12; omega
  | ⟨1, _⟩ => rfl

theorem coords1 : ∀ t : Fin cfg1.N, (grid1.coords t 0).val = t.val := by decide +kernel
theorem coords2 : ∀ t : Fin cfg2.N, (grid2.coords t 0).val = t.val := by decide +kernel

/-- The word of the first table that row `x` takes from part `j`. -/
theorem word1 (x : Fin 16384) (j : Fin 13) :
    ((vals m).t1 d : S1304576.Idx → EReal) (tblIx (indexOf m d 0 (by omega) j.val x + BitVec.ofNat 32 (100352 * min j.val 12)))
      = ∑ e : Fin 16, wt m d ⟨13 + (16 * j.val + e), by omega⟩ * pick m d hr x ⟨j.val, by omega⟩ e := by
  rw [index_at, tblIx_at _ (hr _) j]
  have e0 : (⟨0 + j.val, by omega⟩ : Fin 26) = ⟨j.val, by omega⟩ := Fin.ext (Nat.zero_add _)
  rw [e0]
  refine (vals_t1 (F := Ideal) m d j _).trans ((rowTimes_at _ _ _ (hr _)).trans (Finset.sum_congr rfl fun e _ => ?_))
  rw [row1_at _ _ e ⟨j.val, by omega⟩ (coords1 j).symm, tabOf_at]
  refine congrArg (_ * ·) ?_
  exact transpose_apply _ _ _ _ _ (by intro b; match b with | ⟨0, _⟩ => rfl | ⟨1, _⟩ => rfl | ⟨2, _⟩ => rfl)

/-- The word of the second table that row `x` takes from part `j`. -/
theorem word2 (x : Fin 16384) (j : Fin 13) :
    ((vals m).t2 d : S1304576.Idx → EReal) (tblIx (indexOf m d 13 (by omega) j.val x + BitVec.ofNat 32 (100352 * min j.val 12)))
      = ∑ e : Fin 16, wt m d ⟨13 + (16 * (13 + j.val) + e), by omega⟩ * pick m d hr x ⟨13 + j.val, by omega⟩ e := by
  rw [index_at, tblIx_at _ (hr _) j]
  refine (vals_t2 (F := Ideal) m d j _).trans ((rowTimes_at _ _ _ (hr _)).trans (Finset.sum_congr rfl fun e _ => ?_))
  rw [row2_at _ _ e ⟨13 + j.val, by omega⟩ (congrArg (13 + ·) (coords2 j).symm), tabOf_at]
  refine congrArg (_ * ·) ?_
  exact transpose_apply _ _ _ _ _ (by intro b; match b with | ⟨0, _⟩ => rfl | ⟨1, _⟩ => rfl | ⟨2, _⟩ => rfl)

theorem base_at (x : Fin 16384) : ((vals m).b d : S16384.Idx → EReal) (ix1 x)
    = (∑ k : Fin 13, wt m d ⟨k, by omega⟩ * inNum (F := Ideal) m d (ix2 x k))
      + ((∑ h : Fin 16, inB1 (F := Ideal) m d (ix1 h) * inW2 (F := Ideal) m d (ix2 h (0 : Fin 1))) + inB2 (F := Ideal) m d (ix1 (0 : Fin 1))) := by
  rw [vals_b, baseOf_at]
  refine congrArg₂ (· + ·) (Finset.sum_congr rfl fun k _ => congrArg (_ * ·) ?_) (congrArg₂ (· + ·) (Finset.sum_congr rfl fun h _ => congrArg (· * _) ?_) ?_)
  · exact transpose_apply _ _ _ _ _ (by intro b; match b with | ⟨0, _⟩ => rfl | ⟨1, _⟩ => rfl)
  · exact shapeCast_apply _ _ _ _ (by simp only [Shape.rowMajor_val_one, Shape.rowMajor_val_two]; show h.val = 0 * 16 + h.val; omega)
  · exact shapeCast_apply _ _ _ _ (by simp only [Shape.rowMajor_val_one, Shape.rowMajor_val_two]; rfl)

/-- The program's result. -/
theorem final_at (x : Fin 16384) (z : Fin 1) : (B7 m d (Proc.devRef .tc main_v10) : S16384x1.Idx → EReal) (ix2 x z)
    = (∑ j : Fin 13, ∑ e : Fin 16, wt m d ⟨13 + (16 * (13 + j.val) + e), by omega⟩ * pick m d hr x ⟨13 + j.val, by omega⟩ e)
      + ((∑ j : Fin 13, ∑ e : Fin 16, wt m d ⟨13 + (16 * j.val + e), by omega⟩ * pick m d hr x ⟨j.val, by omega⟩ e)
        + ((∑ k : Fin 13, wt m d ⟨k, by omega⟩ * inNum (F := Ideal) m d (ix2 x k))
          + ((∑ h : Fin 16, inB1 (F := Ideal) m d (ix1 h) * inW2 (F := Ideal) m d (ix2 h (0 : Fin 1))) + inB2 (F := Ideal) m d (ix1 (0 : Fin 1))))) := by
  refine (B7_v10 (F := Ideal) m d x z).trans ?_
  refine congrArg₂ (· + ·) ((tree13_sum _).trans (Finset.sum_congr rfl fun j _ => word2 m d hr x j)) ?_
  exact congrArg₂ (· + ·) ((tree13_sum _).trans (Finset.sum_congr rfl fun j _ => word1 m d hr x j)) (base_at m d x)

end Value

end Cert.Proof.Run
-- ==== Proof.RefAt.lean ====
/-
  The reference's value at coordinates, over the extended reals, where every index is in range.
-/
module

public import proofs.«01_k».proof.Defs
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.ReduceAll
public import Idealize.ShloMosaic.Lib.Pipeline.Value

@[expose] public section

noncomputable section

namespace Cert.Proof.Ref

open Cert.ReferenceIdeal Cert.ReferenceIdeal.Gen
open Idealize.ShloMosaic Idealize.ShloMosaic.ValueIdx

variable (num : S16384x13.Idx → EReal) (cat : S16384x26.Idx → BitVec 32) (emb : S26x100000x16.Idx → EReal)
  (W1 : S429x16.Idx → EReal) (b1 : S16.Idx → EReal) (W2 : S16x1.Idx → EReal) (b2 : S1.Idx → EReal)

/-- The indices, one row a column of the tables, a negative one moved up by the tables' rows. -/
def places : IVec S26x16384x1 32 :=
  broadcastInDim S26x16384x1 ![0, 1] bcast_S26x16384_S26x16384x1_0_1 (transpose S26x16384 [1, 0]
    (select (cmpi .slt cat (broadcastInDim S16384x26 ![] bcast_S_S16384x26 (constantI S_ 32 0#32)))
      (addi cat (broadcastInDim S16384x26 ![] bcast_S_S16384x26 (constantI S_ 32 100000#32))) cat) transposes_S16384x26_S26x16384_1_0)

/-- Which of them name a row of a table. -/
def named : IVec S26x16384 1 :=
  Host.reduce IntOp.andi (andi (cmpi .sge (places cat) (broadcastInDim S26x16384x1 ![] bcast_S_S26x16384x1 (constantI S_ 32 0#32)))
    (cmpi .sle (places cat) (broadcastInDim S26x16384x1 ![0, 1, 2] bcast_S1x1x1_S26x16384x1_0_1_2 (broadcastInDim S1x1x1 ![2] bcast_S1_S1x1x1_2 (constantI S1 32 99999#32)))))
    (constantI S_ 1 1#1) reducesTo_S26x16384x1_S26x16384_d2 h_S_

/-- The rows taken from the tables. -/
def taken : S26x16384x16.Idx → EReal :=
  select (broadcastInDim S26x16384x16 ![0, 1] bcast_S26x16384_S26x16384x16_0_1 (named cat))
    (Host.gather gather_S26x100000x16_S26x16384x1_S26x16384x16_2_1_0_0_1_2_1116 emb (places cat))
    (broadcastInDim S26x16384x16 ![] bcast_S_S26x16384x16 (constant S_ .f32 0x7FC00000#32 : FVec Ideal S_ .f32))

/-- The features of a row: the numerical ones, then those of the tables. -/
def feats : S16384x429.Idx → EReal :=
  concatenate S16384x429 1 [⟨S16384x13, num⟩, ⟨S16384x416, shapeCast S16384x416 (transpose S16384x26x16 [1, 0, 2] (taken cat emb) transposes_S26x16384x16_S16384x26x16_1_0_2)
    shapeCasts_S16384x26x16_S16384x416⟩] concatenates_S16384x13_S16384x416_S16384x429_d1

/-- The reference's result. -/
def result : FVec Ideal S16384x1 .f32 :=
  addf (Host.dotGeneral (φ₁ := .f32) (φ₂ := .f32) dot_S16384x16_S16x1_S16384x1_1_0_0_1_n_n none
    (addf (Host.dotGeneral (φ₁ := .f32) (φ₂ := .f32) dot_S16384x429_S429x16_S16384x16_1_0_0_1_n_n none (feats num cat emb : FVec Ideal S16384x429 .f32) (W1 : FVec Ideal S429x16 .f32))
      (broadcastInDim S16384x16 ![0, 1] bcast_S1x16_S16384x16_0_1 (broadcastInDim S1x16 ![1] bcast_S16_S1x16_1 b1) : FVec Ideal S16384x16 .f32))
    (W2 : FVec Ideal S16x1 .f32))
    (broadcastInDim S16384x1 ![0, 1] bcast_S1x1_S16384x1_0_1 (broadcastInDim S1x1 ![1] bcast_S1_S1x1_1 b2) : FVec Ideal S16384x1 .f32)

/-- Feature `k` of row `x`. -/
def feat (x : Fin 16384) (k : Fin 429) : EReal := feats num cat emb (ix2 x k)

theorem result_at (x : Fin 16384) (z : Fin 1) :
    result num cat emb W1 b1 W2 b2 (ix2 x z)
      = (∑ h : Fin 16, ((∑ k : Fin 429, feat num cat emb x k * W1 (ix2 k h)) + b1 (ix1 h)) * W2 (ix2 h z)) + b2 (ix1 (0 : Fin 1)) := by
  unfold result
  refine congrArg₂ (· + ·) ?_ ?_
  · refine (StackMember.dotGeneral_plain_apply (φ₁ := .f32) (φ₂ := .f32) (m := 16384) (k := 16) (n := 1) none _ _ x z).trans ?_
    refine Finset.sum_congr rfl fun h _ => congrArg (· * _) ?_
    refine congrArg₂ (· + ·) ?_ ?_
    · exact StackMember.dotGeneral_plain_apply (φ₁ := .f32) (φ₂ := .f32) (m := 16384) (k := 429) (n := 16) none _ _ x h
    · rw [broadcastInDim_apply _ _ _ _ (ix2 (n0 := 1) (n1 := 16) 0 h) (by intro a; match a with | ⟨0, _⟩ => rfl | ⟨1, _⟩ => rfl),
        broadcastInDim_apply _ _ _ _ (ix1 h) (by intro a; match a with | ⟨0, _⟩ => rfl)]
  · rw [broadcastInDim_apply _ _ _ _ (ix2 (n0 := 1) (n1 := 1) 0 0) (by intro a; match a with | ⟨0, _⟩ => rfl | ⟨1, _⟩ => rfl),
        broadcastInDim_apply _ _ _ _ (ix1 (n := 1) 0) (by intro a; match a with | ⟨0, _⟩ => rfl)]

theorem feat_num (x : Fin 16384) (k : Fin 13) : feat num cat emb x ⟨k, by omega⟩ = num (ix2 x k) := by
  unfold feat feats
  exact concatenate_pair_apply_left (t := S16384x429) (s₁ := S16384x13) (s₂ := S16384x416) _ _ _ _ _ rfl (ix2 (n0 := 16384) (n1 := 13) x k) (by
    intro a; match a with | ⟨0, _⟩ => rfl | ⟨1, _⟩ => rfl)

theorem feat_tab (x : Fin 16384) (j : Fin 26) (e : Fin 16) :
    feat num cat emb x ⟨13 + (16 * j + e), by omega⟩ = taken cat emb (ix3 j x e) := by
  unfold feat feats
  rw [concatenate_pair_apply_right (t := S16384x429) (s₁ := S16384x13) (s₂ := S16384x416) _ _ _ _ _ rfl rfl (ix2 (n0 := 16384) (n1 := 416) x ⟨16 * j + e, by omega⟩) (by
      intro a h; match a, h with | ⟨0, _⟩, _ => rfl | ⟨1, _⟩, h => exact absurd rfl h) (by
      show 16 * j.val + e.val + 13 = 13 + (16 * j.val + e.val); omega),
    shapeCast_apply _ _ _ (ix3 (n0 := 16384) (n1 := 26) (n2 := 16) x j e) (by
      simp only [Shape.rowMajor_val_three, Shape.rowMajor_val_two]; show (x.val * 26 + j.val) * 16 + e.val = x.val * 416 + (16 * j.val + e.val); omega),
    transpose_apply _ _ _ _ (ix3 (n0 := 26) (n1 := 16384) (n2 := 16) j x e) (by
      intro b; match b with | ⟨0, _⟩ => rfl | ⟨1, _⟩ => rfl | ⟨2, _⟩ => rfl)]

theorem not_neg (w : BitVec 32) (h : w.toNat < 100000) : IntOp.cmpi .slt w 0#32 = 0#1 := by
  have e : w.toInt = w.toNat := by rw [BitVec.toInt_eq_toNat_cond, if_pos (by omega)]
  have z : (0#32 : BitVec 32).toInt = 0 := by decide
  simp only [IntOp.cmpi, BitVec.slt_eq_decide, e, z, decide_eq_false (show ¬ ((w.toNat : Int) < 0) by omega)]
  rfl

theorem within (w : BitVec 32) (h : w.toNat < 100000) : IntOp.andi (IntOp.cmpi .sge w 0#32) (IntOp.cmpi .sle w 99999#32) = 1#1 := by
  have e : w.toInt = w.toNat := by rw [BitVec.toInt_eq_toNat_cond, if_pos (by omega)]
  have z : (0#32 : BitVec 32).toInt = 0 := by decide
  have z' : (99999#32 : BitVec 32).toInt = 99999 := by decide
  simp only [IntOp.cmpi, BitVec.sle_eq_decide, e, z, z', decide_eq_true (show (0 : Int) ≤ (w.toNat : Int) by omega),
    decide_eq_true (show (w.toNat : Int) ≤ 99999 by omega)]
  rfl

theorem places_at (hr : ∀ i, (cat i).toNat < 100000) (j : Fin 26) (x : Fin 16384) (z : Fin 1) : places cat (ix3 j x z) = cat (ix2 x j) := by
  unfold places
  rw [broadcastInDim_apply _ _ _ _ (ix2 (n0 := 26) (n1 := 16384) j x) (by intro a; match a with | ⟨0, _⟩ => rfl | ⟨1, _⟩ => rfl),
    transpose_apply _ _ _ _ (ix2 (n0 := 16384) (n1 := 26) x j) (by intro b; match b with | ⟨0, _⟩ => rfl | ⟨1, _⟩ => rfl)]
  have e : cmpi .slt cat (broadcastInDim S16384x26 ![] bcast_S_S16384x26 (constantI S_ 32 0#32)) (ix2 x j) = 0#1 := not_neg _ (hr _)
  show (if cmpi .slt cat (broadcastInDim S16384x26 ![] bcast_S_S16384x26 (constantI S_ 32 0#32)) (ix2 x j) = 1#1 then _ else _) = _
  rw [e]
  rfl

theorem named_at (hr : ∀ i, (cat i).toNat < 100000) (i : S26x16384.Idx) : named cat i = 1#1 := by
  unfold named
  refine Host.reduce_andi_one _ _ _ _ _ rfl fun y => ?_
  have hy : places cat y = cat (ix2 (n0 := 16384) (n1 := 26) (y 1) (y 0)) := (congrArg (places cat) (eq_ix3 y)).trans (places_at cat hr _ _ _)
  show IntOp.andi (IntOp.cmpi .sge (places cat y) 0#32) (IntOp.cmpi .sle (places cat y) 99999#32) = 1#1
  rw [hy]
  exact within _ (hr _)

theorem gather_at (I : IVec S26x16384x1 32) (j : Fin 26) (x : Fin 16384) (e : Fin 16) (r : Fin 100000)
    (hr : (I (ix3 j x (0 : Fin 1))).toInt = r.val) :
    Host.gather gather_S26x100000x16_S26x16384x1_S26x16384x16_2_1_0_0_1_2_1116 emb I (ix3 j x e)
      = emb (ix3 j r e) := by
  unfold Host.gather
  refine congrArg emb (funext fun a => Fin.ext ?_)
  match a with
  | ⟨0, _⟩ =>
    show GatherDims.start _ (ix3 j x e) I 0 + GatherDims.batchCoord _ (ix3 j x e) 0 + GatherDims.offCoord _ (ix3 j x e) 0 = j.val
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    refine (dif_pos (List.mem_singleton.mpr rfl)).trans rfl
  | ⟨1, _⟩ =>
    show GatherDims.start _ (ix3 j x e) I 1 + GatherDims.batchCoord _ (ix3 j x e) 1 + GatherDims.offCoord _ (ix3 j x e) 1 = r.val
    rw [GatherDims.batchCoord_eq_zero _ _ _ (by decide),
      GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    refine (?_ : _ = min (I (ix3 j x (0 : Fin 1))).toInt.toNat 99999).trans (by rw [hr]; have := r.isLt; omega)
    refine congrArg (fun q => min (I q).toInt.toNat 99999) (funext fun b => Fin.ext ?_)
    match b with
    | ⟨0, _⟩ => rfl
    | ⟨1, _⟩ => rfl
    | ⟨2, _⟩ => rfl
  | ⟨2, _⟩ =>
    show GatherDims.start _ (ix3 j x e) I 2 + GatherDims.batchCoord _ (ix3 j x e) 2 + GatherDims.offCoord _ (ix3 j x e) 2 = e.val
    rw [GatherDims.batchCoord_eq_zero _ _ _ (by decide), Nat.add_zero]
    unfold GatherDims.start GatherDims.offCoord
    rw [dif_neg (by decide), Nat.zero_add, dif_pos ((GatherDims.mem_sKept _ _).mpr ⟨by decide, by decide⟩)]
    rfl

theorem select_one {α : Type} {s : Shape} (c : IVec s 1) (a b : s.Idx → α) (i : s.Idx) (h : c i = 1#1) : select c a b i = a i := by
  unfold select
  rw [h]
  rfl

theorem taken_at (hr : ∀ i, (cat i).toNat < 100000) (j : Fin 26) (x : Fin 16384) (e : Fin 16) :
    taken cat emb (ix3 j x e) = emb (ix3 j (⟨(cat (ix2 x j)).toNat, hr _⟩ : Fin 100000) e) := by
  unfold taken
  have e1 : broadcastInDim S26x16384x16 ![0, 1] bcast_S26x16384_S26x16384x16_0_1 (named cat) (ix3 j x e) = 1#1 :=
    (broadcastInDim_apply _ _ _ _ (ix2 (n0 := 26) (n1 := 16384) j x) (by intro a; match a with | ⟨0, _⟩ => rfl | ⟨1, _⟩ => rfl)).trans (named_at cat hr _)
  refine (select_one _ _ _ _ e1).trans (gather_at emb (places cat) j x e _ ?_)
  rw [places_at cat hr, BitVec.toInt_eq_toNat_cond, if_pos (by have := hr (ix2 x j); omega)]

end Cert.Proof.Ref
-- ==== Proof.Claims.lean ====
/-
  The value claim: over the extended reals, the program's result is the reference's.
-/
module

public import proofs.«01_k».proof.Proof.Frame
public import proofs.«01_k».proof.Proof.Value
public import proofs.«01_k».proof.Proof.RefAt

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

open Idealize.ShloMosaic.ValueIdx

/-- An element under infinity in absolute value is a real. -/
theorem real_of_bit (v : EReal) (h : FloatOps.cmpf (F := Ideal) (φ := .f32) .olt (FloatOps.hostAbsf (F := Ideal) (φ := .f32) v) (FloatOps.ofBits .f32 0x7F800000#32) = 1#1) :
    ∃ r : ℝ, v = r := by
  have hb : FloatOps.ofBits (F := Ideal) .f32 0x7F800000#32 = (⊤ : EReal) := by
    show Ideal.ofBits .f32 0x7F800000#32 = ⊤
    simp [Ideal.ofBits, Ideal.ieee]
  rw [hb] at h
  have h' : max v (-v) < (⊤ : EReal) := by
    by_contra hn
    have e : FloatOps.cmpf (F := Ideal) (φ := .f32) .olt (FloatOps.hostAbsf (F := Ideal) (φ := .f32) v) (⊤ : EReal) = BitVec.ofBool (decide (max v (-v) < ⊤)) := rfl
    rw [e, decide_eq_false hn] at h
    exact absurd h (by decide)
  induction v using EReal.rec with
  | coe r => exact ⟨r, rfl⟩
  | top => exact absurd h' (by simp)
  | bot => exact absurd h' (by simp)

section Claims

variable (m : (ℓ : Loc nD τ sig) → Buf (Elt Ideal) ℓ) (d : Dev nD)

/-- The two results, with every index in range and the features and the weights real. -/
theorem same (hr : ∀ i, (inCat (F := Ideal) m d i).toNat < 100000) (h0 : ∀ i, ∃ r : ℝ, inNum (F := Ideal) m d i = r) (h2 : ∀ i, ∃ r : ℝ, inEmb (F := Ideal) m d i = r)
    (h3 : ∀ i, ∃ r : ℝ, inW1 (F := Ideal) m d i = r) (h5 : ∀ i, ∃ r : ℝ, inW2 (F := Ideal) m d i = r) :
    (B7 m d (Proc.devRef .tc main_v10) : S16384x1.Idx → EReal)
      = Ref.result (inNum (F := Ideal) m d) (inCat (F := Ideal) m d) (inEmb (F := Ideal) m d) (inW1 (F := Ideal) m d) (inB1 (F := Ideal) m d) (inW2 (F := Ideal) m d)
          (inB2 (F := Ideal) m d) := by
  funext i
  obtain ⟨x, z, rfl⟩ : ∃ (x : Fin 16384) (z : Fin 1), i = ix2 x z := ⟨i 0, i 1, eq_ix2 i⟩
  have ft : ∀ (j : Fin 26) (e : Fin 16), Ref.feat (inNum (F := Ideal) m d) (inCat (F := Ideal) m d) (inEmb (F := Ideal) m d) x ⟨13 + (16 * j + e), by omega⟩ = pick m d hr x j e :=
    fun j e => (Ref.feat_tab _ _ _ x j e).trans (Ref.taken_at _ _ hr j x e)
  have hf : ∀ k, ∃ r : ℝ, Ref.feat (inNum (F := Ideal) m d) (inCat (F := Ideal) m d) (inEmb (F := Ideal) m d) x k = r := by
    intro k
    by_cases hk : k.val < 13
    · exact (h0 (ix2 x ⟨k.val, hk⟩)).imp fun r e => (Ref.feat_num _ _ _ x ⟨k.val, hk⟩).trans e
    · have hk' := k.isLt
      have e1 : k = ⟨13 + (16 * (⟨(k.val - 13) / 16, by omega⟩ : Fin 26).val + (⟨(k.val - 13) % 16, by omega⟩ : Fin 16).val), by
          show 13 + (16 * ((k.val - 13) / 16) + (k.val - 13) % 16) < 429; omega⟩ :=
        Fin.ext (show k.val = 13 + (16 * ((k.val - 13) / 16) + (k.val - 13) % 16) by omega)
      rw [e1, ft]
      exact h2 _
  rw [final_at m d hr, Ref.result_at, Subsingleton.elim z 0,
    Pure.layers _ (fun k h => inW1 (F := Ideal) m d (ix2 k h)) (fun h => inW2 (F := Ideal) m d (ix2 h (0 : Fin 1))) (fun h => inB1 (F := Ideal) m d (ix1 h)) _ hf
      (fun k h => h3 _) (fun h => h5 _), Pure.split]
  simp only [Ref.feat_num, ft]
  have fs : ∀ j : Fin 13, ∀ e : Fin 16, Ref.feat (inNum (F := Ideal) m d) (inCat (F := Ideal) m d) (inEmb (F := Ideal) m d) x ⟨13 + (16 * j.val + e), by omega⟩
      = pick m d hr x ⟨j.val, by omega⟩ e := fun j e => ft ⟨j.val, by omega⟩ e
  have fs' : ∀ j : Fin 13, ∀ e : Fin 16, Ref.feat (inNum (F := Ideal) m d) (inCat (F := Ideal) m d) (inEmb (F := Ideal) m d) x ⟨13 + (16 * (13 + j.val) + e), by omega⟩
      = pick m d hr x ⟨13 + j.val, by omega⟩ e := fun j e => ft ⟨13 + j.val, by omega⟩ e
  simp only [fs, fs', wt, wgt]
  abel

theorem frame_finite [Cert.Pre_in_vocab_finite.Facts] : Cert.quiescent_KernelIdeal_pre_in_vocab_finite := fun m g hpre =>
  frame_of_ok (F := Ideal) m g (ok_of_range m fun d i => (bits_of_finite _ _ _ _ _ _ _ (hpre d)).1 i)

theorem algebraic [Cert.Pre_in_vocab_finite.Facts] : Cert.algebraic_KernelIdeal_ReferenceIdeal_pre_in_vocab_finite := by
  intro m g m' g' hpre hm
  have hb := fun d => bits_of_finite _ _ _ _ _ _ _ (hpre d)
  refine ⟨fun c => B7 m c (Proc.devRef .tc main_v10), ?_, ?_⟩
  · exact (θ_run Cert.KernelIdeal.defs _ _).mono (fun _ h c => ⟨h.1 c (Proc.devRef .tc main_v10) (by decide), args_of_QC m h c⟩) (run_main m g (ok_of_range m fun d i => (hb d).1 i))
  · refine (θ_run Cert.ReferenceIdeal.defs _ _).mono (fun r h c => ⟨?_, (h c).2⟩) (Cert.ReferenceIdeal.Value.run (F := Ideal) m' g')
    obtain ⟨e0, e1, e2, e3, e4, e5, e6⟩ := hm c
    refine (h c).1.trans ?_
    rw [e0, e1, e2, e3, e4, e5, e6]
    exact (same m c (hb c).1 (fun i => real_of_bit _ ((hb c).2.1 i)) (fun i => real_of_bit _ ((hb c).2.2.1 i)) (fun i => real_of_bit _ ((hb c).2.2.2.1 i))
      (fun i => real_of_bit _ ((hb c).2.2.2.2 i))).symm

end Claims

end Cert.Proof.Run
-- ==== Proof.lean ====
/-
  The proof of the certificate's claims: the frames of the program as printed, of the idealized one and of the
  reference, that idealizing changes nothing, and that the idealized program's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Gen.Pre_in_vocab_finite
public import proofs.«01_k».proof.Proof.Frame
public import proofs.«01_k».proof.Proof.Ref
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_vocab.Gen.facts, Cert.Pre_in_vocab_finite.Gen.facts,
  Run.frame_bits, Run.frame_ideal, Run.frame_finite, Ref.frame, Ref.frame_finite, trivial, Run.algebraic⟩

end Cert.Proof

end
